-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_1)) (v1 : (c : Dev Cert.KernelIdeal.nD) → Buf (Elt Ideal) ((c.tc : Thread Cert.KernelIdeal.nD Cert.KernelIdeal.τ).loc Cert.KernelIdeal.main_v7_2)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v6_3)) (v5 : (c : Dev Cert.KernelIdeal.nD) → Buf (Elt Ideal) ((c.tc : Thread Cert.KernelIdeal.nD Cert.KernelIdeal.τ).loc Cert.KernelIdeal.main_c)) (v6 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7_1) = v0 c
          ∧ r.2.mem ((c.tc : Thread Cert.KernelIdeal.nD Cert.KernelIdeal.τ).loc Cert.KernelIdeal.main_v7_2) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v6_3) = v4 c
          ∧ r.2.mem ((c.tc : Thread Cert.KernelIdeal.nD Cert.KernelIdeal.τ).loc Cert.KernelIdeal.main_c) = v5 c
          ∧ r.2.mem ((c.tc : Thread Cert.KernelIdeal.nD Cert.KernelIdeal.τ).loc Cert.KernelIdeal.main_v6_2) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_c) = v5 c
          ∧ r.2.mem ((c.tc : Thread Cert.ReferenceIdeal.nD Cert.ReferenceIdeal.τ).loc Cert.ReferenceIdeal.main_v29) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x2048 : Shape := ⟨3, ![4, 2048, 2048]⟩
abbrev S4x16x2048x128 : Shape := ⟨4, ![4, 16, 2048, 128]⟩
abbrev S4x2048 : Shape := ⟨2, ![4, 2048]⟩
abbrev S1000x2048 : Shape := ⟨2, ![1000, 2048]⟩
abbrev S1000 : Shape := ⟨1, ![1000]⟩
abbrev S_ : Shape := ⟨0, ![]⟩
abbrev S4x16x1x128 : Shape := ⟨4, ![4, 16, 1, 128]⟩
abbrev S4x16x128 : Shape := ⟨3, ![4, 16, 128]⟩
abbrev S1x1000 : Shape := ⟨2, ![1, 1000]⟩
abbrev S4x16x8x128 : Shape := ⟨4, ![4, 16, 8, 128]⟩
abbrev S64x8x128 : Shape := ⟨3, ![64, 8, 128]⟩
abbrev S4x10x2048 : Shape := ⟨3, ![4, 10, 2048]⟩
abbrev S64x16x128 : Shape := ⟨3, ![64, 16, 128]⟩
abbrev S4x2058 : Shape := ⟨2, ![4, 2058]⟩
abbrev S4 : Shape := ⟨1, ![4]⟩
abbrev S4x1 : Shape := ⟨2, ![4, 1]⟩
abbrev S1000x1 : Shape := ⟨2, ![1000, 1]⟩
abbrev S4x1000 : Shape := ⟨2, ![4, 1000]⟩
abbrev S4x1x2048 : Shape := ⟨3, ![4, 1, 2048]⟩
abbrev S64x128 : Shape := ⟨2, ![64, 128]⟩
abbrev S64x1x128 : Shape := ⟨3, ![64, 1, 128]⟩
abbrev S64x6x128 : Shape := ⟨3, ![64, 6, 128]⟩
abbrev S4x10 : Shape := ⟨2, ![4, 10]⟩
abbrev S4x16x2058x128 : Shape := ⟨4, ![4, 16, 2058, 128]⟩
abbrev S16x128 : Shape := ⟨2, ![16, 128]⟩
abbrev S136x128 : Shape := ⟨2, ![136, 128]⟩
abbrev S16x2048 : Shape := ⟨2, ![16, 2048]⟩
abbrev S1x16x128 : Shape := ⟨3, ![1, 16, 128]⟩
abbrev S1x1x2058x128 : Shape := ⟨4, ![1, 1, 2058, 128]⟩
abbrev S2058x128 : Shape := ⟨2, ![2058, 128]⟩
abbrev S1x1x2048x128 : Shape := ⟨4, ![1, 1, 2048, 128]⟩
abbrev S2048x128 : Shape := ⟨2, ![2048, 128]⟩
abbrev S128x128 : Shape := ⟨2, ![128, 128]⟩
abbrev S120x128 : Shape := ⟨2, ![120, 128]⟩
abbrev S1x1x128x128 : Shape := ⟨4, ![1, 1, 128, 128]⟩
abbrev S1x16x2048 : Shape := ⟨3, ![1, 16, 2048]⟩
abbrev S1x1x2x128 : Shape := ⟨4, ![1, 1, 2, 128]⟩
abbrev S2x128 : Shape := ⟨2, ![2, 128]⟩
abbrev S1x10x128 : Shape := ⟨3, ![1, 10, 128]⟩
abbrev S10x128 : Shape := ⟨2, ![10, 128]⟩
abbrev S1x1x10x128 : Shape := ⟨4, ![1, 1, 10, 128]⟩

abbrev nBuf : Table → Nat
  | .hbm => 26
  | .local .tc .vmem => 16
  | .local .scVector .vmem => 5
  | _ => 0

abbrev bufTy : (tb : Table) → Fin (nBuf tb) → BufTy
  | .hbm, ⟨0, _⟩ => ⟨S4x2048x2048, .f32⟩
  | .hbm, ⟨1, _⟩ => ⟨S4x16x2048x128, .f32⟩
  | .hbm, ⟨2, _⟩ => ⟨S4x16x2048x128, .f32⟩
  | .hbm, ⟨3, _⟩ => ⟨S4x16x2048x128, .f32⟩
  | .hbm, ⟨4, _⟩ => ⟨S4x2048, .f32⟩
  | .hbm, ⟨5, _⟩ => ⟨S1000x2048, .f32⟩
  | .hbm, ⟨6, _⟩ => ⟨S1000x2048, .f32⟩
  | .hbm, ⟨7, _⟩ => ⟨S1000, .f32⟩
  | .hbm, ⟨8, _⟩ => ⟨S_, .i32⟩
  | .hbm, ⟨9, _⟩ => ⟨S4x16x1x128, .f32⟩
  | .hbm, ⟨10, _⟩ => ⟨S4x16x128, .f32⟩
  | .hbm, ⟨11, _⟩ => ⟨S4x2048, .f32⟩
  | .hbm, ⟨12, _⟩ => ⟨S1x1000, .f32⟩
  | .hbm, ⟨13, _⟩ => ⟨S4x16x8x128, .f32⟩
  | .hbm, ⟨14, _⟩ => ⟨S64x8x128, .f32⟩
  | .hbm, ⟨15, _⟩ => ⟨S4x10x2048, .f32⟩
  | .hbm, ⟨16, _⟩ => ⟨S64x16x128, .f32⟩
  | .hbm, ⟨17, _⟩ => ⟨S4x2058, .f32⟩
  | .hbm, ⟨18, _⟩ => ⟨S4x2058, .f32⟩
  | .hbm, ⟨19, _⟩ => ⟨S4x16x2058x128, .f32⟩
  | .hbm, ⟨20, _⟩ => ⟨S4x2048x2048, .f32⟩
  | .hbm, ⟨21, _⟩ => ⟨S4x16x2048x128, .f32⟩
  | .hbm, ⟨22, _⟩ => ⟨S4x16x8x128, .f32⟩
  | .hbm, ⟨23, _⟩ => ⟨S4x16x2058x128, .f32⟩
  | .hbm, ⟨24, _⟩ => ⟨S4x16x2058x128, .f32⟩
  | .hbm, ⟨25, _⟩ => ⟨S_, .i32⟩
  | .local .tc .vmem, ⟨0, _⟩ => ⟨S4x2048, .f32⟩
  | .local .tc .vmem, ⟨1, _⟩ => ⟨S1000x2048, .f32⟩
  | .local .tc .vmem, ⟨2, _⟩ => ⟨S1000x2048, .f32⟩
  | .local .tc .vmem, ⟨3, _⟩ => ⟨S1x1000, .f32⟩
  | .local .tc .vmem, ⟨4, _⟩ => ⟨S4x2048, .f32⟩
  | .local .tc .vmem, ⟨5, _⟩ => ⟨S64x8x128, .f32⟩
  | .local .tc .vmem, ⟨6, _⟩ => ⟨S4x10x2048, .f32⟩
  | .local .tc .vmem, ⟨7, _⟩ => ⟨S64x16x128, .f32⟩
  | .local .tc .vmem, ⟨8, _⟩ => ⟨S4x2058, .f32⟩
  | .local .tc .vmem, ⟨9, _⟩ => ⟨S4x2058, .f32⟩
  | .local .tc .vmem, ⟨10, _⟩ => ⟨S1x10x128, .f32⟩
  | .local .tc .vmem, ⟨11, _⟩ => ⟨S1x10x128, .f32⟩
  | .local .tc .vmem, ⟨12, _⟩ => ⟨S1x1x2048x128, .f32⟩
  | .local .tc .vmem, ⟨13, _⟩ => ⟨S1x1x2048x128, .f32⟩
  | .local .tc .vmem, ⟨14, _⟩ => ⟨S1x1x2058x128, .f32⟩
  | .local .tc .vmem, ⟨15, _⟩ => ⟨S1x1x2058x128, .f32⟩
  | .local .scVector .vmem, ⟨0, _⟩ => ⟨S16x128, .f32⟩
  | .local .scVector .vmem, ⟨1, _⟩ => ⟨S136x128, .f32⟩
  | .local .scVector .vmem, ⟨2, _⟩ => ⟨S136x128, .f32⟩
  | .local .scVector .vmem, ⟨3, _⟩ => ⟨S16x2048, .f32⟩
  | .local .scVector .vmem, ⟨4, _⟩ => ⟨S16x2048, .f32⟩
  | _, _ => ⟨S4x2048x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTables nBuf rfl bufTy 4 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_arg3_scv : Ref sig .scVector := ⟨.hbm, 3, rfl⟩
abbrev main_v6_1_scv : Ref sig .scVector := ⟨.hbm, 16, rfl⟩
abbrev main_arg0_scv : Ref sig .scVector := ⟨.hbm, 0, rfl⟩
abbrev main_arg1_scv : Ref sig .scVector := ⟨.hbm, 1, rfl⟩
abbrev main_v7_0_scv : Ref sig .scVector := ⟨.hbm, 19, rfl⟩
abbrev main_v7_1_scv : Ref sig .scVector := ⟨.hbm, 20, rfl⟩
abbrev main_v7_2_scv : Ref sig .scVector := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc3_stg0_0 : Ref sig .tc := ⟨.vmem, 10, rfl⟩
abbrev cc3_stg0_1 : Ref sig .tc := ⟨.vmem, 11, rfl⟩
abbrev cc3_stg1_0 : Ref sig .tc := ⟨.vmem, 12, rfl⟩
abbrev cc3_stg1_1 : Ref sig .tc := ⟨.vmem, 13, rfl⟩
abbrev cc3_stg2_0 : Ref sig .tc := ⟨.vmem, 14, rfl⟩
abbrev cc3_stg2_1 : Ref sig .tc := ⟨.vmem, 15, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1000x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1000x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x10x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x2058 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x2058 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨2, ![2, 16], ![false, false]⟩

def k1_off1 (i : grid1.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_2480_r0 : BitVec 32 := 0#32
  let c0_i32_2481_r0 : BitVec 32 := 0#32
  ![v3.toNat, 0, 0]
def k1_off2 (i : grid1.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c16_i32 : BitVec 32 := 16#32
  let c0_i32_3 : BitVec 32 := 0#32
  let v10 : BitVec 1 := Scalar.cmpi .sgt c16_i32 c0_i32_3
  let v11 : BitVec 32 := Scalar.extui v10
  let c0_i32_4 : BitVec 32 := 0#32
  let v12 : BitVec 1 := Scalar.cmpi .slt c16_i32 c0_i32_4
  let v13 : BitVec 32 := Scalar.extui v12
  let v14 : BitVec 32 := Scalar.subi v11 v13
  let v15 : BitVec 1 := Scalar.cmpi .ne v9 v14
  let v16 : BitVec 32 := Scalar.remsi v3 c16_i32
  let c0_i32_5 : BitVec 32 := 0#32
  let v17 : BitVec 1 := Scalar.cmpi .ne v16 c0_i32_5
  let v18 : BitVec 1 := Scalar.andi v15 v17
  let v4 : BitVec 32 := Scalar.divsi v3 c16_i32
  let c1_i32 : BitVec 32 := 1#32
  let v19 : BitVec 32 := Scalar.subi v4 c1_i32
  let v20 : BitVec 32 := Scalar.select v18 v19 v4
  let c16_i32_6 : BitVec 32 := 16#32
  let v21 : BitVec 32 := Scalar.muli v20 c16_i32_6
  let v22 : BitVec 32 := Scalar.subi v3 v21
  let c0_i32_2480_r1 : BitVec 32 := 0#32
  let c0_i32_2481_r1 : BitVec 32 := 0#32
  ![v20.toNat, v22.toNat, 0, 0]
def k1_off3 (i : grid1.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c16_i32 : BitVec 32 := 16#32
  let c0_i32_3 : BitVec 32 := 0#32
  let v10 : BitVec 1 := Scalar.cmpi .sgt c16_i32 c0_i32_3
  let v11 : BitVec 32 := Scalar.extui v10
  let c0_i32_4 : BitVec 32 := 0#32
  let v12 : BitVec 1 := Scalar.cmpi .slt c16_i32 c0_i32_4
  let v13 : BitVec 32 := Scalar.extui v12
  let v14 : BitVec 32 := Scalar.subi v11 v13
  let v15 : BitVec 1 := Scalar.cmpi .ne v9 v14
  let v16 : BitVec 32 := Scalar.remsi v3 c16_i32
  let c0_i32_5 : BitVec 32 := 0#32
  let v17 : BitVec 1 := Scalar.cmpi .ne v16 c0_i32_5
  let v18 : BitVec 1 := Scalar.andi v15 v17
  let v4 : BitVec 32 := Scalar.divsi v3 c16_i32
  let c1_i32 : BitVec 32 := 1#32
  let v19 : BitVec 32 := Scalar.subi v4 c1_i32
  let v20 : BitVec 32 := Scalar.select v18 v19 v4
  let c16_i32_6 : BitVec 32 := 16#32
  let v21 : BitVec 32 := Scalar.muli v20 c16_i32_6
  let v22 : BitVec 32 := Scalar.subi v3 v21
  let c0_i32_7 : BitVec 32 := 0#32
  let c0_i32_8 : BitVec 32 := 0#32
  ![v20.toNat, v22.toNat, 0, 0]
def k1_off4 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c0_i32_1292 : BitVec 32 := 0#32
  let c0_i32_1293 : BitVec 32 := 0#32
  ![v964.toNat, v966.toNat, 0, 0]
def k1_off5 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c128_i32_1300 : BitVec 32 := 128#32
  let c0_i32_1301 : BitVec 32 := 0#32
  ![v964.toNat, v966.toNat, 128, 0]
def k1_off6 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c256_i32_1332 : BitVec 32 := 256#32
  let c0_i32_1333 : BitVec 32 := 0#32
  ![v964.toNat, v966.toNat, 256, 0]
def k1_off7 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c384_i32_1364 : BitVec 32 := 384#32
  let c0_i32_1365 : BitVec 32 := 0#32
  ![v964.toNat, v966.toNat, 384, 0]
def k1_off8 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c512_i32_1396 : BitVec 32 := 512#32
  let c0_i32_1397 : BitVec 32 := 0#32
  ![v964.toNat, v966.toNat, 512, 0]
def k1_off9 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c640_i32_1428 : BitVec 32 := 640#32
  let c0_i32_1429 : BitVec 32 := 0#32
  ![v964.toNat, v966.toNat, 640, 0]
def k1_off10 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c768_i32_1460 : BitVec 32 := 768#32
  let c0_i32_1461 : BitVec 32 := 0#32
  ![v964.toNat, v966.toNat, 768, 0]
def k1_off11 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c896_i32_1492 : BitVec 32 := 896#32
  let c0_i32_1493 : BitVec 32 := 0#32
  ![v964.toNat, v966.toNat, 896, 0]
def k1_off12 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c1024_i32_1524 : BitVec 32 := 1024#32
  let c0_i32_1525 : BitVec 32 := 0#32
  ![v964.toNat, v966.toNat, 1024, 0]
def k1_off13 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c1152_i32_1556 : BitVec 32 := 1152#32
  let c0_i32_1557 : BitVec 32 := 0#32
  ![v964.toNat, v966.toNat, 1152, 0]
def k1_off14 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c1280_i32_1588 : BitVec 32 := 1280#32
  let c0_i32_1589 : BitVec 32 := 0#32
  ![v964.toNat, v966.toNat, 1280, 0]
def k1_off15 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c1408_i32_1620 : BitVec 32 := 1408#32
  let c0_i32_1621 : BitVec 32 := 0#32
  ![v964.toNat, v966.toNat, 1408, 0]
def k1_off16 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c1536_i32_1652 : BitVec 32 := 1536#32
  let c0_i32_1653 : BitVec 32 := 0#32
  ![v964.toNat, v966.toNat, 1536, 0]
def k1_off17 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c1664_i32_1684 : BitVec 32 := 1664#32
  let c0_i32_1685 : BitVec 32 := 0#32
  ![v964.toNat, v966.toNat, 1664, 0]
def k1_off18 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c1792_i32_1716 : BitVec 32 := 1792#32
  let c0_i32_1717 : BitVec 32 := 0#32
  ![v964.toNat, v966.toNat, 1792, 0]
def k1_off19 (i : grid1.Coords) (c0_i32_1281 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v947 : BitVec 32 := Scalar.addi v2 c0_i32_1281
  let c0_i32_1283 : BitVec 32 := 0#32
  let v949 : BitVec 1 := Scalar.cmpi .sgt v947 c0_i32_1283
  let v950 : BitVec 32 := Scalar.extui v949
  let c0_i32_1284 : BitVec 32 := 0#32
  let v951 : BitVec 1 := Scalar.cmpi .slt v947 c0_i32_1284
  let v952 : BitVec 32 := Scalar.extui v951
  let v953 : BitVec 32 := Scalar.subi v950 v952
  let c16_i32_1282 : BitVec 32 := 16#32
  let c0_i32_1285 : BitVec 32 := 0#32
  let v954 : BitVec 1 := Scalar.cmpi .sgt c16_i32_1282 c0_i32_1285
  let v955 : BitVec 32 := Scalar.extui v954
  let c0_i32_1286 : BitVec 32 := 0#32
  let v956 : BitVec 1 := Scalar.cmpi .slt c16_i32_1282 c0_i32_1286
  let v957 : BitVec 32 := Scalar.extui v956
  let v958 : BitVec 32 := Scalar.subi v955 v957
  let v959 : BitVec 1 := Scalar.cmpi .ne v953 v958
  let v960 : BitVec 32 := Scalar.remsi v947 c16_i32_1282
  let c0_i32_1287 : BitVec 32 := 0#32
  let v961 : BitVec 1 := Scalar.cmpi .ne v960 c0_i32_1287
  let v962 : BitVec 1 := Scalar.andi v959 v961
  let v948 : BitVec 32 := Scalar.divsi v947 c16_i32_1282
  let c1_i32_1288 : BitVec 32 := 1#32
  let v963 : BitVec 32 := Scalar.subi v948 c1_i32_1288
  let v964 : BitVec 32 := Scalar.select v962 v963 v948
  let c16_i32_1289 : BitVec 32 := 16#32
  let v965 : BitVec 32 := Scalar.muli v964 c16_i32_1289
  let v966 : BitVec 32 := Scalar.subi v947 v965
  let c1920_i32_1748 : BitVec 32 := 1920#32
  let c0_i32_1749 : BitVec 32 := 0#32
  ![v964.toNat, v966.toNat, 1920, 0]
def k1_off20 (i : grid1.Coords) (c0_i32_2332 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_2323 : BitVec 32 := 256#32
  let v1755 : BitVec 32 := Scalar.muli v1 c256_i32_2323
  let c0_i32_2324 : BitVec 32 := 0#32
  let v1757 : BitVec 1 := Scalar.cmpi .sgt v1755 c0_i32_2324
  let v1758 : BitVec 32 := Scalar.extui v1757
  let c0_i32_2325 : BitVec 32 := 0#32
  let v1759 : BitVec 1 := Scalar.cmpi .slt v1755 c0_i32_2325
  let v1760 : BitVec 32 := Scalar.extui v1759
  let v1761 : BitVec 32 := Scalar.subi v1758 v1760
  let c2048_i32 : BitVec 32 := 2048#32
  let c0_i32_2326 : BitVec 32 := 0#32
  let v1762 : BitVec 1 := Scalar.cmpi .sgt c2048_i32 c0_i32_2326
  let v1763 : BitVec 32 := Scalar.extui v1762
  let c0_i32_2327 : BitVec 32 := 0#32
  let v1764 : BitVec 1 := Scalar.cmpi .slt c2048_i32 c0_i32_2327
  let v1765 : BitVec 32 := Scalar.extui v1764
  let v1766 : BitVec 32 := Scalar.subi v1763 v1765
  let v1767 : BitVec 1 := Scalar.cmpi .ne v1761 v1766
  let v1768 : BitVec 32 := Scalar.remsi v1755 c2048_i32
  let c0_i32_2328 : BitVec 32 := 0#32
  let v1769 : BitVec 1 := Scalar.cmpi .ne v1768 c0_i32_2328
  let v1770 : BitVec 1 := Scalar.andi v1767 v1769
  let v1756 : BitVec 32 := Scalar.divsi v1755 c2048_i32
  let c1_i32_2329 : BitVec 32 := 1#32
  let v1771 : BitVec 32 := Scalar.subi v1756 c1_i32_2329
  let v1772 : BitVec 32 := Scalar.select v1770 v1771 v1756
  let c256_i32_2330 : BitVec 32 := 256#32
  let v1773 : BitVec 32 := Scalar.muli v1 c256_i32_2330
  let c2048_i32_2331 : BitVec 32 := 2048#32
  let v1774 : BitVec 32 := Scalar.muli v1772 c2048_i32_2331
  let v1775 : BitVec 32 := Scalar.subi v1773 v1774
  let v1776 : BitVec 32 := Scalar.addi v1775 c0_i32_2332
  let c0_i32_2333 : BitVec 32 := 0#32
  ![v1772.toNat, v1776.toNat, 0]
abbrev grid2 : Pipeline.Grid := .none

abbrev grid3 : Pipeline.Grid := ⟨2, ![16, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage3_0 : Fin 2 → Memref sig .tc .vmem S1x10x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1x2058x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048x2048 : Shape := ⟨3, ![4, 2048, 2048]⟩
abbrev S4x16x2048x128 : Shape := ⟨4, ![4, 16, 2048, 128]⟩
abbrev S4x2048 : Shape := ⟨2, ![4, 2048]⟩
abbrev S1000x2048 : Shape := ⟨2, ![1000, 2048]⟩
abbrev S1000 : Shape := ⟨1, ![1000]⟩
abbrev S_ : Shape := ⟨0, ![]⟩
abbrev S2048 : Shape := ⟨1, ![2048]⟩
abbrev S1x2048 : Shape := ⟨2, ![1, 2048]⟩
abbrev S4x16x1x128 : Shape := ⟨4, ![4, 16, 1, 128]⟩
abbrev S4x16x128 : Shape := ⟨3, ![4, 16, 128]⟩
abbrev S4 : Shape := ⟨1, ![4]⟩
abbrev S4x1 : Shape := ⟨2, ![4, 1]⟩
abbrev S1000x1 : Shape := ⟨2, ![1000, 1]⟩
abbrev S2048x1000 : Shape := ⟨2, ![2048, 1000]⟩
abbrev S4x1000 : Shape := ⟨2, ![4, 1000]⟩
abbrev S4x10 : Shape := ⟨2, ![4, 10]⟩
abbrev S4x10x1 : Shape := ⟨3, ![4, 10, 1]⟩
abbrev S1 : Shape := ⟨1, ![1]⟩
abbrev S1x1x1 : Shape := ⟨3, ![1, 1, 1]⟩
abbrev S4x10x2048 : Shape := ⟨3, ![4, 10, 2048]⟩
abbrev S4x10x16x128 : Shape := ⟨4, ![4, 10, 16, 128]⟩
abbrev S4x16x10x128 : Shape := ⟨4, ![4, 16, 10, 128]⟩
abbrev S4x16x2058x128 : Shape := ⟨4, ![4, 16, 2058, 128]⟩
abbrev S4x2058 : Shape := ⟨2, ![4, 2058]⟩

abbrev nBuf : Space → Nat
  | .hbm => 118
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x16x2048x128, .f32⟩
  | .hbm, ⟨2, _⟩ => ⟨S4x16x2048x128, .f32⟩
  | .hbm, ⟨3, _⟩ => ⟨S4x16x2048x128, .f32⟩
  | .hbm, ⟨4, _⟩ => ⟨S4x2048, .f32⟩
  | .hbm, ⟨5, _⟩ => ⟨S1000x2048, .f32⟩
  | .hbm, ⟨6, _⟩ => ⟨S1000x2048, .f32⟩
  | .hbm, ⟨7, _⟩ => ⟨S1000, .f32⟩
  | .hbm, ⟨8, _⟩ => ⟨S_, .i32⟩
  | .hbm, ⟨9, _⟩ => ⟨S2048, .f32⟩
  | .hbm, ⟨10, _⟩ => ⟨S1x2048, .f32⟩
  | .hbm, ⟨11, _⟩ => ⟨S4x2048, .f32⟩
  | .hbm, ⟨12, _⟩ => ⟨S4x16x1x128, .f32⟩
  | .hbm, ⟨13, _⟩ => ⟨S4x16x128, .f32⟩
  | .hbm, ⟨14, _⟩ => ⟨S4x2048, .f32⟩
  | .hbm, ⟨15, _⟩ => ⟨S4x2048, .f32⟩
  | .hbm, ⟨16, _⟩ => ⟨S_, .f32⟩
  | .hbm, ⟨17, _⟩ => ⟨S4, .f32⟩
  | .hbm, ⟨18, _⟩ => ⟨S4x1, .f32⟩
  | .hbm, ⟨19, _⟩ => ⟨S4x1, .f32⟩
  | .hbm, ⟨20, _⟩ => ⟨S_, .f32⟩
  | .hbm, ⟨21, _⟩ => ⟨S4x1, .f32⟩
  | .hbm, ⟨22, _⟩ => ⟨S4x1, .f32⟩
  | .hbm, ⟨23, _⟩ => ⟨S4x2048, .f32⟩
  | .hbm, ⟨24, _⟩ => ⟨S4x2048, .f32⟩
  | .hbm, ⟨25, _⟩ => ⟨S1000x2048, .f32⟩
  | .hbm, ⟨26, _⟩ => ⟨S_, .f32⟩
  | .hbm, ⟨27, _⟩ => ⟨S1000, .f32⟩
  | .hbm, ⟨28, _⟩ => ⟨S1000x1, .f32⟩
  | .hbm, ⟨29, _⟩ => ⟨S1000x1, .f32⟩
  | .hbm, ⟨30, _⟩ => ⟨S_, .f32⟩
  | .hbm, ⟨31, _⟩ => ⟨S1000x1, .f32⟩
  | .hbm, ⟨32, _⟩ => ⟨S1000x1, .f32⟩
  | .hbm, ⟨33, _⟩ => ⟨S1000x2048, .f32⟩
  | .hbm, ⟨34, _⟩ => ⟨S1000x2048, .f32⟩
  | .hbm, ⟨35, _⟩ => ⟨S2048x1000, .f32⟩
  | .hbm, ⟨36, _⟩ => ⟨S4x1000, .f32⟩
  | .hbm, ⟨37, _⟩ => ⟨S4x10, .f32⟩
  | .hbm, ⟨38, _⟩ => ⟨S4x10, .i32⟩
  | .hbm, ⟨39, _⟩ => ⟨S_, .i32⟩
  | .hbm, ⟨40, _⟩ => ⟨S4x10, .i32⟩
  | .hbm, ⟨41, _⟩ => ⟨S4x10, .i1⟩
  | .hbm, ⟨42, _⟩ => ⟨S_, .i32⟩
  | .hbm, ⟨43, _⟩ => ⟨S4x10, .i32⟩
  | .hbm, ⟨44, _⟩ => ⟨S4x10, .i32⟩
  | .hbm, ⟨45, _⟩ => ⟨S4x10, .i32⟩
  | .hbm, ⟨46, _⟩ => ⟨S4x10x1, .i32⟩
  | .hbm, ⟨47, _⟩ => ⟨S1, .i32⟩
  | .hbm, ⟨48, _⟩ => ⟨S_, .i32⟩
  | .hbm, ⟨49, _⟩ => ⟨S4x10x1, .i32⟩
  | .hbm, ⟨50, _⟩ => ⟨S4x10x1, .i1⟩
  | .hbm, ⟨51, _⟩ => ⟨S1x1x1, .i32⟩
  | .hbm, ⟨52, _⟩ => ⟨S4x10x1, .i32⟩
  | .hbm, ⟨53, _⟩ => ⟨S4x10x1, .i1⟩
  | .hbm, ⟨54, _⟩ => ⟨S4x10x1, .i1⟩
  | .hbm, ⟨55, _⟩ => ⟨S_, .i1⟩
  | .hbm, ⟨56, _⟩ => ⟨S4x10, .i1⟩
  | .hbm, ⟨57, _⟩ => ⟨S4x10x2048, .f32⟩
  | .hbm, ⟨58, _⟩ => ⟨S4x10x2048, .i1⟩
  | .hbm, ⟨59, _⟩ => ⟨S_, .f32⟩
  | .hbm, ⟨60, _⟩ => ⟨S4x10x2048, .f32⟩
  | .hbm, ⟨61, _⟩ => ⟨S4x10x2048, .f32⟩
  | .hbm, ⟨62, _⟩ => ⟨S_, .i32⟩
  | .hbm, ⟨63, _⟩ => ⟨S4x10, .i32⟩
  | .hbm, ⟨64, _⟩ => ⟨S4x10, .i1⟩
  | .hbm, ⟨65, _⟩ => ⟨S_, .i32⟩
  | .hbm, ⟨66, _⟩ => ⟨S4x10, .i32⟩
  | .hbm, ⟨67, _⟩ => ⟨S4x10, .i32⟩
  | .hbm, ⟨68, _⟩ => ⟨S4x10, .i32⟩
  | .hbm, ⟨69, _⟩ => ⟨S4x10x1, .i32⟩
  | .hbm, ⟨70, _⟩ => ⟨S1, .i32⟩
  | .hbm, ⟨71, _⟩ => ⟨S_, .i32⟩
  | .hbm, ⟨72, _⟩ => ⟨S4x10x1, .i32⟩
  | .hbm, ⟨73, _⟩ => ⟨S4x10x1, .i1⟩
  | .hbm, ⟨74, _⟩ => ⟨S1x1x1, .i32⟩
  | .hbm, ⟨75, _⟩ => ⟨S4x10x1, .i32⟩
  | .hbm, ⟨76, _⟩ => ⟨S4x10x1, .i1⟩
  | .hbm, ⟨77, _⟩ => ⟨S4x10x1, .i1⟩
  | .hbm, ⟨78, _⟩ => ⟨S_, .i1⟩
  | .hbm, ⟨79, _⟩ => ⟨S4x10, .i1⟩
  | .hbm, ⟨80, _⟩ => ⟨S4x10x2048, .f32⟩
  | .hbm, ⟨81, _⟩ => ⟨S4x10x2048, .i1⟩
  | .hbm, ⟨82, _⟩ => ⟨S_, .f32⟩
  | .hbm, ⟨83, _⟩ => ⟨S4x10x2048, .f32⟩
  | .hbm, ⟨84, _⟩ => ⟨S4x10x2048, .f32⟩
  | .hbm, ⟨85, _⟩ => ⟨S_, .i32⟩
  | .hbm, ⟨86, _⟩ => ⟨S4x10, .i32⟩
  | .hbm, ⟨87, _⟩ => ⟨S4x10, .i1⟩
  | .hbm, ⟨88, _⟩ => ⟨S_, .i32⟩
  | .hbm, ⟨89, _⟩ => ⟨S4x10, .i32⟩
  | .hbm, ⟨90, _⟩ => ⟨S4x10, .i32⟩
  | .hbm, ⟨91, _⟩ => ⟨S4x10, .i32⟩
  | .hbm, ⟨92, _⟩ => ⟨S4x10x1, .i32⟩
  | .hbm, ⟨93, _⟩ => ⟨S1, .i32⟩
  | .hbm, ⟨94, _⟩ => ⟨S_, .i32⟩
  | .hbm, ⟨95, _⟩ => ⟨S4x10x1, .i32⟩
  | .hbm, ⟨96, _⟩ => ⟨S4x10x1, .i1⟩
  | .hbm, ⟨97, _⟩ => ⟨S1x1x1, .i32⟩
  | .hbm, ⟨98, _⟩ => ⟨S4x10x1, .i32⟩
  | .hbm, ⟨99, _⟩ => ⟨S4x10x1, .i1⟩
  | .hbm, ⟨100, _⟩ => ⟨S4x10x1, .i1⟩
  | .hbm, ⟨101, _⟩ => ⟨S_, .i1⟩
  | .hbm, ⟨102, _⟩ => ⟨S4x10, .i1⟩
  | .hbm, ⟨103, _⟩ => ⟨S4x10, .f32⟩
  | .hbm, ⟨104, _⟩ => ⟨S_, .f32⟩
  | .hbm, ⟨105, _⟩ => ⟨S4x10, .f32⟩
  | .hbm, ⟨106, _⟩ => ⟨S4x10, .f32⟩
  | .hbm, ⟨107, _⟩ => ⟨S4x10x16x128, .f32⟩
  | .hbm, ⟨108, _⟩ => ⟨S4x16x10x128, .f32⟩
  | .hbm, ⟨109, _⟩ => ⟨S4x10x16x128, .f32⟩
  | .hbm, ⟨110, _⟩ => ⟨S4x16x10x128, .f32⟩
  | .hbm, ⟨111, _⟩ => ⟨S4x16x2058x128, .f32⟩
  | .hbm, ⟨112, _⟩ => ⟨S4x16x2058x128, .f32⟩
  | .hbm, ⟨113, _⟩ => ⟨S_, .f32⟩
  | .hbm, ⟨114, _⟩ => ⟨S4x10, .f32⟩
  | .hbm, ⟨115, _⟩ => ⟨S4x2058, .f32⟩
  | .hbm, ⟨116, _⟩ => ⟨S4x2058, .f32⟩
  | .hbm, ⟨117, _⟩ => ⟨S_, .i32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_values : Ref sig .tc := ⟨.hbm, 37, rfl⟩
abbrev main_indices : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_c_2 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_3 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_call2_cst : Ref sig .tc := ⟨.hbm, 59, rfl⟩
abbrev main_call2_v15 : Ref sig .tc := ⟨.hbm, 60, rfl⟩
abbrev main_v18 : Ref sig .tc := ⟨.hbm, 61, rfl⟩
abbrev main_call3_c : Ref sig .tc := ⟨.hbm, 62, rfl⟩
abbrev main_call3_v0 : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_c_1 : Ref sig .tc := ⟨.hbm, 70, rfl⟩
abbrev main_call3_c_2 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_3 : Ref sig .tc := ⟨.hbm, 78, rfl⟩
abbrev main_call3_v12 : Ref sig .tc := ⟨.hbm, 79, rfl⟩
abbrev main_call3_v13 : Ref sig .tc := ⟨.hbm, 80, rfl⟩
abbrev main_call3_v14 : Ref sig .tc := ⟨.hbm, 81, rfl⟩
abbrev main_call3_cst : Ref sig .tc := ⟨.hbm, 82, rfl⟩
abbrev main_call3_v15 : Ref sig .tc := ⟨.hbm, 83, rfl⟩
abbrev main_v19 : Ref sig .tc := ⟨.hbm, 84, rfl⟩
abbrev main_call4_c : Ref sig .tc := ⟨.hbm, 85, rfl⟩
abbrev main_call4_v0 : Ref sig .tc := ⟨.hbm, 86, rfl⟩
abbrev main_call4_v1 : Ref sig .tc := ⟨.hbm, 87, rfl⟩
abbrev main_call4_c_0 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_v5 : Ref sig .tc := ⟨.hbm, 92, rfl⟩
abbrev main_call4_c_1 : Ref sig .tc := ⟨.hbm, 93, rfl⟩
abbrev main_call4_c_2 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_c_3 : Ref sig .tc := ⟨.hbm, 101, rfl⟩
abbrev main_call4_v12 : Ref sig .tc := ⟨.hbm, 102, rfl⟩
abbrev main_call4_v13 : Ref sig .tc := ⟨.hbm, 103, rfl⟩
abbrev main_call4_cst : Ref sig .tc := ⟨.hbm, 104, rfl⟩
abbrev main_call4_v14 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_cst_1 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c : Ref sig .tc := ⟨.hbm, 117, rfl⟩

abbrev nD : Nat := 1
abbrev τ : Topo := Topo.v7x

variable {F : FTy → Type} [FloatOps F]
-- ==== Proof.TileProgram.lean ====
/-
  The SparseCore kernel's body as a list of effects. A tile owns two of the 64 (batch, head) rows; for each it copies
  the row's head block into the augmented values' first sixteen positions and streams the values after it through two
  buffers, then streams two rows of the queries and 256 rows of the inputs. Every stream is one RING: sixteen chunks
  read into two buffers in turn and written out from them. The printed body, a straight line of 328 memory operations,
  is this list by unfolding both.
-/
module

public import proofs.«01_k».proof.Defs
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic Idealize.SL.Sem

/-- The processor a tile's task runs on. -/
abbrev tileProc (i : grid1.Coords) : Proc τ := .scVector ((i 0).castLE hcore1) ((i 1).castLE hsub1)

/-- One copy of the kernel: between two memrefs of one shape, counted on a DMA semaphore. -/
structure Copy where
  /-- where the copy reads -/
  sp : Space
  /-- where it writes -/
  sp' : Space
  /-- the shape of both ends -/
  sh : Shape
  /-- the memref read -/
  src : Memref sig .scVector sp sh .f32
  /-- the memref written -/
  dst : Memref sig .scVector sp' sh .f32
  /-- the semaphore its completion counts on -/
  sem : DmaSem sig
  /-- the source is whole words -/
  hsrc : src.view.WordExact
  /-- so is the destination -/
  hdst : dst.view.WordExact
  /-- the semaphore fits the spaces -/
  hsem : ∀ i : grid1.Coords, DmaTarget.Typed (nD := nD) (p := tileProc i) sp (.dma sem) (.here dst)

variable {F : FTy → Type} [FloatOps F]

/-- The effects of the tile's program at coordinates `i`. -/
abbrev TileEff (F : FTy → Type) (i : grid1.Coords) : Type → Type := TpuEff nD τ sig (Elt F) Λ₀ (tileProc i)

/-- Issue the copy. -/
def Copy.start (F : FTy → Type) (i : grid1.Coords) (c : Copy) : Prog (TileEff F i) PUnit :=
  Prog.lift (.enqueueDma c.src (.here c.dst) (.dma c.sem) c.hsrc c.hdst (c.hsem i))

/-- Wait for it. -/
def Copy.wait (F : FTy → Type) (i : grid1.Coords) (c : Copy) : Prog (TileEff F i) PUnit :=
  Prog.lift (.waitDma2 c.sem c.src c.dst c.hsrc c.hdst)

/-- Effects one after the other. -/
def seqOps {i : grid1.Coords} : List (Prog (TileEff F i) PUnit) → Prog (TileEff F i) PUnit
  | [] => pure ⟨⟩
  | p :: ps => p >>= fun _ => seqOps ps

/-- A copy issued and waited for at once. -/
def syncOps (F : FTy → Type) (i : grid1.Coords) (c : Copy) : List (Prog (TileEff F i) PUnit) := [c.start F i, c.wait F i]

/-- A ring of `n + 2` chunks through two buffers: the reads run one chunk ahead of the writes, and a buffer is read
    into again once its write has landed. -/
def ringOps (F : FTy → Type) (i : grid1.Coords) (R W : Nat → Copy) (n : Nat) : List (Prog (TileEff F i) PUnit) :=
  [(R 0).start F i, (R 1).start F i, (R 0).wait F i, (W 0).start F i]
    ++ (List.range n).flatMap (fun c => [(W c).wait F i, (R (c + 2)).start F i, (R (c + 1)).wait F i, (W (c + 1)).start F i])
    ++ [(R (n + 1)).wait F i, (W (n + 1)).start F i, (W n).wait F i, (W (n + 1)).wait F i]

/-! ## The operands -/

/-- the values -/
abbrev vM : Memref sig .scVector .hbm S4x16x2048x128 .f32 := Memref.whole main_arg3_scv
/-- the rows' head blocks -/
abbrev hM : Memref sig .scVector .hbm S64x16x128 .f32 := Memref.whole main_v6_1_scv
/-- the inputs -/
abbrev xM : Memref sig .scVector .hbm S4x2048x2048 .f32 := Memref.whole main_arg0_scv
/-- the queries -/
abbrev qM : Memref sig .scVector .hbm S4x16x2048x128 .f32 := Memref.whole main_arg1_scv
/-- the augmented values -/
abbrev ovM : Memref sig .scVector .hbm S4x16x2058x128 .f32 := Memref.whole main_v7_0_scv
/-- the inputs' copy -/
abbrev oxM : Memref sig .scVector .hbm S4x2048x2048 .f32 := Memref.whole main_v7_1_scv
/-- the queries' copy -/
abbrev oqM : Memref sig .scVector .hbm S4x16x2048x128 .f32 := Memref.whole main_v7_2_scv
/-- the head block's buffer -/
abbrev hB : Memref sig .scVector .vmem S16x128 .f32 := Memref.whole cc1_scratch0
/-- the two buffers of the values and the queries -/
abbrev rB0 : Memref sig .scVector .vmem S136x128 .f32 := Memref.whole cc1_scratch1
abbrev rB1 : Memref sig .scVector .vmem S136x128 .f32 := Memref.whole cc1_scratch2
/-- the two buffers of the inputs -/
abbrev xB0 : Memref sig .scVector .vmem S16x2048 .f32 := Memref.whole cc1_scratch3
abbrev xB1 : Memref sig .scVector .vmem S16x2048 .f32 := Memref.whole cc1_scratch4

/-! ## The copies -/

/-- Row `r` of the tile, as the program's word. -/
abbrev rowW (r : Fin 2) : BitVec 32 := BitVec.ofNat 32 r.val

/-- The head block of row `r`. -/
abbrev hbRow (i : grid1.Coords) (r : Fin 2) : Memref sig .scVector .hbm S16x128 .f32 :=
  (hM.slice (Rect.unit (s := S64x16x128) (k1_off1 i (rowW r)) S1x16x128.size (k1_off1_inb i r)) (fun _ => rfl)).squeeze S16x128 squeezes_S1x16x128_S16x128

/-- Row `r` of the augmented values. -/
abbrev ovRow (i : grid1.Coords) (r : Fin 2) : Memref sig .scVector .hbm S2058x128 .f32 :=
  (ovM.slice (Rect.unit (s := S4x16x2058x128) (k1_off2 i (rowW r)) S1x1x2058x128.size (k1_off2_inb i r)) (fun _ => rfl)).squeeze S2058x128 squeezes_S1x1x2058x128_S2058x128

/-- Row `r` of the values. -/
abbrev vRow (i : grid1.Coords) (r : Fin 2) : Memref sig .scVector .hbm S2048x128 .f32 :=
  (vM.slice (Rect.unit (s := S4x16x2048x128) (k1_off3 i (rowW r)) S1x1x2048x128.size (k1_off3_inb i r)) (fun _ => rfl)).squeeze S2048x128 squeezes_S1x1x2048x128_S2048x128

/-- A run of `n` positions of a `[m, 128]` memref from position `o` on. -/
abbrev posSlice {sp : Space} {m : Nat} (mr : Memref sig .scVector sp ⟨2, ![m, 128]⟩ .f32) (o n : Nat) (h : o + n ≤ m) :
    Memref sig .scVector sp ⟨2, ![n, 128]⟩ .f32 :=
  mr.slice (Rect.unit (s := ⟨2, ![m, 128]⟩) ![o, 0] ![n, 128] (Fin.forall_fin_two.mpr ⟨h, le_refl _⟩)) (fun _ => rfl)

/-- The head block into the tile's buffer. -/
def hIn (i : grid1.Coords) (r : Fin 2) (sem : DmaSem sig) : Copy :=
  ⟨_, _, _, hbRow i r, hB, sem, (View.wordExact_bits rfl).reshape _ _, (Memref.isWhole_whole _).wordExact, fun _ => ⟨Or.inl rfl, trivial⟩⟩

/-- and out of it to the first sixteen positions of the augmented values' row. -/
def hOut (i : grid1.Coords) (r : Fin 2) (sem : DmaSem sig) : Copy :=
  ⟨_, _, _, hB, posSlice (ovRow i r) 0 16 (by norm_num), sem, (Memref.isWhole_whole _).wordExact, View.wordExact_bits rfl,
    fun _ => ⟨Or.inl rfl, trivial⟩⟩

/-- Chunk `c` of the values' row into a buffer: 136 positions from `128 c` on; the last chunk, on semaphores of its
    own, has the 128 that are left. -/
def vIn (i : grid1.Coords) (r : Fin 2) (c : Nat) : Copy :=
  if h : c < 15 then
    match c % 2 with
    | 0 => ⟨_, _, _, posSlice (vRow i r) (128 * c) 136 (by omega), rB0, cc1_scratch5.sem, View.wordExact_bits rfl,
        (Memref.isWhole_whole _).wordExact, fun _ => ⟨Or.inl rfl, trivial⟩⟩
    | _ => ⟨_, _, _, posSlice (vRow i r) (128 * c) 136 (by omega), rB1, cc1_scratch6.sem, View.wordExact_bits rfl,
        (Memref.isWhole_whole _).wordExact, fun _ => ⟨Or.inl rfl, trivial⟩⟩
  else
    ⟨_, _, _, posSlice (vRow i r) 1920 128 (by norm_num), posSlice rB1 0 128 (by norm_num), cc1_scratch17.sem,
      View.wordExact_bits rfl, View.wordExact_bits rfl, fun _ => ⟨Or.inl rfl, trivial⟩⟩

/-- Chunk `c` out of its buffer, six positions in: 128 positions, of the last chunk the 120 that the row has. -/
def vOut (i : grid1.Coords) (r : Fin 2) (c : Nat) : Copy :=
  if h : c < 15 then
    match c % 2 with
    | 0 => ⟨_, _, _, posSlice rB0 6 128 (by norm_num), posSlice (ovRow i r) (16 + 128 * c) 128 (by omega), cc1_scratch7.sem,
        View.wordExact_bits rfl, View.wordExact_bits rfl, fun _ => ⟨Or.inl rfl, trivial⟩⟩
    | _ => ⟨_, _, _, posSlice rB1 6 128 (by norm_num), posSlice (ovRow i r) (16 + 128 * c) 128 (by omega), cc1_scratch8.sem,
        View.wordExact_bits rfl, View.wordExact_bits rfl, fun _ => ⟨Or.inl rfl, trivial⟩⟩
  else
    ⟨_, _, _, posSlice rB1 6 120 (by norm_num), posSlice (ovRow i r) 1936 120 (by norm_num), cc1_scratch18.sem,
      View.wordExact_bits rfl, View.wordExact_bits rfl, fun _ => ⟨Or.inl rfl, trivial⟩⟩

/-- Where chunk `c` of the queries' row `r` starts, as the program writes it. -/
def qOff (i : grid1.Coords) (r : Fin 2) : Nat → Fin 4 → Nat
  | 0 => k1_off4 i (rowW r) | 1 => k1_off5 i (rowW r) | 2 => k1_off6 i (rowW r) | 3 => k1_off7 i (rowW r)
  | 4 => k1_off8 i (rowW r) | 5 => k1_off9 i (rowW r) | 6 => k1_off10 i (rowW r) | 7 => k1_off11 i (rowW r)
  | 8 => k1_off12 i (rowW r) | 9 => k1_off13 i (rowW r) | 10 => k1_off14 i (rowW r) | 11 => k1_off15 i (rowW r)
  | 12 => k1_off16 i (rowW r) | 13 => k1_off17 i (rowW r) | 14 => k1_off18 i (rowW r) | _ => k1_off19 i (rowW r)

theorem qOff_inb (i : grid1.Coords) (r : Fin 2) : ∀ c a, qOff i r c a + S1x1x128x128.size a ≤ S4x16x2048x128.size a
  | 0 => k1_off4_inb i r | 1 => k1_off5_inb i r | 2 => k1_off6_inb i r | 3 => k1_off7_inb i r
  | 4 => k1_off8_inb i r | 5 => k1_off9_inb i r | 6 => k1_off10_inb i r | 7 => k1_off11_inb i r
  | 8 => k1_off12_inb i r | 9 => k1_off13_inb i r | 10 => k1_off14_inb i r | 11 => k1_off15_inb i r
  | 12 => k1_off16_inb i r | 13 => k1_off17_inb i r | 14 => k1_off18_inb i r | _ + 15 => k1_off19_inb i r

/-- Chunk `c` of row `r` of the queries, or of their copy. -/
abbrev qChunk (m : Memref sig .scVector .hbm S4x16x2048x128 .f32) (i : grid1.Coords) (r : Fin 2) (c : Nat) :
    Memref sig .scVector .hbm S128x128 .f32 :=
  (m.slice (Rect.unit (s := S4x16x2048x128) (qOff i r c) S1x1x128x128.size (qOff_inb i r c)) (fun _ => rfl)).squeeze S128x128 squeezes_S1x1x128x128_S128x128

/-- Chunk `c` of the queries into a buffer, -/
def qIn (i : grid1.Coords) (r : Fin 2) (c : Nat) : Copy :=
  match c % 2 with
  | 0 => ⟨_, _, _, qChunk qM i r c, posSlice rB0 0 128 (by norm_num), cc1_scratch9.sem,
      (View.wordExact_bits rfl).reshape _ _, View.wordExact_bits rfl, fun _ => ⟨Or.inl rfl, trivial⟩⟩
  | _ => ⟨_, _, _, qChunk qM i r c, posSlice rB1 0 128 (by norm_num), cc1_scratch10.sem,
      (View.wordExact_bits rfl).reshape _ _, View.wordExact_bits rfl, fun _ => ⟨Or.inl rfl, trivial⟩⟩

/-- and out of it. -/
def qOut (i : grid1.Coords) (r : Fin 2) (c : Nat) : Copy :=
  match c % 2 with
  | 0 => ⟨_, _, _, posSlice rB0 0 128 (by norm_num), qChunk oqM i r c, cc1_scratch11.sem,
      View.wordExact_bits rfl, (View.wordExact_bits rfl).reshape _ _, fun _ => ⟨Or.inl rfl, trivial⟩⟩
  | _ => ⟨_, _, _, posSlice rB1 0 128 (by norm_num), qChunk oqM i r c, cc1_scratch12.sem,
      View.wordExact_bits rfl, (View.wordExact_bits rfl).reshape _ _, fun _ => ⟨Or.inl rfl, trivial⟩⟩

/-- Chunk `c` of the tile's rows of the inputs, or of their copy: sixteen rows. -/
abbrev xChunk (m : Memref sig .scVector .hbm S4x2048x2048 .f32) (i : grid1.Coords) (c : Nat) :
    Memref sig .scVector .hbm S16x2048 .f32 :=
  (m.slice (Rect.unit (s := S4x2048x2048) (k1_off20 i (BitVec.ofNat 32 (16 * (c % 16)))) S1x16x2048.size
    (k1_off20_inb i ⟨c % 16, Nat.mod_lt _ (by norm_num)⟩)) (fun _ => rfl)).squeeze S16x2048 squeezes_S1x16x2048_S16x2048

/-- Chunk `c` of the inputs into a buffer, -/
def xIn (i : grid1.Coords) (c : Nat) : Copy :=
  match c % 2 with
  | 0 => ⟨_, _, _, xChunk xM i c, xB0, cc1_scratch13.sem,
      (View.wordExact_bits rfl).reshape _ _, (Memref.isWhole_whole _).wordExact, fun _ => ⟨Or.inl rfl, trivial⟩⟩
  | _ => ⟨_, _, _, xChunk xM i c, xB1, cc1_scratch14.sem,
      (View.wordExact_bits rfl).reshape _ _, (Memref.isWhole_whole _).wordExact, fun _ => ⟨Or.inl rfl, trivial⟩⟩

/-- and out of it. -/
def xOut (i : grid1.Coords) (c : Nat) : Copy :=
  match c % 2 with
  | 0 => ⟨_, _, _, xB0, xChunk oxM i c, cc1_scratch15.sem,
      (Memref.isWhole_whole _).wordExact, (View.wordExact_bits rfl).reshape _ _, fun _ => ⟨Or.inl rfl, trivial⟩⟩
  | _ => ⟨_, _, _, xB1, xChunk oxM i c, cc1_scratch16.sem,
      (Memref.isWhole_whole _).wordExact, (View.wordExact_bits rfl).reshape _ _, fun _ => ⟨Or.inl rfl, trivial⟩⟩

/-- One row of the augmented values. -/
def rowOps (F : FTy → Type) (i : grid1.Coords) (r : Fin 2) (s₀ s₁ : DmaSem sig) : List (Prog (TileEff F i) PUnit) :=
  syncOps F i (hIn i r s₀) ++ syncOps F i (hOut i r s₁) ++ ringOps F i (vIn i r) (vOut i r) 14

/-- The tile's whole task. -/
def bodyOps (F : FTy → Type) (i : grid1.Coords) : List (Prog (TileEff F i) PUnit) :=
  rowOps F i 0 cc1_scoped0.sem cc1_scoped1.sem ++ rowOps F i 1 cc1_scoped2.sem cc1_scoped3.sem
    ++ ringOps F i (qIn i 0) (qOut i 0) 14 ++ ringOps F i (qIn i 1) (qOut i 1) 14 ++ ringOps F i (xIn i) (xOut i) 14

/-- The printed body on its operands. -/
abbrev tileBody (F : FTy → Type) [FloatOps F] (i : grid1.Coords) : Prog (TileEff F i) PUnit :=
  cc1__v_sc_body i (Memref.whole main_arg3_scv) (Memref.isWhole_whole _) (Memref.whole main_v6_1_scv) (Memref.isWhole_whole _) (Memref.whole main_arg0_scv) (Memref.isWhole_whole _) (Memref.whole main_arg1_scv) (Memref.isWhole_whole _) (Memref.whole main_v7_0_scv) (Memref.isWhole_whole _) (Memref.whole main_v7_1_scv) (Memref.isWhole_whole _) (Memref.whole main_v7_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 cc1_scoped1 cc1_scoped2 cc1_scoped3

set_option maxRecDepth 100000 in
/-- The printed body is the list's run. -/
theorem tileBody_eq (i : grid1.Coords) : tileBody F i = seqOps (bodyOps F i) := by
  exact Eq.refl (seqOps (bodyOps F i))

end Cert.Proof.Tile
-- ==== Proof.Common.lean ====
/-
  What the whole proof is stated in: the launch's configuration, the resources beside the machine's (the handshakes'
  and the pipelines' rounds, the transfers' counters), and the notation-free abbreviations of the operands' locations.
-/
module

public import proofs.«01_k».proof.Proof.TileProgram
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Transfers
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type}

/-- The labels with the pipelines' entries. -/
abbrev ΛP : Labels := Pipeline.Sig Λ₀ (Fin 3) fun p => (pcfgs (F := F) p).Adm
/-- The launch's SparseCore configuration: one call. -/
abbrev K : SparseCore.Cfg τ sig (ΛP (F := F)) 1 := sc (F := F)
/-- The definitions under the launch's. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, -/
abbrev UH : Type := URounds (GSem nD τ sig) ℕ
/-- the pipelines' rounds -/
abbrev UP : Type := URounds (GSem nD τ sig) Unit
/-- and the transfers' counters. -/
abbrev UU : Type := (UH × UP) × Counters

/-- The resources of the proof. -/
abbrev Mod (F : FTy → Type) : Type := MT nD τ sig (HIx 1) (Elt F) ℕ UU ℕ

abbrev EH : Emb UH (Mod F) := (Emb.inl : Emb UH (UH × UP)).trans embL
abbrev EP : Emb UP (Mod F) := (Emb.inr : Emb UP (UH × UP)).trans embL
abbrev EC : UEmb Counters (Mod F) := countersEmb

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

example : (EP (F := F)).LandsIn (upEmb : UEmb _ (Mod F)) := inferInstance
example : (EH (F := F)).LandsIn (upEmb : UEmb _ (Mod F)) := inferInstance
example : (EC (F := F)).LandsIn (upEmb : UEmb _ (Mod F)) := inferInstance

end Cert.Proof
-- ==== Proof.Retrieve.lean ====
/-
  The retrieval's ten rounds, as the kernel's first TensorCore call computes them: the scores, each round's choice of the
  highest score left, the row it retrieves of either memory, and the scores with that choice struck out.
-/
module

public import proofs.«01_k».proof.Proof.Common
public import proofs.«01_k».proof.Proof.Gen.KernelIdeal.Skeleton

@[expose] public section

noncomputable section

namespace Cert.Proof

open Cert.KernelIdeal Cert.KernelIdeal.Gen
open Idealize.ShloMosaic

variable {F : FTy → Type} [FloatOps F]

/-- A memory entry's number, at every query. -/
def ids : IVec S4x1000 32 := iota .tc S4x1000 32 [1] iota_S4x1000_d1_w32

/-- The entries whose score is a query's highest, every other replaced by the number after the last. -/
def candOf (cur : FVec F S4x1000 .f32) : IVec S4x1000 32 :=
  select (cmpf .oeq cur (broadcastTo S4x1000 (shapeCast S4x1 (multiReduction .maximumf [1] S4 cur 0xFF800000#32 reduces_S4x1000_S4 (.inl rfl) rfl) shapeCasts_S4_S4x1) broadcasts_S4x1_S4x1000))
    ids (broadcast S4x1000 1000#32)

/-- Whether an entry is the first of a query's highest scores. -/
def hereOf (cur : FVec F S4x1000 .f32) : IVec S4x1000 1 :=
  cmpi .eq ids (broadcastTo S4x1000 (shapeCast S4x1 (multiReductionI .minsi [1] S4 (candOf cur) 2147483647#32 reduces_S4x1000_S4 rfl) shapeCasts_S4_S4x1) broadcasts_S4x1_S4x1000)

/-- The scores with one choice struck out. -/
def nextOf (cur : FVec F S4x1000 .f32) (here : IVec S4x1000 1) : FVec F S4x1000 .f32 :=
  select here (broadcast S4x1000 (Scalar.ofBits .f32 0xFF800000#32)) cur

section Rounds

variable (q : Vec F S4x2048 .f32) (mk mv : Vec F S1000x2048 .f32) (mp : Vec F S1x1000 .f32)

/-- The scores before round `n`. -/
def curAt : ℕ → FVec F S4x1000 .f32
  | 0 => k0_pay5 q mk
  | n + 1 => nextOf (curAt n) (hereOf (curAt n))

/-- Round `n`'s choice. -/
def hereAt (n : ℕ) : IVec S4x1000 1 := hereOf (curAt q mk n)

/-- The choice as ones and zeros. -/
def oneAt (n : ℕ) : FVec F S4x1000 .f32 := sitofp .f32 (extui 32 (hereAt q mk n) natLt_1_32)

/-- The key a round retrieves. -/
def keyRow (n : ℕ) : FVec F S4x1x2048 .f32 :=
  shapeCast S4x1x2048 (matmul dot_S4x1000_S1000x2048_S4x2048_1_0_0_1_n_n none (oneAt q mk n) mk (constant S4x2048 .f32 0x00000000#32)) shapeCasts_S4x2048_S4x1x2048

/-- The value a round retrieves, a row for each head. -/
def valRow (n : ℕ) : FVec F S64x1x128 .f32 :=
  shapeCast S64x1x128 (shapeCast S64x128 (matmul dot_S4x1000_S1000x2048_S4x2048_1_0_0_1_n_n none (oneAt q mk n) mv (constant S4x2048 .f32 0x00000000#32)) shapeCasts_S4x2048_S64x128) shapeCasts_S64x128_S64x1x128

/-- The entries' positions, at every query. -/
def posRows : FVec F S4x1000 .f32 := broadcastTo S4x1000 (shapeCast S1x1000 (k0_pay6 mp) shapeCasts_S1x1000_S1x1000) broadcasts_S1x1000_S4x1000

/-- The position a round retrieves. -/
def posCol (n : ℕ) : FVec F S4x1 .f32 :=
  shapeCast S4x1 (multiReduction .add [1] S4 (select (hereAt q mk n) (posRows mp) (broadcast S4x1000 (Scalar.ofBits .f32 0x00000000#32))) 0x00000000#32 reduces_S4x1000_S4 (.inl rfl) rfl) shapeCasts_S4_S4x1

/-- Where a round's key goes, and its value. -/
abbrev keyRect (j : Fin 10) : Rect S4x10x2048 := Rect.unit (s := S4x10x2048) ![0, j.val, 0] S4x1x2048.size (by
  intro a; have := j.isLt; fin_cases a
  · exact le_rfl
  · show j.val + 1 ≤ 10; omega
  · exact le_rfl)
abbrev valRect (j : Fin 10) : Rect S64x16x128 := Rect.unit (s := S64x16x128) ![0, j.val, 0] S64x1x128.size (by
  intro a; have := j.isLt; fin_cases a
  · exact le_rfl
  · show j.val + 1 ≤ 16; omega
  · exact le_rfl)

/-- The first rounds' keys in their places, the newest first; and their values. -/
def keyL : ℕ → List (View.Piece (Elt F) S4x10x2048 .f32)
  | 0 => []
  | n + 1 => ⟨keyRect (Fin.ofNat 10 n), keyRow q mk n⟩ :: keyL n
def valL : ℕ → List (View.Piece (Elt F) S64x16x128 .f32)
  | 0 => []
  | n + 1 => ⟨valRect (Fin.ofNat 10 n), valRow q mk mv n⟩ :: valL n

end Rounds

end Cert.Proof
-- ==== Proof.RetrieveParts.lean ====
/-
  The first TensorCore call's body, part by part: what each part of the ten rounds returns and what it stores.
-/
module

public import proofs.«01_k».proof.Proof.Retrieve
public import Idealize.ShloMosaic.Lib.Writes
public import Idealize.ShloMosaic.Lib.Pipeline.Frame

@[expose] public section

noncomputable section

namespace Cert.Proof

open Cert.KernelIdeal Cert.KernelIdeal.Gen
open Idealize.ShloMosaic
open Idealize.SL Idealize.SL.RA Idealize.SL.BI Idealize.SL.Sem
open Idealize.SL.BI.BIBase Idealize.SL.BI.Laws Idealize.SL.ProofMode

variable {F : FTy → Type} [FloatOps F]

local notation "𝕄" => Mod F

variable (c : Dev nD)
  (a0 : Memref sig .tc .vmem S4x2048 .f32) (h0 : a0.IsWhole)
  (a1 : Memref sig .tc .vmem S1000x2048 .f32) (h1 : a1.IsWhole)
  (a2 : Memref sig .tc .vmem S1000x2048 .f32) (h2 : a2.IsWhole)
  (a3 : Memref sig .tc .vmem S1x1000 .f32) (h3 : a3.IsWhole)
  (a4 : Memref sig .tc .vmem S4x2048 .f32) (h4 : a4.IsWhole)
  (a5 : Memref sig .tc .vmem S64x8x128 .f32) (h5 : a5.IsWhole)
  (a6 : Memref sig .tc .vmem S4x10x2048 .f32) (h6 : a6.IsWhole)
  (a7 : Memref sig .tc .vmem S64x16x128 .f32) (h7 : a7.IsWhole)
  (a8 : Memref sig .tc .vmem S4x2058 .f32) (h8 : a8.IsWhole)
  (a9 : Memref sig .tc .vmem S4x2058 .f32) (h9 : a9.IsWhole)
  (q : Vec F S4x2048 .f32) (mk mv : Vec F S1000x2048 .f32) (mp : Vec F S1x1000 .f32)
  (f6 : a6.view.ty.Contents (Elt F)) (f7 : a7.view.ty.Contents (Elt F))

/-- The two results the rounds fill, `n` keys and `k` values stored. -/
def filled (n k : ℕ) : sProp 𝕄 :=
  iprop((a6.view.loc c.tc ↦[a6.view.set]{fullShare} a6.view.writes (Elt F) f6 (keyL q mk n))
    ∗ (a7.view.loc c.tc ↦[a7.view.set]{fullShare} a7.view.writes (Elt F) f7 (valL q mk mv k)))

theorem part2_wp : filled c a6 a7 q mk mv f6 f7 0 0 ⊢ wp frame (wpE (defs₀ (F := F)) 𝒱₀ c.tc none) Set.univ
    (k0_part2 a0 h0 a1 h1 a2 h2 a3 h3 a4 h4 a5 h5 a6 h6 a7 h7 a8 h8 a9 h9
      (mk) (mv) (curAt q mk 0) ids (k0_pay6 mp) (hereAt q mk 0) (oneAt q mk 0) (keyRow q mk 0))
    fun r => iprop(⌜r = ⟨posCol q mk mp 0, curAt q mk 1, hereAt q mk 1, posRows mp, k0_pay18 (F := F)⟩⌝ ∗ filled c a6 a7 q mk mv f6 f7 2 2) := by
  unfold filled
  iintro ⟨H6, H7⟩
  rw [k0_part2_eq_skeleton]
  unfold k0_part2_skel
  simp only [Prog.lift, Prog.bind_op, Prog.bind_ret, Prog.pure_eq_ret]
  iapply (wp_store_writes 𝒱₀ c.tc none Set.univ (m := a6) (by rw [h6.set_eq_univ]; exact Finset.subset_univ _)) $$ H6; iintro H6
  iapply (wp_load 𝒱₀ c.tc none Set.univ (m := a7) (by rw [h7.set_eq_univ]; exact Finset.subset_univ _)) $$ H7; iintro H7
  iapply (wp_store_writes 𝒱₀ c.tc none Set.univ (m := a7) (by rw [h7.set_eq_univ]; exact Finset.subset_univ _)) $$ H7; iintro H7
  iapply (wp_load 𝒱₀ c.tc none Set.univ (m := a6) (by rw [h6.set_eq_univ]; exact Finset.subset_univ _)) $$ H6; iintro H6
  iapply (wp_store_writes 𝒱₀ c.tc none Set.univ (m := a6) (by rw [h6.set_eq_univ]; exact Finset.subset_univ _)) $$ H6; iintro H6
  iapply (wp_load 𝒱₀ c.tc none Set.univ (m := a7) (by rw [h7.set_eq_univ]; exact Finset.subset_univ _)) $$ H7; iintro H7
  iapply (wp_store_writes 𝒱₀ c.tc none Set.univ (m := a7) (by rw [h7.set_eq_univ]; exact Finset.subset_univ _)) $$ H7; iintro H7
  rw [wp_ret]; imodintro
  isplitr; · ipureintro; rfl
  isplitl [H6]; · iexact H6
  iexact H7

theorem part3_wp : filled c a6 a7 q mk mv f6 f7 2 2 ⊢ wp frame (wpE (defs₀ (F := F)) 𝒱₀ c.tc none) Set.univ
    (k0_part3 a0 h0 a1 h1 a2 h2 a3 h3 a4 h4 a5 h5 a6 h6 a7 h7 a8 h8 a9 h9
      mk mv ids (k0_pay6 mp) (curAt q mk 1) (hereAt q mk 1) (posRows mp) (k0_pay18 (F := F)))
    fun r => iprop(⌜r = ⟨posCol q mk mp 1, posCol q mk mp 2, curAt q mk 3, candOf (curAt q mk 3)⟩⌝ ∗ filled c a6 a7 q mk mv f6 f7 3 3) := by
  unfold filled
  iintro ⟨H6, H7⟩
  rw [k0_part3_eq_skeleton]
  unfold k0_part3_skel
  simp only [Prog.lift, Prog.bind_op, Prog.bind_ret, Prog.pure_eq_ret]
  iapply (wp_load 𝒱₀ c.tc none Set.univ (m := a6) (by rw [h6.set_eq_univ]; exact Finset.subset_univ _)) $$ H6; iintro H6
  iapply (wp_store_writes 𝒱₀ c.tc none Set.univ (m := a6) (by rw [h6.set_eq_univ]; exact Finset.subset_univ _)) $$ H6; iintro H6
  iapply (wp_load 𝒱₀ c.tc none Set.univ (m := a7) (by rw [h7.set_eq_univ]; exact Finset.subset_univ _)) $$ H7; iintro H7
  iapply (wp_store_writes 𝒱₀ c.tc none Set.univ (m := a7) (by rw [h7.set_eq_univ]; exact Finset.subset_univ _)) $$ H7; iintro H7
  rw [wp_ret]; imodintro
  isplitr; · ipureintro; rfl
  isplitl [H6]; · iexact H6
  iexact H7

theorem part4_wp : filled c a6 a7 q mk mv f6 f7 3 3 ⊢ wp frame (wpE (defs₀ (F := F)) 𝒱₀ c.tc none) Set.univ
    (k0_part4 a0 h0 a1 h1 a2 h2 a3 h3 a4 h4 a5 h5 a6 h6 a7 h7 a8 h8 a9 h9
      mk mv ids (k0_pay6 mp) (curAt q mk 3) (candOf (curAt q mk 3)))
    fun r => iprop(⌜r = ⟨posCol q mk mp 3, curAt q mk 4, hereAt q mk 4, oneAt q mk 4, keyRow q mk 4⟩⌝ ∗ filled c a6 a7 q mk mv f6 f7 4 4) := by
  unfold filled
  iintro ⟨H6, H7⟩
  rw [k0_part4_eq_skeleton]
  unfold k0_part4_skel
  simp only [Prog.lift, Prog.bind_op, Prog.bind_ret, Prog.pure_eq_ret]
  iapply (wp_load 𝒱₀ c.tc none Set.univ (m := a6) (by rw [h6.set_eq_univ]; exact Finset.subset_univ _)) $$ H6; iintro H6
  iapply (wp_store_writes 𝒱₀ c.tc none Set.univ (m := a6) (by rw [h6.set_eq_univ]; exact Finset.subset_univ _)) $$ H6; iintro H6
  iapply (wp_load 𝒱₀ c.tc none Set.univ (m := a7) (by rw [h7.set_eq_univ]; exact Finset.subset_univ _)) $$ H7; iintro H7
  iapply (wp_store_writes 𝒱₀ c.tc none Set.univ (m := a7) (by rw [h7.set_eq_univ]; exact Finset.subset_univ _)) $$ H7; iintro H7
  iapply (wp_load 𝒱₀ c.tc none Set.univ (m := a6) (by rw [h6.set_eq_univ]; exact Finset.subset_univ _)) $$ H6; iintro H6
  rw [wp_ret]; imodintro
  isplitr; · ipureintro; rfl
  isplitl [H6]; · iexact H6
  iexact H7

theorem part5_wp : filled c a6 a7 q mk mv f6 f7 4 4 ⊢ wp frame (wpE (defs₀ (F := F)) 𝒱₀ c.tc none) Set.univ
    (k0_part5 a0 h0 a1 h1 a2 h2 a3 h3 a4 h4 a5 h5 a6 h6 a7 h7 a8 h8 a9 h9
      mk mv ids (k0_pay6 mp) (curAt q mk 4) (hereAt q mk 4) (oneAt q mk 4) (keyRow q mk 4))
    fun r => iprop(⌜r = ⟨posCol q mk mp 4, curAt q mk 5, hereAt q mk 5, posRows mp, k0_pay45 (F := F)⟩⌝ ∗ filled c a6 a7 q mk mv f6 f7 6 6) := by
  unfold filled
  iintro ⟨H6, H7⟩
  rw [k0_part5_eq_skeleton]
  unfold k0_part5_skel
  simp only [Prog.lift, Prog.bind_op, Prog.bind_ret, Prog.pure_eq_ret]
  iapply (wp_store_writes 𝒱₀ c.tc none Set.univ (m := a6) (by rw [h6.set_eq_univ]; exact Finset.subset_univ _)) $$ H6; iintro H6
  iapply (wp_load 𝒱₀ c.tc none Set.univ (m := a7) (by rw [h7.set_eq_univ]; exact Finset.subset_univ _)) $$ H7; iintro H7
  iapply (wp_store_writes 𝒱₀ c.tc none Set.univ (m := a7) (by rw [h7.set_eq_univ]; exact Finset.subset_univ _)) $$ H7; iintro H7
  iapply (wp_load 𝒱₀ c.tc none Set.univ (m := a6) (by rw [h6.set_eq_univ]; exact Finset.subset_univ _)) $$ H6; iintro H6
  iapply (wp_store_writes 𝒱₀ c.tc none Set.univ (m := a6) (by rw [h6.set_eq_univ]; exact Finset.subset_univ _)) $$ H6; iintro H6
  iapply (wp_load 𝒱₀ c.tc none Set.univ (m := a7) (by rw [h7.set_eq_univ]; exact Finset.subset_univ _)) $$ H7; iintro H7
  iapply (wp_store_writes 𝒱₀ c.tc none Set.univ (m := a7) (by rw [h7.set_eq_univ]; exact Finset.subset_univ _)) $$ H7; iintro H7
  rw [wp_ret]; imodintro
  isplitr; · ipureintro; rfl
  isplitl [H6]; · iexact H6
  iexact H7

theorem part6_wp : filled c a6 a7 q mk mv f6 f7 6 6 ⊢ wp frame (wpE (defs₀ (F := F)) 𝒱₀ c.tc none) Set.univ
    (k0_part6 a0 h0 a1 h1 a2 h2 a3 h3 a4 h4 a5 h5 a6 h6 a7 h7 a8 h8 a9 h9
      mk mv ids (k0_pay6 mp) (curAt q mk 5) (hereAt q mk 5) (posRows mp) (k0_pay45 (F := F)))
    fun r => iprop(⌜r = ⟨posCol q mk mp 5, posCol q mk mp 6, curAt q mk 7, candOf (curAt q mk 7)⟩⌝ ∗ filled c a6 a7 q mk mv f6 f7 7 7) := by
  unfold filled
  iintro ⟨H6, H7⟩
  rw [k0_part6_eq_skeleton]
  unfold k0_part6_skel
  simp only [Prog.lift, Prog.bind_op, Prog.bind_ret, Prog.pure_eq_ret]
  iapply (wp_load 𝒱₀ c.tc none Set.univ (m := a6) (by rw [h6.set_eq_univ]; exact Finset.subset_univ _)) $$ H6; iintro H6
  iapply (wp_store_writes 𝒱₀ c.tc none Set.univ (m := a6) (by rw [h6.set_eq_univ]; exact Finset.subset_univ _)) $$ H6; iintro H6
  iapply (wp_load 𝒱₀ c.tc none Set.univ (m := a7) (by rw [h7.set_eq_univ]; exact Finset.subset_univ _)) $$ H7; iintro H7
  iapply (wp_store_writes 𝒱₀ c.tc none Set.univ (m := a7) (by rw [h7.set_eq_univ]; exact Finset.subset_univ _)) $$ H7; iintro H7
  rw [wp_ret]; imodintro
  isplitr; · ipureintro; rfl
  isplitl [H6]; · iexact H6
  iexact H7

theorem part7_wp : filled c a6 a7 q mk mv f6 f7 7 7 ⊢ wp frame (wpE (defs₀ (F := F)) 𝒱₀ c.tc none) Set.univ
    (k0_part7 a0 h0 a1 h1 a2 h2 a3 h3 a4 h4 a5 h5 a6 h6 a7 h7 a8 h8 a9 h9
      mk mv ids (k0_pay6 mp) (curAt q mk 7) (candOf (curAt q mk 7)))
    fun r => iprop(⌜r = ⟨posCol q mk mp 7, curAt q mk 8, hereAt q mk 8, oneAt q mk 8, keyRow q mk 8⟩⌝ ∗ filled c a6 a7 q mk mv f6 f7 8 8) := by
  unfold filled
  iintro ⟨H6, H7⟩
  rw [k0_part7_eq_skeleton]
  unfold k0_part7_skel
  simp only [Prog.lift, Prog.bind_op, Prog.bind_ret, Prog.pure_eq_ret]
  iapply (wp_load 𝒱₀ c.tc none Set.univ (m := a6) (by rw [h6.set_eq_univ]; exact Finset.subset_univ _)) $$ H6; iintro H6
  iapply (wp_store_writes 𝒱₀ c.tc none Set.univ (m := a6) (by rw [h6.set_eq_univ]; exact Finset.subset_univ _)) $$ H6; iintro H6
  iapply (wp_load 𝒱₀ c.tc none Set.univ (m := a7) (by rw [h7.set_eq_univ]; exact Finset.subset_univ _)) $$ H7; iintro H7
  iapply (wp_store_writes 𝒱₀ c.tc none Set.univ (m := a7) (by rw [h7.set_eq_univ]; exact Finset.subset_univ _)) $$ H7; iintro H7
  iapply (wp_load 𝒱₀ c.tc none Set.univ (m := a6) (by rw [h6.set_eq_univ]; exact Finset.subset_univ _)) $$ H6; iintro H6
  rw [wp_ret]; imodintro
  isplitr; · ipureintro; rfl
  isplitl [H6]; · iexact H6
  iexact H7

theorem part8_wp : filled c a6 a7 q mk mv f6 f7 8 8 ⊢ wp frame (wpE (defs₀ (F := F)) 𝒱₀ c.tc none) Set.univ
    (k0_part8 a0 h0 a1 h1 a2 h2 a3 h3 a4 h4 a5 h5 a6 h6 a7 h7 a8 h8 a9 h9
      mk mv ids (k0_pay6 mp) (curAt q mk 8) (hereAt q mk 8) (oneAt q mk 8) (keyRow q mk 8))
    fun r => iprop(⌜r = ⟨posCol q mk mp 8, hereAt q mk 9, posRows mp, k0_pay71 (F := F)⟩⌝ ∗ filled c a6 a7 q mk mv f6 f7 10 10) := by
  unfold filled
  iintro ⟨H6, H7⟩
  rw [k0_part8_eq_skeleton]
  unfold k0_part8_skel
  simp only [Prog.lift, Prog.bind_op, Prog.bind_ret, Prog.pure_eq_ret]
  iapply (wp_store_writes 𝒱₀ c.tc none Set.univ (m := a6) (by rw [h6.set_eq_univ]; exact Finset.subset_univ _)) $$ H6; iintro H6
  iapply (wp_load 𝒱₀ c.tc none Set.univ (m := a7) (by rw [h7.set_eq_univ]; exact Finset.subset_univ _)) $$ H7; iintro H7
  iapply (wp_store_writes 𝒱₀ c.tc none Set.univ (m := a7) (by rw [h7.set_eq_univ]; exact Finset.subset_univ _)) $$ H7; iintro H7
  iapply (wp_load 𝒱₀ c.tc none Set.univ (m := a6) (by rw [h6.set_eq_univ]; exact Finset.subset_univ _)) $$ H6; iintro H6
  iapply (wp_store_writes 𝒱₀ c.tc none Set.univ (m := a6) (by rw [h6.set_eq_univ]; exact Finset.subset_univ _)) $$ H6; iintro H6
  iapply (wp_load 𝒱₀ c.tc none Set.univ (m := a7) (by rw [h7.set_eq_univ]; exact Finset.subset_univ _)) $$ H7; iintro H7
  iapply (wp_store_writes 𝒱₀ c.tc none Set.univ (m := a7) (by rw [h7.set_eq_univ]; exact Finset.subset_univ _)) $$ H7; iintro H7
  rw [wp_ret]; imodintro
  isplitr; · ipureintro; rfl
  isplitl [H6]; · iexact H6
  iexact H7

end Cert.Proof
-- ==== Proof.TcRegion.lean ====
/-
  A TensorCore call inside the launch's program: entered from the unscoped buffers held at a valuation and left with
  them held at another, the TensorCore's waits recorded below the levels of the calls to come both times.
-/
module

public import proofs.«01_k».proof.Proof.Common
public import Idealize.ShloMosaic.Lib.Pipeline.RegionArraysD

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.SL.BI.BIBase Idealize.SL.BI.Laws Idealize.SL.ProofMode
open Idealize.ShloMosaic.Rounds
open Idealize.ShloMosaic.Pipeline

variable {F : FTy → Type} [FloatOps F]

local notation "𝕄" => Mod F

/-- The level below which the TensorCore's recorded waits stay before call `n`. -/
abbrev cutAt (n : ℕ) : ℕ := 8 * (SparseCore.Cfg.Blocks.one 1).fst n

/-- What the TensorCore owes before call `n`, its recorded waits below that call's levels: the first part of its state. -/
def owesTc (d : Dev nD) (n : ℕ) : sProp 𝕄 :=
  iprop(∃ W, ⌜(K (F := F)).WBelow (SparseCore.T d) W (cutAt n)⌝ ∗ owes (SparseCore.T d) ((K (F := F)).Otc d n) W)

/-- The pairs whose level is at most call `n`'s cut. -/
def below (d : Dev nD) (n : ℕ) : Set (SemLoc sig × HIx 1) := {p | (K (F := F)).lev (SparseCore.T d, p.1) p.2 ≤ cutAt n}

/-- No table is prefetched. -/
abbrev adm : (p : Fin 3) → (pcfgs (F := F) p).Adm := fun p => (cfgs p).toPCfg_adm

/-- The pipelines' proof data: each owes what the TensorCore owes before call `n`, its waits recorded below that. -/
abbrev Dats (F : FTy → Type) [FloatOps F] : Type := (p : Fin 3) → (c : Dev nD) → Dat τ (Elt F) (HIx 1) ℕ UU ℕ (pin (pcfgs (F := F)) adm p) c

theorem pin_eq (p : Fin 3) : pin (pcfgs (F := F)) adm p = cfgs p := rfl

omit [FloatOps F] in
theorem Otc_none (d : Dev nD) (n : ℕ) (g : GSem nD τ sig) : (K (F := F)).Otc d n g none = 0 := by
  by_contra h
  have := SparseCore.Cfg.lev_of_Otc_pos (K := K (F := F)) (Nat.pos_of_ne_zero h)
  exact absurd this (by show ¬ (_ + 1 ≤ 0); omega)

theorem bound_below (dats : Dats F) (n : ℕ) (p : Fin 3) (d : Dev nD) (t : Fin ((pin (pcfgs (F := F)) adm p).N + 1))
    (hrec : (dats p d).recorded t = below (F := F) d n) : (dats p d).bound none t = below (F := F) d n := by
  unfold Dat.bound
  rw [hrec]
  refine Set.union_eq_self_of_subset_right ?_
  rintro _ ⟨w, s, rfl⟩
  exact Nat.zero_le _

/-- What a pipeline holds of the TensorCore's debts is the first part of the TensorCore's state. -/
theorem owesAt_eq (dats : Dats F) (n : ℕ) (p : Fin 3) (d : Dev nD) (t : Fin ((pin (pcfgs (F := F)) adm p).N + 1))
    (howed : (dats p d).owed t = (K (F := F)).Otc d n) (hrec : (dats p d).recorded t = below (F := F) d n) :
    (dats p d).owesAt none t = owesTc (F := F) d n := by
  unfold Dat.owesAt owesWithin owesTc
  rw [bound_below dats n p d t hrec, howed]
  rfl

/-- Pipeline `p` entered from the unscoped buffers held at `V` and left with them held at `V'`. The buffers `H` beside the
    windows' arrays are the body's own; every other buffer is as it was. -/
def tcRegion (dats : Dats F) (n : ℕ) (p : Fin 3) {J : Type} [Fintype J] (osem : J → SemLoc sig) (ho : OwnSemFacts (pcfgs (F := F) p).spec osem)
    (V V' : Dev nD → Valuation τ sig (Elt F)) (H : Finset (DevRef τ sig))
    (kit : PLaunchFacts (nD := nD) (τ := τ) (pcfgs (F := F)) p) (hK : (pcfgs (F := F) p).pre.K = 0)
    (hA : arrRefs (pcfgs (F := F) p).spec ⊆ ucRefs τ sig) (hH : H ⊆ ucRefs τ sig \ arrRefs (pcfgs (F := F) p).spec)
    (hbody : ∀ c, BodyObligationLoose (dats p c) defs₀ 𝒱₀ none Set.univ)
    (howed : ∀ c t, (dats p c).owed t = (K (F := F)).Otc c n) (hrec : ∀ c t, (dats p c).recorded t = below (F := F) c n)
    (hshare : ∀ c w, (dats p c).share w = fullShare)
    (hoff : ∀ (c : Dev nD), ∀ b ∈ (ucRefs τ sig \ arrRefs (pcfgs (F := F) p).spec) \ H, V' c b = V c b)
    (hin : ∀ c : Dev nD, iprop(scopedRest (pin (pcfgs (F := F)) adm p).spec c ∗ ownSems0 osem c ∗ StableHlo.held (c.tc : Thread nD τ) H (V c)
        ∗ Transfers.MayWaits (c.tc : Thread nD τ) none ((K (F := F)).Otc c n)) ⊢ (dats p c).Φ 0)
    (hout : ∀ c : Dev nD, (dats p c).Φ (Fin.last (pin (pcfgs (F := F)) adm p).N)
      ⊢ iprop(scopedRest (pin (pcfgs (F := F)) adm p).spec c ∗ ownSems0 osem c ∗ StableHlo.held (c.tc : Thread nD τ) H (V' c)))
    (hV : ∀ c w, (dats p c).arrAt w 0 = V c (Proc.devRef .tc (arrRef (pin (pcfgs (F := F)) adm p).spec w)))
    (hV' : ∀ c w, (dats p c).arrAt w (pin (pcfgs (F := F)) adm p).N = V' c (Proc.devRef .tc (arrRef (pin (pcfgs (F := F)) adm p).spec w))) :
    RegionSeg (pcfgs (F := F)) adm dats none defs₀ 𝒱₀ (K (F := F)).L (K (F := F)).lev p where
  win := kit.win.to₀
  block_pos := kit.block_pos
  stage_whole := kit.stage_whole
  K := J
  osem := osem
  ho := ho
  hbody := hbody
  hwaits c := cellsWaits_of_cut (pin (pcfgs (F := F)) adm) dats none p c 0 ((K (F := F)).Otc c n) (howed c)
    (fun _ _ => Finset.mem_univ _) (fun _ _ => le_rfl)
    (fun g i h => ⟨Finset.mem_univ _, Nat.lt_of_lt_of_le (Nat.succ_pos _) (SparseCore.Cfg.lev_of_Otc_pos (K := K (F := F)) h)⟩)
  pre c := iprop(StableHlo.held (c.tc : Thread nD τ) (ucRefs τ sig) (V c) ∗ owesTc (F := F) c n)
  post c := iprop(StableHlo.held (c.tc : Thread nD τ) (ucRefs τ sig) (V' c) ∗ owesTc (F := F) c n)
  X c := iprop(ownSems0 osem c ∗ StableHlo.held (c.tc : Thread nD τ) H (V c) ∗ Transfers.MayWaits (c.tc : Thread nD τ) none ((K (F := F)).Otc c n))
  Y c := StableHlo.held (c.tc : Thread nD τ) H (V' c)
  Z c := StableHlo.held (c.tc : Thread nD τ) ((ucRefs τ sig \ arrRefs (pcfgs (F := F) p).spec) \ H) (V c)
  hentry c := by
    rw [prefHeld_of_none _ hK, arrays_held (pcfgs (F := F)) adm dats p kit c (hshare c) ((dats p c).arrAt · 0) (V c) (hV c),
      owesAt_eq dats n p c 0 (howed c 0) (hrec c 0),
      StableHlo.held_sub_split (c.tc : Thread nD τ) hA (V c), StableHlo.held_sub_split (c.tc : Thread nD τ) hH (V c)]
    iintro ⟨⟨⟨Ha, HH, HR⟩, HO⟩, Hos, HL⟩
    ihave HM := ((K (F := F)).mayWaits_none (thr := SparseCore.T c) (Otc_none (F := F) c n)) $$ HL
    imodintro
    isplitl [Ha]; · iexact Ha
    isplitr; · iempintro
    isplitl [HO]; · iexact HO
    isplitl [HH Hos HM]
    · isplitl [Hos]; · iexact Hos
      isplitl [HH]; · iexact HH
      iexact HM
    iexact HR
  hin c := (show _ ⊢ iprop(scopedRest (pin (pcfgs (F := F)) adm p).spec c ∗ ownSems0 osem c ∗ StableHlo.held (c.tc : Thread nD τ) H (V c)
        ∗ Transfers.MayWaits (c.tc : Thread nD τ) none ((K (F := F)).Otc c n)) from by
    iintro ⟨⟨Hos, HH, HM⟩, -, Hr⟩
    isplitl [Hr]; · iexact Hr
    isplitl [Hos]; · iexact Hos
    isplitl [HH]; · iexact HH
    iexact HM).trans (hin c)
  hout c := (hout c).trans (by
    iintro ⟨Hr, Hos, HH⟩
    isplitl [HH]; · iexact HH
    isplitl [Hos]; · iexact Hos
    iexact Hr)
  hexit c := by
    rw [arrays_held (pcfgs (F := F)) adm dats p kit c (hshare c) ((dats p c).arrAt · (pin (pcfgs (F := F)) adm p).N) (V' c) (hV' c),
      owesAt_eq dats n p c (Fin.last _) (howed c _) (hrec c _),
      StableHlo.held_sub_split (c.tc : Thread nD τ) hA (V' c), StableHlo.held_sub_split (c.tc : Thread nD τ) hH (V' c),
      StableHlo.held_congr (c.tc : Thread nD τ) (hoff c)]
    iintro ⟨Ha, HO, HH, HR⟩
    imodintro
    isplitr [HO]
    · isplitl [Ha]; · iexact Ha
      isplitl [HH]; · iexact HH
      iexact HR
    iexact HO

end Cert.Proof
-- ==== Proof.ConcatRegion.lean ====
/-
  The last TensorCore call, which joins the ten retrieved rows to the keys: what its body leaves in a block, and the array
  the call leaves.
-/
module

public import proofs.«01_k».proof.Proof.TcRegion
public import proofs.«01_k».proof.Proof.Gen.KernelIdeal.Skeleton
public import proofs.«01_k».proof.Proof.Gen.KernelIdeal.Points
public import Idealize.ShloMosaic.Lib.Pipeline.ValueKit.Geometry
public import Idealize.ShloMosaic.Lib.Writes
public import Idealize.ShloMosaic.Lib.Pointwise

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI Idealize.SL.Sem
open Idealize.SL.BI.BIBase Idealize.SL.BI.Laws Idealize.SL.ProofMode
open Idealize.ShloMosaic.Pipeline

variable {F : FTy → Type} [FloatOps F]

local notation "𝕄" => Mod F

/-- A block of the joined array: ten rows of the retrieved keys, then the head's own. -/
def catBlock (X : S1x10x128.Idx → Elt F .f32) (Y : S1x1x2048x128.Idx → Elt F .f32) : S1x1x2058x128.Idx → Elt F .f32 := fun y =>
  if h : (y 2).val < 10 then X (ix3 0 ⟨(y 2).val, h⟩ (y 3))
  else Y (ix4 0 0 ⟨(y 2).val - 10, by have h2 : (y 2).val < 2058 := (y 2).isLt; omega⟩ (y 3))

/-- The rectangles the two stores write. -/
abbrev catTop : Rect S1x1x2058x128 := Rect.unit (s := S1x1x2058x128) ![0, 0, 0, 0] S1x1x10x128.size inb_S1x1x2058x128_S1x1x10x128_0_0_0_0
abbrev catRest : Rect S1x1x2058x128 := Rect.unit (s := S1x1x2058x128) ![0, 0, 10, 0] S1x1x2048x128.size inb_S1x1x2058x128_S1x1x2048x128_0_0_10_0

theorem catTop_emb (x : S1x1x10x128.Idx) : catTop.emb x = ix4 0 0 ⟨(x 2).val, by have h2 : (x 2).val < 10 := (x 2).isLt; omega⟩ (x 3) := by
  funext a; fin_cases a <;> apply Fin.ext
  · have : (x 0).val < 1 := (x 0).isLt
    show 0 + 1 * (x 0).val = 0; omega
  · have : (x 1).val < 1 := (x 1).isLt
    show 0 + 1 * (x 1).val = 0; omega
  · show 0 + 1 * (x 2).val = (x 2).val; omega
  · show 0 + 1 * (x 3).val = (x 3).val; omega

theorem catRest_emb (x : S1x1x2048x128.Idx) : catRest.emb x = ix4 0 0 ⟨10 + (x 2).val, by have h2 : (x 2).val < 2048 := (x 2).isLt; omega⟩ (x 3) := by
  funext a; fin_cases a <;> apply Fin.ext
  · have : (x 0).val < 1 := (x 0).isLt
    show 0 + 1 * (x 0).val = 0; omega
  · have : (x 1).val < 1 := (x 1).isLt
    show 0 + 1 * (x 1).val = 0; omega
  · show 10 + 1 * (x 2).val = 10 + (x 2).val; omega
  · show 0 + 1 * (x 3).val = (x 3).val; omega

theorem catBlock_top (X : S1x10x128.Idx → Elt F .f32) (Y : S1x1x2048x128.Idx → Elt F .f32) (x : S1x1x10x128.Idx) :
    k3_pay1 X x = catBlock X Y (catTop.emb x) := by
  rw [catTop_emb]
  idx_vars x
  unfold catBlock
  pointwise [k3_pay1]

theorem catBlock_rest (X : S1x10x128.Idx → Elt F .f32) (Y : S1x1x2048x128.Idx → Elt F .f32) (x : S1x1x2048x128.Idx) :
    k3_pay2 Y x = catBlock X Y (catRest.emb x) := by
  rw [catRest_emb]
  idx_vars x
  unfold catBlock
  pointwise [k3_pay2]
  rw [Subsingleton.elim x0 0, Subsingleton.elim x1 0]

/-- Every row is one of the ten or one of the others. -/
theorem cat_cover (u : catRest.shape.Idx → Elt F .f32) (v : catTop.shape.Idx → Elt F .f32) (y : S1x1x2058x128.Idx) :
    ∃ p ∈ ([⟨catRest, u⟩, ⟨catTop, v⟩] : List (View.Piece (Elt F) S1x1x2058x128 .f32)), y ∈ p.1.set := by
  have h0 : (y 0).val < 1 := (y 0).isLt
  have h1 : (y 1).val < 1 := (y 1).isLt
  have h2 : (y 2).val < 2058 := (y 2).isLt
  have h3 : (y 3).val < 128 := (y 3).isLt
  by_cases h : (y 2).val < 10
  · refine ⟨⟨catTop, v⟩, by simp, (Rect.mem_set_unit (inb := inb_S1x1x2058x128_S1x1x10x128_0_0_0_0)).mpr fun a => ?_⟩
    fin_cases a
    · exact ⟨Nat.zero_le _, by show (y 0).val < 0 + 1; omega⟩
    · exact ⟨Nat.zero_le _, by show (y 1).val < 0 + 1; omega⟩
    · exact ⟨Nat.zero_le _, by show (y 2).val < 0 + 10; omega⟩
    · exact ⟨Nat.zero_le _, by show (y 3).val < 0 + 128; omega⟩
  · refine ⟨⟨catRest, u⟩, by simp, (Rect.mem_set_unit (inb := inb_S1x1x2058x128_S1x1x2048x128_0_0_10_0)).mpr fun a => ?_⟩
    fin_cases a
    · exact ⟨Nat.zero_le _, by show (y 0).val < 0 + 1; omega⟩
    · exact ⟨Nat.zero_le _, by show (y 1).val < 0 + 1; omega⟩
    · exact ⟨by show 10 ≤ (y 2).val; omega, by show (y 2).val < 10 + 2048; omega⟩
    · exact ⟨Nat.zero_le _, by show (y 3).val < 0 + 128; omega⟩

/-- A load of all of a block reads the block. -/
theorem readAt_all {sp : Space} {s : Shape} {e : EltTy} (m : Memref sig .tc sp s e) (f : m.view.ty.Contents (Elt F)) {o : Fin s.rank → ℕ} (ho : ∀ a, o a = 0)
    (h : ∀ a, o a + s.size a ≤ s.size a) : m.view.readAt (Elt F) (Rect.unit (s := s) o s.size h).toLoadRect f = m.view.read (Elt F) f := by
  funext x
  show m.view.read (Elt F) f ((Rect.unit (s := s) o s.size h).emb x) = _
  congr 1
  funext a
  apply Fin.ext
  show o a + 1 * (x a).val = (x a).val
  rw [ho]; omega

/-- The body leaves its operands' blocks as they were and their rows joined in the result's. -/
theorem concat_body (c : Dev nD) (i : grid3.Coords) (a2 : Memref sig .tc .vmem S1x10x128 .f32) (h2 : a2.IsWhole)
    (a3 : Memref sig .tc .vmem S1x1x2048x128 .f32) (h3 : a3.IsWhole) (a4 : Memref sig .tc .vmem S1x1x2058x128 .f32) (h4 : a4.IsWhole)
    (X : S1x10x128.Idx → Elt F .f32) (Y : S1x1x2048x128.Idx → Elt F .f32) :
    (iprop(owns c.tc a2 fullShare X ∗ owns c.tc a3 fullShare Y ∗ ∃ Z, owns c.tc a4 fullShare Z) : sProp 𝕄)
      ⊢ wp frame (wpE (defs₀ (F := F)) 𝒱₀ c.tc none) Set.univ (cc3__concat_k_body i a2 h2 a3 h3 a4 h4) fun _ =>
        iprop(owns c.tc a2 fullShare X ∗ owns c.tc a3 fullShare Y ∗ owns c.tc a4 fullShare (catBlock X Y)) := by
  unfold owns
  iintro ⟨⟨%fX, %hX, HX⟩, ⟨%fY, %hY, HY⟩, ⟨%Z, %fZ, %hZ, HZ⟩⟩
  rw [cc3__concat_k_body_eq_skeleton]
  unfold cc3__concat_k_body_skel
  simp only [Prog.lift, Prog.bind_op, Prog.bind_ret, Prog.pure_eq_ret]
  iapply (wp_load 𝒱₀ c.tc none Set.univ (m := a2) (by rw [h2.set_eq_univ]; exact Finset.subset_univ _)) $$ HX; iintro HX
  iapply (wp_load 𝒱₀ c.tc none Set.univ (m := a4) (by rw [h4.set_eq_univ]; exact Finset.subset_univ _)) $$ HZ; iintro HZ
  iapply (wp_store_writes₀ 𝒱₀ c.tc none Set.univ (m := a4) (by rw [h4.set_eq_univ]; exact Finset.subset_univ _)) $$ HZ; iintro HZ
  iapply (wp_load 𝒱₀ c.tc none Set.univ (m := a3) (by rw [h3.set_eq_univ]; exact Finset.subset_univ _)) $$ HY; iintro HY
  iapply (wp_load 𝒱₀ c.tc none Set.univ (m := a4) (by rw [h4.set_eq_univ]; exact Finset.subset_univ _)) $$ HZ; iintro HZ
  iapply (wp_store_writes 𝒱₀ c.tc none Set.univ (m := a4) (by rw [h4.set_eq_univ]; exact Finset.subset_univ _)) $$ HZ; iintro HZ
  rw [wp_ret]; imodintro
  isplitl [HX]; · iexists fX; isplitr; · ipureintro; exact hX
                  iexact HX
  isplitl [HY]; · iexists fY; isplitr; · ipureintro; exact hY
                  iexact HY
  iexists a4.view.writes (Elt F) fZ [⟨catRest, k3_pay2 (a3.view.readAt (Elt F) (Rect.unit (s := S1x1x2048x128) ![0, 0, 0, 0] S1x1x2048x128.size inb_S1x1x2048x128_S1x1x2048x128_0_0_0_0).toLoadRect fY)⟩,
    ⟨catTop, k3_pay1 (a2.view.readAt (Elt F) (Rect.unit (s := S1x10x128) ![0, 0, 0] S1x10x128.size inb_S1x10x128_S1x10x128_0_0_0).toLoadRect fX)⟩]
  isplitr [HZ]
  · ipureintro
    rw [readAt_all a3 fY (by intro a; fin_cases a <;> rfl), readAt_all a2 fX (by intro a; fin_cases a <;> rfl), hX, hY]
    funext y
    refine View.read_writes_apply_of_pieces _ _ (catBlock X Y) _ ?_ y ?_
    · intro p hp x
      simp only [List.mem_cons, List.not_mem_nil, or_false] at hp
      rcases hp with rfl | rfl
      · exact catBlock_rest X Y x
      · exact catBlock_top X Y x
    · exact cat_cover _ _ y
  · iexact HZ

/-- What a window's array holds at entry, the unscoped buffers held at `V`. -/
abbrev entry (V : Dev nD → Valuation τ sig (Elt F)) (cfg : Cfg sig Λ₀) (c : Dev nD) (w : Fin cfg.W) : Buf (Elt F) ((cfg.win w).arr.view.loc (c.tc : Thread nD τ)) :=
  V c (Proc.devRef .tc (arrRef cfg.spec w))

/-- The call's proof data: each operand's block is what a fetch puts there, the result's the two joined. -/
def datCat (V : Dev nD → Valuation τ sig (Elt F)) (n : ℕ) (c : Dev nD) : Dat τ (Elt F) (HIx 1) ℕ UU ℕ cfg3 c where
  A w := entry V cfg3 c w
  after w t := match w with
    | 0 => ((cfg3.win 0).blk t).view.read (Elt F) (entry V cfg3 c 0)
    | 1 => ((cfg3.win 1).blk t).view.read (Elt F) (entry V cfg3 c 1)
    | 2 => catBlock (((cfg3.win 0).blk t).view.read (Elt F) (entry V cfg3 c 0)) (((cfg3.win 1).blk t).view.read (Elt F) (entry V cfg3 c 1))
    | ⟨_ + 3, h⟩ => absurd h (Nat.not_lt.2 (Nat.le_add_left _ _))
  Φ _ := scopedRest cfg3.spec c
  q _ := fullShare
  owed _ := (K (F := F)).Otc c n
  recorded _ := below (F := F) c n

theorem datCat_before0 (V : Dev nD → Valuation τ sig (Elt F)) (n : ℕ) (c : Dev nD) (t : Fin cfg3.N) (d) :
    (datCat V n c).before 0 t d = ((cfg3.win 0).blk t).view.read (Elt F) (entry V cfg3 c 0) :=
  (Dat.before_fetched (datCat V n c) 0 t (fetch3_0 t) d).trans rfl

theorem datCat_before1 (V : Dev nD → Valuation τ sig (Elt F)) (n : ℕ) (c : Dev nD) (t : Fin cfg3.N) (d) :
    (datCat V n c).before 1 t d = ((cfg3.win 1).blk t).view.read (Elt F) (entry V cfg3 c 1) :=
  (Dat.before_fetched (datCat V n c) 1 t (fetch3_1 t) d).trans rfl

theorem datCat_body (V : Dev nD → Valuation τ sig (Elt F)) (n : ℕ) (c : Dev nD) :
    BodyObligationLoose (datCat V n c) (defs₀ (F := F)) 𝒱₀ none Set.univ := by
  intro t
  show _ ⊢ wp _ _ _ (bodyAt3 (F := F) t) _
  rw [bigSep_W3, bigSep_W3]
  iintro ⟨HP, HO, ⟨%d0, H0⟩, ⟨%d1, H1⟩, H2⟩
  have hb := concat_body (F := F) c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2))
    (((cfg3.win 0).blk t).view.read (Elt F) (entry V cfg3 c 0)) (((cfg3.win 1).blk t).view.read (Elt F) (entry V cfg3 c 1))
  rw [datCat_before0 V n c t d0, datCat_before1 V n c t d1]
  iapply (wp_wand_r _ _ _)
  isplitl [H0 H1 H2]
  · iapply hb
    isplitl [H0]; · iexact H0
    isplitl [H1]; · iexact H1
    icases H2 with ⟨%d2, H2⟩
    iexists _; iexact H2
  · iintro %u ⟨H0, H1, H2⟩
    isplitl [HP]; · rw [show (datCat V n c).Φ t.succ = (datCat V n c).Φ t.castSucc from rfl]; iexact HP
    isplitl [HO]; · rw [show (datCat V n c).owesAt none t.succ = (datCat V n c).owesAt none t.castSucc from rfl]; iexact HO
    isplitl [H0]; · iexact H0
    isplitl [H1]; · iexact H1
    iexact H2

/-- The joined array. -/
def catArr (X : S4x10x2048.Idx → Elt F .f32) (Y : S4x16x2048x128.Idx → Elt F .f32) : S4x16x2058x128.Idx → Elt F .f32 := fun y =>
  if h : (y 2).val < 10 then
    X (ix3 (y 0) ⟨(y 2).val, h⟩ ⟨128 * (y 1).val + (y 3).val, by have h1 : (y 1).val < 16 := (y 1).isLt; have h3 : (y 3).val < 128 := (y 3).isLt; omega⟩)
  else Y (ix4 (y 0) (y 1) ⟨(y 2).val - 10, by have h2 : (y 2).val < 2058 := (y 2).isLt; omega⟩ (y 3))

theorem catCovers : (cfg3.win 2).Covers := by decide +kernel

/-- Where the blocks of a point lie in their arrays. -/
theorem cat_emb2 (t : Fin cfg3.N) (y : S1x1x2058x128.Idx) : ((cfg3.win 2).blk t).view.emb y = (ix4 (grid3.coords t 1) (grid3.coords t 0) (y 2) (y 3) : S4x16x2058x128.Idx) := by
  have y0 : (y 0).val < 1 := (y 0).isLt
  have y1 : (y 1).val < 1 := (y 1).isLt
  have g1 : (grid3.coords t 1).val < 4 := (grid3.coords t 1).isLt
  have g0 : (grid3.coords t 0).val < 16 := (grid3.coords t 0).isLt
  funext a; fin_cases a <;> apply Fin.ext
  · show (BitVec.ofNat 32 (grid3.coords t 1).val).toNat * 1 + 1 * (y 0).val = (grid3.coords t 1).val
    rw [BitVec.toNat_ofNat]; omega
  · show (BitVec.ofNat 32 (grid3.coords t 0).val).toNat * 1 + 1 * (y 1).val = (grid3.coords t 0).val
    rw [BitVec.toNat_ofNat]; omega
  · show 0 * 2058 + 1 * (y 2).val = (y 2).val
    omega
  · show 0 * 128 + 1 * (y 3).val = (y 3).val
    omega

theorem cat_emb1 (t : Fin cfg3.N) (y : S1x1x2048x128.Idx) : ((cfg3.win 1).blk t).view.emb y = (ix4 (grid3.coords t 1) (grid3.coords t 0) (y 2) (y 3) : S4x16x2048x128.Idx) := by
  have y0 : (y 0).val < 1 := (y 0).isLt
  have y1 : (y 1).val < 1 := (y 1).isLt
  have g1 : (grid3.coords t 1).val < 4 := (grid3.coords t 1).isLt
  have g0 : (grid3.coords t 0).val < 16 := (grid3.coords t 0).isLt
  funext a; fin_cases a <;> apply Fin.ext
  · show (BitVec.ofNat 32 (grid3.coords t 1).val).toNat * 1 + 1 * (y 0).val = (grid3.coords t 1).val
    rw [BitVec.toNat_ofNat]; omega
  · show (BitVec.ofNat 32 (grid3.coords t 0).val).toNat * 1 + 1 * (y 1).val = (grid3.coords t 0).val
    rw [BitVec.toNat_ofNat]; omega
  · show 0 * 2048 + 1 * (y 2).val = (y 2).val
    omega
  · show 0 * 128 + 1 * (y 3).val = (y 3).val
    omega

theorem cat_emb0 (t : Fin cfg3.N) (y : S1x10x128.Idx) : ((cfg3.win 0).blk t).view.emb y
    = (ix3 (grid3.coords t 1) (y 1) ⟨128 * (grid3.coords t 0).val + (y 2).val, by
        have g0 : (grid3.coords t 0).val < 16 := (grid3.coords t 0).isLt
        have y2 : (y 2).val < 128 := (y 2).isLt
        omega⟩ : S4x10x2048.Idx) := by
  have y0 : (y 0).val < 1 := (y 0).isLt
  have g1 : (grid3.coords t 1).val < 4 := (grid3.coords t 1).isLt
  have g0 : (grid3.coords t 0).val < 16 := (grid3.coords t 0).isLt
  funext a; fin_cases a <;> apply Fin.ext
  · show (BitVec.ofNat 32 (grid3.coords t 1).val).toNat * 1 + 1 * (y 0).val = (grid3.coords t 1).val
    rw [BitVec.toNat_ofNat]; omega
  · show 0 * 10 + 1 * (y 1).val = (y 1).val
    omega
  · show (BitVec.ofNat 32 (grid3.coords t 0).val).toNat * 128 + 1 * (y 2).val = 128 * (grid3.coords t 0).val + (y 2).val
    rw [BitVec.toNat_ofNat]; omega

theorem datCat_out (V : Dev nD → Valuation τ sig (Elt F)) (n : ℕ) (c : Dev nD) :
    (datCat V n c).arrAt 2 cfg3.N = catArr (entry V cfg3 c 0) (entry V cfg3 c 1) := by
  refine (datCat V n c).arrAt_eq_of_covers 2 _ catCovers fun t hf y => ?_
  have e : ((cfg3.win 2).blk t).view.emb y = _ := cat_emb2 t y
  rw [e]
  show catBlock _ _ y = _
  unfold catBlock catArr
  by_cases h : (y 2).val < 10
  · rw [dif_pos h, dif_pos (by exact h)]
    show entry V cfg3 c 0 (((cfg3.win 0).blk t).view.emb _) = _
    rw [cat_emb0]
    rfl
  · rw [dif_neg h, dif_neg (by exact h)]
    show entry V cfg3 c 1 (((cfg3.win 1).blk t).view.emb _) = _
    rw [cat_emb1]
    rfl

end Cert.Proof
-- ==== Proof.RetrieveBody.lean ====
/-
  The first TensorCore call's body: what it leaves in the blocks of its results.
-/
module

public import proofs.«01_k».proof.Proof.RetrieveParts
public import proofs.«01_k».proof.Proof.ConcatRegion

@[expose] public section

noncomputable section

namespace Cert.Proof

open Cert.KernelIdeal Cert.KernelIdeal.Gen
open Idealize.ShloMosaic
open Idealize.SL Idealize.SL.RA Idealize.SL.BI Idealize.SL.Sem
open Idealize.SL.BI.BIBase Idealize.SL.BI.Laws Idealize.SL.ProofMode

variable {F : FTy → Type} [FloatOps F]

local notation "𝕄" => Mod F

section Out

variable (q : Vec F S4x2048 .f32) (mk mv : Vec F S1000x2048 .f32) (mp : Vec F S1x1000 .f32) (mask : Vec F S4x2048 .f32) (vh : Vec F S64x8x128 .f32)

/-- The keys retrieved. -/
def keysOut : S4x10x2048.Idx → Elt F .f32 := fun y => keyRow q mk (y 1).val (ix3 (y 0) 0 (y 2))

/-- The values retrieved, then the head's first six own rows. -/
def valsOut : S64x16x128.Idx → Elt F .f32 := fun y =>
  if h : (y 1).val < 10 then valRow q mk mv (y 1).val (ix3 (y 0) 0 (y 2))
  else vh (ix3 (y 0) ⟨(y 1).val - 10, by have h1 : (y 1).val < 16 := (y 1).isLt; omega⟩ (y 2))

/-- The places of the sequence, then the positions retrieved. -/
def posOut : S4x2058.Idx → Elt F .f32 := fun y =>
  if h : (y 1).val < 2048 then k0_pay3 (F := F) (ix2 (y 0) ⟨(y 1).val, h⟩) else posCol q mk mp ((y 1).val - 2048) (ix2 (y 0) 0)

/-- Ten ones, then the mask. -/
def maskOut : S4x2058.Idx → Elt F .f32 := fun y =>
  if h : (y 1).val < 10 then k0_pay2 (F := F) (ix2 (y 0) ⟨(y 1).val, h⟩)
  else mask (ix2 (y 0) ⟨(y 1).val - 10, by have h1 : (y 1).val < 2058 := (y 1).isLt; omega⟩)

theorem keyRect_emb (j : Fin 10) (x : S4x1x2048.Idx) : (keyRect j).emb x = ix3 (x 0) j (x 2) := by
  have h1 : (x 1).val < 1 := (x 1).isLt
  funext a; fin_cases a <;> apply Fin.ext
  · show 0 + 1 * (x 0).val = (x 0).val; omega
  · show j.val + 1 * (x 1).val = j.val; omega
  · show 0 + 1 * (x 2).val = (x 2).val; omega

theorem valRect_emb (j : Fin 10) (x : S64x1x128.Idx) : (valRect j).emb x = ix3 (x 0) ⟨j.val, by omega⟩ (x 2) := by
  have h1 : (x 1).val < 1 := (x 1).isLt
  funext a; fin_cases a <;> apply Fin.ext
  · show 0 + 1 * (x 0).val = (x 0).val; omega
  · show j.val + 1 * (x 1).val = j.val; omega
  · show 0 + 1 * (x 2).val = (x 2).val; omega

theorem mem_keyL {n : ℕ} (hn : n ≤ 10) {p : View.Piece (Elt F) S4x10x2048 .f32} :
    p ∈ keyL q mk n ↔ ∃ j : Fin 10, j.val < n ∧ p = ⟨keyRect j, keyRow q mk j.val⟩ := by
  induction n with
  | zero => simp [keyL]
  | succ n ih =>
    have e : (Fin.ofNat 10 n).val = n := Nat.mod_eq_of_lt (by omega)
    rw [keyL, List.mem_cons, ih (by omega)]
    constructor
    · rintro (rfl | ⟨j, hj, rfl⟩)
      · exact ⟨Fin.ofNat 10 n, by omega, by rw [e]⟩
      · exact ⟨j, by omega, rfl⟩
    · rintro ⟨j, hj, rfl⟩
      rcases Nat.lt_succ_iff_lt_or_eq.mp hj with hj | hj
      · exact .inr ⟨j, hj, rfl⟩
      · left
        obtain rfl : j = Fin.ofNat 10 n := Fin.ext (by omega)
        rw [e]

theorem mem_valL {n : ℕ} (hn : n ≤ 10) {p : View.Piece (Elt F) S64x16x128 .f32} :
    p ∈ valL q mk mv n ↔ ∃ j : Fin 10, j.val < n ∧ p = ⟨valRect j, valRow q mk mv j.val⟩ := by
  induction n with
  | zero => simp [valL]
  | succ n ih =>
    have e : (Fin.ofNat 10 n).val = n := Nat.mod_eq_of_lt (by omega)
    rw [valL, List.mem_cons, ih (by omega)]
    constructor
    · rintro (rfl | ⟨j, hj, rfl⟩)
      · exact ⟨Fin.ofNat 10 n, by omega, by rw [e]⟩
      · exact ⟨j, by omega, rfl⟩
    · rintro ⟨j, hj, rfl⟩
      rcases Nat.lt_succ_iff_lt_or_eq.mp hj with hj | hj
      · exact .inr ⟨j, hj, rfl⟩
      · left
        obtain rfl : j = Fin.ofNat 10 n := Fin.ext (by omega)
        rw [e]

variable {q mk mv mp mask vh}

/-- All ten keys stored, the buffer holds the keys retrieved. -/
theorem read_keyL (a6 : Memref sig .tc .vmem S4x10x2048 .f32) (f6 : a6.view.ty.Contents (Elt F)) :
    a6.view.read (Elt F) (a6.view.writes (Elt F) f6 (keyL q mk 10)) = keysOut q mk := by
  funext y
  refine View.read_writes_apply_of_pieces _ _ (keysOut q mk) _ ?_ y ?_
  · intro p hp x
    obtain ⟨j, -, rfl⟩ := (mem_keyL q mk le_rfl).mp hp
    change S4x1x2048.Idx at x
    rw [keyRect_emb]
    show keyRow q mk j.val x = keyRow q mk j.val (ix3 (x 0) 0 (x 2))
    congr 1
    idx_vars x
    rw [Subsingleton.elim x1 0]
  · refine ⟨_, (mem_keyL q mk le_rfl).mpr ⟨y 1, (y 1).isLt, rfl⟩, (keyRect (y 1)).mem_set.mpr fun a => ?_⟩
    have y0 : (y 0).val < 4 := (y 0).isLt
    have y2 : (y 2).val < 2048 := (y 2).isLt
    fin_cases a
    · exact ⟨(y 0).val, y0, by show (y 0).val = 0 + 1 * (y 0).val; omega⟩
    · exact ⟨0, by show 0 < 1; omega, by show (y 1).val = (y 1).val + 1 * 0; omega⟩
    · exact ⟨(y 2).val, y2, by show (y 2).val = 0 + 1 * (y 2).val; omega⟩

/-- The rectangle the head's own six rows are stored in, and the one they are read from. -/
abbrev ownRect : Rect S64x16x128 := Rect.unit (s := S64x16x128) ![0, 10, 0] S64x6x128.size inb_S64x16x128_S64x6x128_0_10_0
abbrev ownSrc : Rect S64x8x128 := Rect.unit (s := S64x8x128) ![0, 0, 0] S64x6x128.size inb_S64x8x128_S64x6x128_0_0_0

theorem read_valL (a5 : Memref sig .tc .vmem S64x8x128 .f32) (f5 : a5.view.ty.Contents (Elt F)) (h5 : a5.view.read (Elt F) f5 = vh)
    (a7 : Memref sig .tc .vmem S64x16x128 .f32) (f7 : a7.view.ty.Contents (Elt F)) :
    a7.view.read (Elt F) (a7.view.writes (Elt F) f7 (⟨ownRect, k0_pay1 (a5.view.readAt (Elt F) ownSrc.toLoadRect f5)⟩ :: valL q mk mv 10)) = valsOut q mk mv vh := by
  funext y
  refine View.read_writes_apply_of_pieces _ _ (valsOut q mk mv vh) _ ?_ y ?_
  · intro p hp x
    rcases List.mem_cons.mp hp with rfl | hp
    · change S64x6x128.Idx at x
      have e : ownRect.emb x = (ix3 (x 0) ⟨10 + (x 1).val, by have h1 : (x 1).val < 6 := (x 1).isLt; omega⟩ (x 2) : S64x16x128.Idx) := by
        funext a; fin_cases a <;> apply Fin.ext
        · show 0 + 1 * (x 0).val = (x 0).val; omega
        · show 10 + 1 * (x 1).val = 10 + (x 1).val; omega
        · show 0 + 1 * (x 2).val = (x 2).val; omega
      rw [e]
      unfold valsOut
      rw [dif_neg (by show ¬ 10 + (x 1).val < 10; omega)]
      show k0_pay1 (a5.view.readAt (Elt F) ownSrc.toLoadRect f5) x = _
      unfold k0_pay1
      rw [shapeCast_self]
      show a5.view.read (Elt F) f5 (ownSrc.emb x) = _
      rw [h5]
      congr 1
      funext a; fin_cases a <;> apply Fin.ext
      · show 0 + 1 * (x 0).val = (x 0).val; omega
      · show 0 + 1 * (x 1).val = 10 + (x 1).val - 10; omega
      · show 0 + 1 * (x 2).val = (x 2).val; omega
    · obtain ⟨j, -, rfl⟩ := (mem_valL q mk mv le_rfl).mp hp
      change S64x1x128.Idx at x
      rw [valRect_emb]
      unfold valsOut
      rw [dif_pos (by exact j.isLt)]
      show valRow q mk mv j.val x = valRow q mk mv j.val (ix3 (x 0) 0 (x 2))
      congr 1
      idx_vars x
      rw [Subsingleton.elim x1 0]
  · have y0 : (y 0).val < 64 := (y 0).isLt
    have y1 : (y 1).val < 16 := (y 1).isLt
    have y2 : (y 2).val < 128 := (y 2).isLt
    by_cases h : (y 1).val < 10
    · refine ⟨_, List.mem_cons_of_mem _ ((mem_valL q mk mv le_rfl).mpr ⟨⟨(y 1).val, h⟩, h, rfl⟩), (valRect ⟨(y 1).val, h⟩).mem_set.mpr fun a => ?_⟩
      fin_cases a
      · exact ⟨(y 0).val, y0, by show (y 0).val = 0 + 1 * (y 0).val; omega⟩
      · exact ⟨0, by show 0 < 1; omega, by show (y 1).val = (y 1).val + 1 * 0; omega⟩
      · exact ⟨(y 2).val, y2, by show (y 2).val = 0 + 1 * (y 2).val; omega⟩
    · refine ⟨_, List.mem_cons_self, ownRect.mem_set.mpr fun a => ?_⟩
      fin_cases a
      · exact ⟨(y 0).val, y0, by show (y 0).val = 0 + 1 * (y 0).val; omega⟩
      · exact ⟨(y 1).val - 10, by show (y 1).val - 10 < 6; omega, by show (y 1).val = 10 + 1 * ((y 1).val - 10); omega⟩
      · exact ⟨(y 2).val, y2, by show (y 2).val = 0 + 1 * (y 2).val; omega⟩

/-- Two blocks of columns side by side: what a row of the two stores leaves. -/
theorem read_cols (a : Memref sig .tc .vmem S4x2058 .f32) (f : a.view.ty.Contents (Elt F)) (k : ℕ)
    {r : Rect S4x2058} {u : r.shape.Idx → Elt F .f32} {r' : Rect S4x2058} {u' : r'.shape.Idx → Elt F .f32}
    (G : S4x2058.Idx → Elt F .f32)
    (hr : ∀ y : S4x2058.Idx, k ≤ (y 1).val → ∃ x, r.emb x = y) (hr' : ∀ y : S4x2058.Idx, (y 1).val < k → ∃ x, r'.emb x = y)
    (hu : ∀ x, u x = G (r.emb x)) (hu' : ∀ x, u' x = G (r'.emb x)) :
    a.view.read (Elt F) (a.view.writes (Elt F) f [⟨r, u⟩, ⟨r', u'⟩]) = G := by
  funext y
  refine View.read_writes_apply_of_pieces _ _ G _ ?_ y ?_
  · intro p hp x
    simp only [List.mem_cons, List.not_mem_nil, or_false] at hp
    rcases hp with rfl | rfl
    · exact hu x
    · exact hu' x
  · by_cases h : (y 1).val < k
    · obtain ⟨x, rfl⟩ := hr' y h
      exact ⟨⟨r', u'⟩, by simp, r'.map_emb_univ ▸ Finset.mem_map_of_mem _ (Finset.mem_univ x)⟩
    · obtain ⟨x, rfl⟩ := hr y (by omega)
      exact ⟨⟨r, u⟩, by simp, r.map_emb_univ ▸ Finset.mem_map_of_mem _ (Finset.mem_univ x)⟩

theorem read_pos (a8 : Memref sig .tc .vmem S4x2058 .f32) (f8 : a8.view.ty.Contents (Elt F)) :
    a8.view.read (Elt F) (a8.view.writes (Elt F) f8 [⟨Rect.unit (s := S4x2058) ![0, 2048] S4x10.size inb_S4x2058_S4x10_0_2048,
      k0_pay4 (posCol q mk mp 0) (posCol q mk mp 1) (posCol q mk mp 2) (posCol q mk mp 3) (posCol q mk mp 4) (posCol q mk mp 5) (posCol q mk mp 6)
        (posCol q mk mp 7) (posCol q mk mp 8) (hereAt q mk 9) (posRows mp) (k0_pay71 (F := F))⟩,
      ⟨Rect.unit (s := S4x2058) ![0, 0] S4x2048.size inb_S4x2058_S4x2048_0_0, k0_pay3 (F := F)⟩]) = posOut q mk mp := by
  have e : ∀ x : S4x10.Idx, (Rect.unit (s := S4x2058) ![0, 2048] S4x10.size inb_S4x2058_S4x10_0_2048).emb x
      = (ix2 (x 0) ⟨2048 + (x 1).val, by have h1 : (x 1).val < 10 := (x 1).isLt; omega⟩ : S4x2058.Idx) := fun x => by
    funext a; fin_cases a <;> apply Fin.ext
    · show 0 + 1 * (x 0).val = (x 0).val; omega
    · show 2048 + 1 * (x 1).val = 2048 + (x 1).val; omega
  have e' : ∀ x : S4x2048.Idx, (Rect.unit (s := S4x2058) ![0, 0] S4x2048.size inb_S4x2058_S4x2048_0_0).emb x
      = (ix2 (x 0) ⟨(x 1).val, by have h1 : (x 1).val < 2048 := (x 1).isLt; omega⟩ : S4x2058.Idx) := fun x => by
    funext a; fin_cases a <;> apply Fin.ext
    · show 0 + 1 * (x 0).val = (x 0).val; omega
    · show 0 + 1 * (x 1).val = (x 1).val; omega
  refine read_cols a8 f8 2048 (posOut q mk mp) (fun y h => ?_) (fun y h => ?_) (fun x => ?_) (fun x => ?_)
  · refine ⟨(ix2 (y 0) ⟨(y 1).val - 2048, by have h1 : (y 1).val < 2058 := (y 1).isLt; omega⟩ : S4x10.Idx), (e _).trans ?_⟩
    funext a; fin_cases a <;> apply Fin.ext
    · rfl
    · show 2048 + ((y 1).val - 2048) = (y 1).val; omega
  · refine ⟨(ix2 (y 0) ⟨(y 1).val, h⟩ : S4x2048.Idx), (e' _).trans ?_⟩
    funext a; fin_cases a <;> rfl
  · change S4x10.Idx at x
    rw [e]
    unfold posOut
    rw [dif_neg (by show ¬ 2048 + (x 1).val < 2048; omega)]
    show _ = posCol q mk mp (2048 + (x 1).val - 2048) (ix2 (x 0) 0)
    rw [Nat.add_sub_cancel_left]
    show k0_pay4 (posCol q mk mp 0) (posCol q mk mp 1) (posCol q mk mp 2) (posCol q mk mp 3) (posCol q mk mp 4) (posCol q mk mp 5) (posCol q mk mp 6)
        (posCol q mk mp 7) (posCol q mk mp 8) (hereAt q mk 9) (posRows mp) (k0_pay71 (F := F)) x = _
    rw [show k0_pay4 (posCol q mk mp 0) (posCol q mk mp 1) (posCol q mk mp 2) (posCol q mk mp 3) (posCol q mk mp 4) (posCol q mk mp 5) (posCol q mk mp 6)
        (posCol q mk mp 7) (posCol q mk mp 8) (hereAt q mk 9) (posRows mp) (k0_pay71 (F := F)) = concatenate S4x10 1 [⟨S4x1, posCol q mk mp 0⟩, ⟨S4x1, posCol q mk mp 1⟩, ⟨S4x1, posCol q mk mp 2⟩, ⟨S4x1, posCol q mk mp 3⟩, ⟨S4x1, posCol q mk mp 4⟩, ⟨S4x1, posCol q mk mp 5⟩, ⟨S4x1, posCol q mk mp 6⟩, ⟨S4x1, posCol q mk mp 7⟩, ⟨S4x1, posCol q mk mp 8⟩, ⟨S4x1, posCol q mk mp 9⟩] concatenates_S4x1_S4x1_S4x1_S4x1_S4x1_S4x1_S4x1_S4x1_S4x1_S4x1_S4x10_d1 from rfl]
    idx_vars x
    pointwise
    fin_vals x1 with hk
    all_goals simp only [hk, Nat.reduceSub, Nat.reduceLT, ↓reduceDIte]

    all_goals rfl
  · change S4x2048.Idx at x
    rw [e']
    unfold posOut
    rw [dif_pos (by exact (x 1).isLt)]
    show k0_pay3 (F := F) x = k0_pay3 (F := F) (ix2 (x 0) (x 1))
    rw [← eq_ix2]

theorem read_mask (a9 : Memref sig .tc .vmem S4x2058 .f32) (f9 : a9.view.ty.Contents (Elt F)) :
    a9.view.read (Elt F) (a9.view.writes (Elt F) f9 [⟨Rect.unit (s := S4x2058) ![0, 10] S4x2048.size inb_S4x2058_S4x2048_0_10, mask⟩,
      ⟨Rect.unit (s := S4x2058) ![0, 0] S4x10.size inb_S4x2058_S4x10_0_0, k0_pay2 (F := F)⟩]) = maskOut mask := by
  have e : ∀ x : S4x2048.Idx, (Rect.unit (s := S4x2058) ![0, 10] S4x2048.size inb_S4x2058_S4x2048_0_10).emb x
      = (ix2 (x 0) ⟨10 + (x 1).val, by have h1 : (x 1).val < 2048 := (x 1).isLt; omega⟩ : S4x2058.Idx) := fun x => by
    funext a; fin_cases a <;> apply Fin.ext
    · show 0 + 1 * (x 0).val = (x 0).val; omega
    · show 10 + 1 * (x 1).val = 10 + (x 1).val; omega
  have e' : ∀ x : S4x10.Idx, (Rect.unit (s := S4x2058) ![0, 0] S4x10.size inb_S4x2058_S4x10_0_0).emb x
      = (ix2 (x 0) ⟨(x 1).val, by have h1 : (x 1).val < 10 := (x 1).isLt; omega⟩ : S4x2058.Idx) := fun x => by
    funext a; fin_cases a <;> apply Fin.ext
    · show 0 + 1 * (x 0).val = (x 0).val; omega
    · show 0 + 1 * (x 1).val = (x 1).val; omega
  refine read_cols a9 f9 10 (maskOut mask) (fun y h => ?_) (fun y h => ?_) (fun x => ?_) (fun x => ?_)
  · refine ⟨(ix2 (y 0) ⟨(y 1).val - 10, by have h1 : (y 1).val < 2058 := (y 1).isLt; omega⟩ : S4x2048.Idx), (e _).trans ?_⟩
    funext a; fin_cases a <;> apply Fin.ext
    · rfl
    · show 10 + ((y 1).val - 10) = (y 1).val; omega
  · refine ⟨(ix2 (y 0) ⟨(y 1).val, h⟩ : S4x10.Idx), (e' _).trans ?_⟩
    funext a; fin_cases a <;> rfl
  · change S4x2048.Idx at x
    rw [e]
    unfold maskOut
    rw [dif_neg (by show ¬ 10 + (x 1).val < 10; omega)]
    show mask x = mask (ix2 (x 0) ⟨10 + (x 1).val - 10, _⟩)
    congr 1
    funext a; fin_cases a <;> apply Fin.ext
    · rfl
    · show (x 1).val = 10 + (x 1).val - 10; omega
  · change S4x10.Idx at x
    rw [e']
    unfold maskOut
    rw [dif_pos (by exact (x 1).isLt)]
    show k0_pay2 (F := F) x = k0_pay2 (F := F) (ix2 (x 0) (x 1))
    rw [← eq_ix2]

end Out

end Cert.Proof
-- ==== Proof.RetrieveRegion.lean ====
/-
  The first TensorCore call: its body as a whole, its proof data, and the arrays it leaves.
-/
module

public import proofs.«01_k».proof.Proof.RetrieveBody
public import proofs.«01_k».proof.Proof.ConcatRegion

@[expose] public section

noncomputable section

namespace Cert.Proof

open Cert.KernelIdeal Cert.KernelIdeal.Gen
open Idealize.ShloMosaic
open Idealize.ShloMosaic.SparseCore.Cfg (HIx)
open Idealize.ShloMosaic.Pipeline
open Idealize.SL Idealize.SL.RA Idealize.SL.BI Idealize.SL.Sem
open Idealize.SL.BI.BIBase Idealize.SL.BI.Laws Idealize.SL.ProofMode

variable {F : FTy → Type} [FloatOps F]

local notation "𝕄" => Mod F

section Body

variable (c : Dev nD)
  (a0 : Memref sig .tc .vmem S4x2048 .f32) (h0 : a0.IsWhole)
  (a1 : Memref sig .tc .vmem S1000x2048 .f32) (h1 : a1.IsWhole)
  (a2 : Memref sig .tc .vmem S1000x2048 .f32) (h2 : a2.IsWhole)
  (a3 : Memref sig .tc .vmem S1x1000 .f32) (h3 : a3.IsWhole)
  (a4 : Memref sig .tc .vmem S4x2048 .f32) (h4 : a4.IsWhole)
  (a5 : Memref sig .tc .vmem S64x8x128 .f32) (h5 : a5.IsWhole)
  (a6 : Memref sig .tc .vmem S4x10x2048 .f32) (h6 : a6.IsWhole)
  (a7 : Memref sig .tc .vmem S64x16x128 .f32) (h7 : a7.IsWhole)
  (a8 : Memref sig .tc .vmem S4x2058 .f32) (h8 : a8.IsWhole)
  (a9 : Memref sig .tc .vmem S4x2058 .f32) (h9 : a9.IsWhole)
  (q : Vec F S4x2048 .f32) (mk mv : Vec F S1000x2048 .f32) (mp : Vec F S1x1000 .f32) (mask : Vec F S4x2048 .f32) (vh : Vec F S64x8x128 .f32)

theorem part1_wp {f0 : a0.view.ty.Contents (Elt F)} {f1 : a1.view.ty.Contents (Elt F)} {f2 : a2.view.ty.Contents (Elt F)} {f3 : a3.view.ty.Contents (Elt F)}
    (f6 : a6.view.ty.Contents (Elt F)) (f7 : a7.view.ty.Contents (Elt F))
    (hq : a0.view.read (Elt F) f0 = q) (hmk : a1.view.read (Elt F) f1 = mk) (hmv : a2.view.read (Elt F) f2 = mv) (hmp : a3.view.read (Elt F) f3 = mp) :
    (iprop((a0.view.loc c.tc ↦[a0.view.set]{fullShare} f0) ∗ (a1.view.loc c.tc ↦[a1.view.set]{fullShare} f1) ∗ (a2.view.loc c.tc ↦[a2.view.set]{fullShare} f2)
        ∗ (a3.view.loc c.tc ↦[a3.view.set]{fullShare} f3) ∗ filled c a6 a7 q mk mv f6 f7 0 0) : sProp 𝕄)
      ⊢ wp frame (wpE (defs₀ (F := F)) 𝒱₀ c.tc none) Set.univ (k0_part1 a0 h0 a1 h1 a2 h2 a3 h3 a4 h4 a5 h5 a6 h6 a7 h7 a8 h8 a9 h9)
        fun r => iprop(⌜r = ⟨mk, mv, curAt q mk 0, ids, k0_pay6 mp, hereAt q mk 0, oneAt q mk 0, keyRow q mk 0⟩⌝
          ∗ (a0.view.loc c.tc ↦[a0.view.set]{fullShare} f0) ∗ (a1.view.loc c.tc ↦[a1.view.set]{fullShare} f1) ∗ (a2.view.loc c.tc ↦[a2.view.set]{fullShare} f2)
          ∗ (a3.view.loc c.tc ↦[a3.view.set]{fullShare} f3) ∗ filled c a6 a7 q mk mv f6 f7 0 0) := by
  unfold filled
  iintro ⟨H0, H1, H2, H3, H6, H7⟩
  rw [k0_part1_eq_skeleton]
  unfold k0_part1_skel
  simp only [Prog.lift, Prog.bind_op, Prog.bind_ret, Prog.pure_eq_ret]
  iapply (wp_load 𝒱₀ c.tc none Set.univ (m := a0) (by rw [h0.set_eq_univ]; exact Finset.subset_univ _)) $$ H0; iintro H0
  iapply (wp_load 𝒱₀ c.tc none Set.univ (m := a1) (by rw [h1.set_eq_univ]; exact Finset.subset_univ _)) $$ H1; iintro H1
  iapply (wp_load 𝒱₀ c.tc none Set.univ (m := a2) (by rw [h2.set_eq_univ]; exact Finset.subset_univ _)) $$ H2; iintro H2
  iapply (wp_load 𝒱₀ c.tc none Set.univ (m := a3) (by rw [h3.set_eq_univ]; exact Finset.subset_univ _)) $$ H3; iintro H3
  iapply (wp_load 𝒱₀ c.tc none Set.univ (m := a6) (by rw [h6.set_eq_univ]; exact Finset.subset_univ _)) $$ H6; iintro H6
  rw [wp_ret]; imodintro
  isplitr
  · ipureintro
    rw [readAt_all a0 f0 (by intro a; fin_cases a <;> rfl), readAt_all a1 f1 (by intro a; fin_cases a <;> rfl), readAt_all a2 f2 (by intro a; fin_cases a <;> rfl),
      readAt_all a3 f3 (by intro a; fin_cases a <;> rfl), hq, hmk, hmv, hmp]
    rfl
  isplitl [H0]; · iexact H0
  isplitl [H1]; · iexact H1
  isplitl [H2]; · iexact H2
  isplitl [H3]; · iexact H3
  isplitl [H6]; · iexact H6
  iexact H7

/-- The body leaves its operands' blocks as they were and, in its results' blocks, the rows of the memory it retrieves. -/
theorem retrieve_body :
    (iprop(owns c.tc a0 fullShare q ∗ owns c.tc a1 fullShare mk ∗ owns c.tc a2 fullShare mv ∗ owns c.tc a3 fullShare mp ∗ owns c.tc a4 fullShare mask ∗ owns c.tc a5 fullShare vh
        ∗ (∃ Z, owns c.tc a6 fullShare Z) ∗ (∃ Z, owns c.tc a7 fullShare Z) ∗ (∃ Z, owns c.tc a8 fullShare Z) ∗ ∃ Z, owns c.tc a9 fullShare Z) : sProp 𝕄)
      ⊢ wp frame (wpE (defs₀ (F := F)) 𝒱₀ c.tc none) Set.univ (cc0__retrieve_body a0 h0 a1 h1 a2 h2 a3 h3 a4 h4 a5 h5 a6 h6 a7 h7 a8 h8 a9 h9) fun _ =>
        iprop(owns c.tc a0 fullShare q ∗ owns c.tc a1 fullShare mk ∗ owns c.tc a2 fullShare mv ∗ owns c.tc a3 fullShare mp ∗ owns c.tc a4 fullShare mask ∗ owns c.tc a5 fullShare vh
          ∗ owns c.tc a6 fullShare (keysOut q mk) ∗ owns c.tc a7 fullShare (valsOut q mk mv vh) ∗ owns c.tc a8 fullShare (posOut q mk mp) ∗ owns c.tc a9 fullShare (maskOut mask)) := by
  unfold owns
  iintro ⟨⟨%f0, %e0, H0⟩, ⟨%f1, %e1, H1⟩, ⟨%f2, %e2, H2⟩, ⟨%f3, %e3, H3⟩, ⟨%f4, %e4, H4⟩, ⟨%f5, %e5, H5⟩,
    ⟨%Z6, %f6, %e6, H6⟩, ⟨%Z7, %f7, %e7, H7⟩, ⟨%Z8, %f8, %e8, H8⟩, ⟨%Z9, %f9, %e9, H9⟩⟩
  ihave HF : filled c a6 a7 q mk mv f6 f7 0 0 $$ [H6 H7]
  · unfold filled
    isplitl [H6]; · iexact H6
    iexact H7
  rw [cc0__retrieve_body_eq_skeleton]
  unfold cc0__retrieve_body_skel
  rw [wp_bind]
  iapply (wp_wand_r _ _ _)
  isplitl [H0 H1 H2 H3 HF]
  · iapply (part1_wp c a0 h0 a1 h1 a2 h2 a3 h3 a4 h4 a5 h5 a6 h6 a7 h7 a8 h8 a9 h9 q mk mv mp f6 f7 e0 e1 e2 e3)
    isplitl [H0]; · iexact H0
    isplitl [H1]; · iexact H1
    isplitl [H2]; · iexact H2
    isplitl [H3]; · iexact H3
    iexact HF
  iintro %r1 ⟨%g1, H0, H1, H2, H3, HF⟩
  subst g1
  dsimp only
  rw [wp_bind]
  iapply (wp_wand_r _ _ _)
  isplitl [HF]
  · iapply (part2_wp c a0 h0 a1 h1 a2 h2 a3 h3 a4 h4 a5 h5 a6 h6 a7 h7 a8 h8 a9 h9 q mk mv mp f6 f7)
    iexact HF
  iintro %r2 ⟨%g2, HF⟩
  subst g2
  dsimp only
  rw [wp_bind]
  iapply (wp_wand_r _ _ _)
  isplitl [HF]
  · iapply (part3_wp c a0 h0 a1 h1 a2 h2 a3 h3 a4 h4 a5 h5 a6 h6 a7 h7 a8 h8 a9 h9 q mk mv mp f6 f7)
    iexact HF
  iintro %r3 ⟨%g3, HF⟩
  subst g3
  dsimp only
  rw [wp_bind]
  iapply (wp_wand_r _ _ _)
  isplitl [HF]
  · iapply (part4_wp c a0 h0 a1 h1 a2 h2 a3 h3 a4 h4 a5 h5 a6 h6 a7 h7 a8 h8 a9 h9 q mk mv mp f6 f7)
    iexact HF
  iintro %r4 ⟨%g4, HF⟩
  subst g4
  dsimp only
  rw [wp_bind]
  iapply (wp_wand_r _ _ _)
  isplitl [HF]
  · iapply (part5_wp c a0 h0 a1 h1 a2 h2 a3 h3 a4 h4 a5 h5 a6 h6 a7 h7 a8 h8 a9 h9 q mk mv mp f6 f7)
    iexact HF
  iintro %r5 ⟨%g5, HF⟩
  subst g5
  dsimp only
  rw [wp_bind]
  iapply (wp_wand_r _ _ _)
  isplitl [HF]
  · iapply (part6_wp c a0 h0 a1 h1 a2 h2 a3 h3 a4 h4 a5 h5 a6 h6 a7 h7 a8 h8 a9 h9 q mk mv mp f6 f7)
    iexact HF
  iintro %r6 ⟨%g6, HF⟩
  subst g6
  dsimp only
  rw [wp_bind]
  iapply (wp_wand_r _ _ _)
  isplitl [HF]
  · iapply (part7_wp c a0 h0 a1 h1 a2 h2 a3 h3 a4 h4 a5 h5 a6 h6 a7 h7 a8 h8 a9 h9 q mk mv mp f6 f7)
    iexact HF
  iintro %r7 ⟨%g7, HF⟩
  subst g7
  dsimp only
  rw [wp_bind]
  iapply (wp_wand_r _ _ _)
  isplitl [HF]
  · iapply (part8_wp c a0 h0 a1 h1 a2 h2 a3 h3 a4 h4 a5 h5 a6 h6 a7 h7 a8 h8 a9 h9 q mk mv mp f6 f7)
    iexact HF
  iintro %r8 ⟨%g8, HF⟩
  subst g8
  dsimp only
  unfold filled
  icases HF with ⟨H6, H7⟩
  simp only [Prog.lift, Prog.bind_op, Prog.bind_ret, Prog.pure_eq_ret]
  iapply (wp_load 𝒱₀ c.tc none Set.univ (m := a5) (by rw [h5.set_eq_univ]; exact Finset.subset_univ _)) $$ H5; iintro H5
  iapply (wp_load 𝒱₀ c.tc none Set.univ (m := a7) (by rw [h7.set_eq_univ]; exact Finset.subset_univ _)) $$ H7; iintro H7
  iapply (wp_store_writes 𝒱₀ c.tc none Set.univ (m := a7) (by rw [h7.set_eq_univ]; exact Finset.subset_univ _)) $$ H7; iintro H7
  iapply (wp_load 𝒱₀ c.tc none Set.univ (m := a9) (by rw [h9.set_eq_univ]; exact Finset.subset_univ _)) $$ H9; iintro H9
  iapply (wp_store_writes₀ 𝒱₀ c.tc none Set.univ (m := a9) (by rw [h9.set_eq_univ]; exact Finset.subset_univ _)) $$ H9; iintro H9
  iapply (wp_load 𝒱₀ c.tc none Set.univ (m := a4) (by rw [h4.set_eq_univ]; exact Finset.subset_univ _)) $$ H4; iintro H4
  iapply (wp_load 𝒱₀ c.tc none Set.univ (m := a9) (by rw [h9.set_eq_univ]; exact Finset.subset_univ _)) $$ H9; iintro H9
  iapply (wp_store_writes 𝒱₀ c.tc none Set.univ (m := a9) (by rw [h9.set_eq_univ]; exact Finset.subset_univ _)) $$ H9; iintro H9
  iapply (wp_load 𝒱₀ c.tc none Set.univ (m := a8) (by rw [h8.set_eq_univ]; exact Finset.subset_univ _)) $$ H8; iintro H8
  iapply (wp_store_writes₀ 𝒱₀ c.tc none Set.univ (m := a8) (by rw [h8.set_eq_univ]; exact Finset.subset_univ _)) $$ H8; iintro H8
  iapply (wp_load 𝒱₀ c.tc none Set.univ (m := a8) (by rw [h8.set_eq_univ]; exact Finset.subset_univ _)) $$ H8; iintro H8
  iapply (wp_store_writes 𝒱₀ c.tc none Set.univ (m := a8) (by rw [h8.set_eq_univ]; exact Finset.subset_univ _)) $$ H8; iintro H8
  rw [wp_ret]; imodintro
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists _; isplitr; rotate_left; · iexact H6
                  ipureintro; exact read_keyL a6 f6
  isplitl [H7]; · iexists _; isplitr; rotate_left; · iexact H7
                  ipureintro; exact read_valL a5 f5 e5 a7 f7
  isplitl [H8]; · iexists _; isplitr; rotate_left; · iexact H8
                  ipureintro; exact read_pos a8 f8
  iexists _; isplitr; rotate_left; · iexact H9
  ipureintro
  rw [readAt_all a4 f4 (by intro a; fin_cases a <;> rfl), e4]
  exact read_mask a9 f9

end Body

/-- The call's proof data: each operand's block is what a fetch puts there, the results' what the body leaves. -/
def datRet (V : Dev nD → Valuation τ sig (Elt F)) (n : ℕ) (c : Dev nD) : Dat τ (Elt F) (HIx 1) ℕ UU ℕ cfg0 c where
  A w := entry V cfg0 c w
  after w t := match w with
    | 0 => ((cfg0.win 0).blk t).view.read (Elt F) (entry V cfg0 c 0)
    | 1 => ((cfg0.win 1).blk t).view.read (Elt F) (entry V cfg0 c 1)
    | 2 => ((cfg0.win 2).blk t).view.read (Elt F) (entry V cfg0 c 2)
    | 3 => ((cfg0.win 3).blk t).view.read (Elt F) (entry V cfg0 c 3)
    | 4 => ((cfg0.win 4).blk t).view.read (Elt F) (entry V cfg0 c 4)
    | 5 => ((cfg0.win 5).blk t).view.read (Elt F) (entry V cfg0 c 5)
    | 6 => keysOut (((cfg0.win 0).blk t).view.read (Elt F) (entry V cfg0 c 0)) (((cfg0.win 1).blk t).view.read (Elt F) (entry V cfg0 c 1))
    | 7 => valsOut (((cfg0.win 0).blk t).view.read (Elt F) (entry V cfg0 c 0)) (((cfg0.win 1).blk t).view.read (Elt F) (entry V cfg0 c 1)) (((cfg0.win 2).blk t).view.read (Elt F) (entry V cfg0 c 2)) (((cfg0.win 5).blk t).view.read (Elt F) (entry V cfg0 c 5))
    | 8 => posOut (((cfg0.win 0).blk t).view.read (Elt F) (entry V cfg0 c 0)) (((cfg0.win 1).blk t).view.read (Elt F) (entry V cfg0 c 1)) (((cfg0.win 3).blk t).view.read (Elt F) (entry V cfg0 c 3))
    | 9 => maskOut (((cfg0.win 4).blk t).view.read (Elt F) (entry V cfg0 c 4))
    | ⟨_ + 10, h⟩ => absurd h (Nat.not_lt.2 (Nat.le_add_left _ _))
  Φ _ := scopedRest cfg0.spec c
  q _ := fullShare
  owed _ := (K (F := F)).Otc c n
  recorded _ := below (F := F) c n

variable (V : Dev nD → Valuation τ sig (Elt F)) (n : ℕ) (c : Dev nD)

theorem datRet_before0 (t : Fin cfg0.N) (d) : (datRet V n c).before 0 t d = ((cfg0.win 0).blk t).view.read (Elt F) (entry V cfg0 c 0) :=
  (Dat.before_fetched (datRet V n c) 0 t (fetch0_0 t) d).trans rfl

theorem datRet_before1 (t : Fin cfg0.N) (d) : (datRet V n c).before 1 t d = ((cfg0.win 1).blk t).view.read (Elt F) (entry V cfg0 c 1) :=
  (Dat.before_fetched (datRet V n c) 1 t (fetch0_1 t) d).trans rfl

theorem datRet_before2 (t : Fin cfg0.N) (d) : (datRet V n c).before 2 t d = ((cfg0.win 2).blk t).view.read (Elt F) (entry V cfg0 c 2) :=
  (Dat.before_fetched (datRet V n c) 2 t (fetch0_2 t) d).trans rfl

theorem datRet_before3 (t : Fin cfg0.N) (d) : (datRet V n c).before 3 t d = ((cfg0.win 3).blk t).view.read (Elt F) (entry V cfg0 c 3) :=
  (Dat.before_fetched (datRet V n c) 3 t (fetch0_3 t) d).trans rfl

theorem datRet_before4 (t : Fin cfg0.N) (d) : (datRet V n c).before 4 t d = ((cfg0.win 4).blk t).view.read (Elt F) (entry V cfg0 c 4) :=
  (Dat.before_fetched (datRet V n c) 4 t (fetch0_4 t) d).trans rfl

theorem datRet_before5 (t : Fin cfg0.N) (d) : (datRet V n c).before 5 t d = ((cfg0.win 5).blk t).view.read (Elt F) (entry V cfg0 c 5) :=
  (Dat.before_fetched (datRet V n c) 5 t (fetch0_5 t) d).trans rfl

theorem datRet_body : BodyObligationLoose (datRet V n c) (defs₀ (F := F)) 𝒱₀ none Set.univ := by
  intro t
  show _ ⊢ wp _ _ _ (bodyAt0 (F := F) t) _
  rw [bigSep_W0, bigSep_W0]
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hb := retrieve_body (F := F) c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0)
    (((cfg0.win 0).blk t).view.read (Elt F) (entry V cfg0 c 0)) (((cfg0.win 1).blk t).view.read (Elt F) (entry V cfg0 c 1)) (((cfg0.win 2).blk t).view.read (Elt F) (entry V cfg0 c 2)) (((cfg0.win 3).blk t).view.read (Elt F) (entry V cfg0 c 3)) (((cfg0.win 4).blk t).view.read (Elt F) (entry V cfg0 c 4)) (((cfg0.win 5).blk t).view.read (Elt F) (entry V cfg0 c 5))
  rw [datRet_before0 V n c t d0, datRet_before1 V n c t d1, datRet_before2 V n c t d2, datRet_before3 V n c t d3, datRet_before4 V n c t d4, datRet_before5 V n c t d5]
  iapply (wp_wand_r _ _ _)
  isplitl [H0 H1 H2 H3 H4 H5 H6 H7 H8 H9]
  · iapply hb
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iexists _; iexact H9
  · iintro %u ⟨H0, H1, H2, H3, H4, H5, H6, H7, H8, H9⟩
    isplitl [HP]; · rw [show (datRet V n c).Φ t.succ = (datRet V n c).Φ t.castSucc from rfl]; iexact HP
    isplitl [HO]; · rw [show (datRet V n c).owesAt none t.succ = (datRet V n c).owesAt none t.castSucc from rfl]; iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem whole0_6 : (cfg0.win 6).WholeAt t0_0 := by decide +kernel

theorem whole0_7 : (cfg0.win 7).WholeAt t0_0 := by decide +kernel

theorem whole0_8 : (cfg0.win 8).WholeAt t0_0 := by decide +kernel

theorem whole0_9 : (cfg0.win 9).WholeAt t0_0 := by decide +kernel

/-- The block of operand 0 is its whole array. -/
theorem ret_blk0 (t : Fin cfg0.N) (G : S4x2048.Idx → Elt F .f32) : ((cfg0.win 0).blk t).view.read (Elt F) G = G := by
  funext y
  show G (((cfg0.win 0).blk t).view.emb y) = G y
  congr 1
  funext a; fin_cases a <;> apply Fin.ext <;> show 0 * _ + 1 * (y _).val = (y _).val <;> omega

/-- The block of operand 1 is its whole array. -/
theorem ret_blk1 (t : Fin cfg0.N) (G : S1000x2048.Idx → Elt F .f32) : ((cfg0.win 1).blk t).view.read (Elt F) G = G := by
  funext y
  show G (((cfg0.win 1).blk t).view.emb y) = G y
  congr 1
  funext a; fin_cases a <;> apply Fin.ext <;> show 0 * _ + 1 * (y _).val = (y _).val <;> omega

/-- The block of operand 2 is its whole array. -/
theorem ret_blk2 (t : Fin cfg0.N) (G : S1000x2048.Idx → Elt F .f32) : ((cfg0.win 2).blk t).view.read (Elt F) G = G := by
  funext y
  show G (((cfg0.win 2).blk t).view.emb y) = G y
  congr 1
  funext a; fin_cases a <;> apply Fin.ext <;> show 0 * _ + 1 * (y _).val = (y _).val <;> omega

/-- The block of operand 3 is its whole array. -/
theorem ret_blk3 (t : Fin cfg0.N) (G : S1x1000.Idx → Elt F .f32) : ((cfg0.win 3).blk t).view.read (Elt F) G = G := by
  funext y
  show G (((cfg0.win 3).blk t).view.emb y) = G y
  congr 1
  funext a; fin_cases a <;> apply Fin.ext <;> show 0 * _ + 1 * (y _).val = (y _).val <;> omega

/-- The block of operand 4 is its whole array. -/
theorem ret_blk4 (t : Fin cfg0.N) (G : S4x2048.Idx → Elt F .f32) : ((cfg0.win 4).blk t).view.read (Elt F) G = G := by
  funext y
  show G (((cfg0.win 4).blk t).view.emb y) = G y
  congr 1
  funext a; fin_cases a <;> apply Fin.ext <;> show 0 * _ + 1 * (y _).val = (y _).val <;> omega

/-- The block of operand 5 is its whole array. -/
theorem ret_blk5 (t : Fin cfg0.N) (G : S64x8x128.Idx → Elt F .f32) : ((cfg0.win 5).blk t).view.read (Elt F) G = G := by
  funext y
  show G (((cfg0.win 5).blk t).view.emb y) = G y
  congr 1
  funext a; fin_cases a <;> apply Fin.ext <;> show 0 * _ + 1 * (y _).val = (y _).val <;> omega

theorem datRet_out6 : (datRet V n c).arrAt 6 cfg0.N = keysOut (entry V cfg0 c 0) (entry V cfg0 c 1) := by
  refine (datRet V n c).arrAt_eq_of_after_last 6 t0_0 whole0_6 _ fun y => ?_
  show keysOut (((cfg0.win 0).blk t0_0).view.read (Elt F) (entry V cfg0 c 0)) (((cfg0.win 1).blk t0_0).view.read (Elt F) (entry V cfg0 c 1)) _ = _
  rw [ret_blk0 t0_0 (entry V cfg0 c 0), ret_blk1 t0_0 (entry V cfg0 c 1)]
  rfl

theorem datRet_out7 : (datRet V n c).arrAt 7 cfg0.N = valsOut (entry V cfg0 c 0) (entry V cfg0 c 1) (entry V cfg0 c 2) (entry V cfg0 c 5) := by
  refine (datRet V n c).arrAt_eq_of_after_last 7 t0_0 whole0_7 _ fun y => ?_
  show valsOut (((cfg0.win 0).blk t0_0).view.read (Elt F) (entry V cfg0 c 0)) (((cfg0.win 1).blk t0_0).view.read (Elt F) (entry V cfg0 c 1)) (((cfg0.win 2).blk t0_0).view.read (Elt F) (entry V cfg0 c 2)) (((cfg0.win 5).blk t0_0).view.read (Elt F) (entry V cfg0 c 5)) _ = _
  rw [ret_blk0 t0_0 (entry V cfg0 c 0), ret_blk1 t0_0 (entry V cfg0 c 1), ret_blk2 t0_0 (entry V cfg0 c 2), ret_blk5 t0_0 (entry V cfg0 c 5)]
  rfl

theorem datRet_out8 : (datRet V n c).arrAt 8 cfg0.N = posOut (entry V cfg0 c 0) (entry V cfg0 c 1) (entry V cfg0 c 3) := by
  refine (datRet V n c).arrAt_eq_of_after_last 8 t0_0 whole0_8 _ fun y => ?_
  show posOut (((cfg0.win 0).blk t0_0).view.read (Elt F) (entry V cfg0 c 0)) (((cfg0.win 1).blk t0_0).view.read (Elt F) (entry V cfg0 c 1)) (((cfg0.win 3).blk t0_0).view.read (Elt F) (entry V cfg0 c 3)) _ = _
  rw [ret_blk0 t0_0 (entry V cfg0 c 0), ret_blk1 t0_0 (entry V cfg0 c 1), ret_blk3 t0_0 (entry V cfg0 c 3)]
  rfl

theorem datRet_out9 : (datRet V n c).arrAt 9 cfg0.N = maskOut (entry V cfg0 c 4) := by
  refine (datRet V n c).arrAt_eq_of_after_last 9 t0_0 whole0_9 _ fun y => ?_
  show maskOut (((cfg0.win 4).blk t0_0).view.read (Elt F) (entry V cfg0 c 4)) _ = _
  rw [ret_blk4 t0_0 (entry V cfg0 c 4)]
  rfl

end Cert.Proof
-- ==== Proof.TailProgram.lean ====
/-
  The tail call's program: 64 copies started on one semaphore, then 64 waits, one of each per head and batch.
-/
module

public import proofs.«01_k».proof.Proof.Common

@[expose] public section

noncomputable section

namespace Cert.Proof

open Cert.KernelIdeal Cert.KernelIdeal.Gen
open Idealize.ShloMosaic
open Idealize.SL Idealize.SL.RA Idealize.SL.BI Idealize.SL.Sem
open Idealize.SL.BI.BIBase Idealize.SL.BI.Laws Idealize.SL.ProofMode

variable {F : FTy → Type} [FloatOps F]

theorem inb_new (t : ℕ) : ∀ a, (![t / 16 % 4, t % 16, 2056, 0] : Fin 4 → ℕ) a + S1x1x2x128.size a ≤ S4x16x2058x128.size a := by
  intro a; fin_cases a
  · show t / 16 % 4 + 1 ≤ 4; omega
  · show t % 16 + 1 ≤ 16; omega
  · show 2056 + 2 ≤ 2058; omega
  · show 0 + 128 ≤ 128; omega

theorem inb_old (t : ℕ) : ∀ a, (![t / 16 % 4, t % 16, 6, 0] : Fin 4 → ℕ) a + S1x1x2x128.size a ≤ S4x16x8x128.size a := by
  intro a; fin_cases a
  · show t / 16 % 4 + 1 ≤ 4; omega
  · show t % 16 + 1 ≤ 16; omega
  · show 6 + 2 ≤ 8; omega
  · show 0 + 128 ≤ 128; omega

/-- The two last rows of head `t` of the result. -/
abbrev tailDst (t : ℕ) : Memref sig .tc .hbm S2x128 .f32 :=
  ((Memref.whole main_v9).slice (Rect.unit (s := S4x16x2058x128) ![t / 16 % 4, t % 16, 2056, 0] S1x1x2x128.size (inb_new t)) (fun _ => rfl)).squeeze S2x128 squeezes_S1x1x2x128_S2x128

/-- The two last of the eight rows of head `t` taken from the values. -/
abbrev tailSrc (t : ℕ) : Memref sig .tc .hbm S2x128 .f32 :=
  ((Memref.whole main_v8).slice (Rect.unit (s := S4x16x8x128) ![t / 16 % 4, t % 16, 6, 0] S1x1x2x128.size (inb_old t)) (fun _ => rfl)).squeeze S2x128 squeezes_S1x1x2x128_S2x128

/-- The copies of the heads from `t` on, `n` of them, started. -/
def starts : ℕ → ℕ → Prog (TpuEff nD τ sig (Elt F) Λ₀ .tc) PUnit → Prog (TpuEff nD τ sig (Elt F) Λ₀ .tc) PUnit
  | _, 0, k => k
  | t, n + 1, k => .op (.enqueueDma (tailSrc t) (.here (tailDst t)) (.dma cc2_scratch0.sem) ((View.wordExact_bits rfl).reshape _ _) ((View.wordExact_bits rfl).reshape _ _) ⟨Or.inl rfl, trivial⟩)
      fun _ => starts (t + 1) n k

/-- The waits for the copies of the heads from `t` on, `n` of them. -/
def waits : ℕ → ℕ → Prog (TpuEff nD τ sig (Elt F) Λ₀ .tc) PUnit → Prog (TpuEff nD τ sig (Elt F) Λ₀ .tc) PUnit
  | _, 0, k => k
  | t, n + 1, k => .op (.waitDma2 cc2_scratch0.sem (tailSrc t) (tailDst t) ((View.wordExact_bits rfl).reshape _ _) ((View.wordExact_bits rfl).reshape _ _))
      fun _ => waits (t + 1) n k

set_option maxRecDepth 65536 in
theorem tail_eq : cc2__v_tail_body (F := F) (Memref.whole main_v9) (Memref.isWhole_whole _) (Memref.whole main_v8) (Memref.isWhole_whole _) (Memref.whole main_v9) (Memref.isWhole_whole _) cc2_scratch0
    = starts 0 64 (waits 0 64 (.ret ⟨⟩)) := rfl

end Cert.Proof
-- ==== Proof.Ring.lean ====
/-
  A ring of copies through two buffers, over the resources its effects take and give. A STEP says what an effect needs
  and what it leaves; a ring whose four kinds of effect are steps between the slots, the chunks in flight and the
  pieces of the destination, leaves every piece done (`ring_steps`).
-/
module

public import proofs.«01_k».proof.Proof.Common

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Tactic

variable {F : FTy → Type} [FloatOps F]

local notation "𝕄" => Mod F

/-- The tile's thread. -/
abbrev thr (d : Dev nD) (i : grid1.Coords) : Thread nD τ := V d ((i 0).castLE hcore1) ((i 1).castLE hsub1)

variable (d : Dev nD) (i : grid1.Coords)

/-- The effect `p` takes `A` and leaves `B`. -/
def Step (p : Prog (TileEff F i) PUnit) (A B : sProp 𝕄) : Prop :=
  ∀ Q : sProp 𝕄, iprop(A ∗ (B -∗ Q)) ⊢ wp frame (wpE (defs₀ (F := F)) 𝒱₀ (thr d i) none) Set.univ p fun _ => Q

variable {d i}

theorem Step.frame {p : Prog (TileEff F i) PUnit} {A B : sProp 𝕄} (h : Step d i p A B) (R : sProp 𝕄) : Step d i p iprop(A ∗ R) iprop(B ∗ R) := by
  intro Q
  refine BIBase.Entails.trans ?_ (h Q)
  iintro ⟨⟨HA, HR⟩, Hk⟩
  isplitl [HA]; · iexact HA
  iintro HB
  iapply Hk
  isplitl [HB]; · iexact HB
  iexact HR

theorem Step.conseq {p : Prog (TileEff F i) PUnit} {A B A' B' : sProp 𝕄} (h : Step d i p A B) (hA : A' ⊢ A) (hB : B ⊢ B') :
    Step d i p A' B' := by
  intro Q
  refine BIBase.Entails.trans ?_ (h Q)
  iintro ⟨HA, Hk⟩
  isplitl [HA]; · iapply hA; iexact HA
  iintro HB
  iapply Hk
  iapply hB; iexact HB

theorem step_nil (A : sProp 𝕄) : Step d i (seqOps []) A A := by
  intro Q
  show _ ⊢ wp _ _ _ (pure PUnit.unit) _
  iintro ⟨HA, Hk⟩
  sl_step
  iapply Hk; iexact HA

theorem step_cons {p : Prog (TileEff F i) PUnit} {ps : List (Prog (TileEff F i) PUnit)} {A B C : sProp 𝕄}
    (hp : Step d i p A B) (hps : Step d i (seqOps ps) B C) : Step d i (seqOps (p :: ps)) A C := by
  intro Q
  show _ ⊢ wp _ _ _ (p >>= fun _ => seqOps ps) _
  rw [wp_bind]
  refine BIBase.Entails.trans ?_ (hp _)
  iintro ⟨HA, Hk⟩
  isplitl [HA]; · iexact HA
  iintro HB
  iapply (hps Q)
  isplitl [HB]; · iexact HB
  iexact Hk

theorem step_append {ps qs : List (Prog (TileEff F i) PUnit)} {A B C : sProp 𝕄}
    (hp : Step d i (seqOps ps) A B) (hq : Step d i (seqOps qs) B C) : Step d i (seqOps (ps ++ qs)) A C := by
  have hcat : seqOps (ps ++ qs) = (seqOps ps >>= fun _ => seqOps qs) := by
    induction ps with
    | nil => rfl
    | cons p ps ih =>
      have : ∀ l : List (Prog (TileEff F i) PUnit), seqOps (p :: l) = (p >>= fun _ => seqOps l) := fun _ => rfl
      clear hp
      rw [List.cons_append, this, this, bind_assoc]
      congr 1; funext _
      clear hq
      clear this ih
      induction ps with
      | nil => rfl
      | cons p' ps ih' => rw [List.cons_append]; show (p' >>= fun _ => _) = ((p' >>= fun _ => _) >>= _); rw [bind_assoc]; congr 1; funext _; exact ih'
  intro Q
  rw [hcat, wp_bind]
  refine BIBase.Entails.trans ?_ (hp _)
  iintro ⟨HA, Hk⟩
  isplitl [HA]; · iexact HA
  iintro HB
  iapply (hq Q)
  isplitl [HB]; · iexact HB
  iexact Hk

section Ring

/-- The state after `k` turns of the ring's loop: chunk `k`'s write and chunk `k + 1`'s read are in flight. -/
def ringAt (n : ℕ) (FR FW Out Done : ℕ → sProp 𝕄) (Env : sProp 𝕄) (k : ℕ) : sProp 𝕄 :=
  iprop(FW k ∗ FR (k + 1) ∗ bigSep (Finset.range k) Done ∗ bigSep (Finset.Ico (k + 1) (n + 2)) Out ∗ Env)

omit [FloatOps F] in
theorem bigSep_Ico_head {a b : ℕ} (h : a < b) (Φ : ℕ → sProp 𝕄) :
    bigSep (Finset.Ico a b) Φ = iprop(Φ a ∗ bigSep (Finset.Ico (a + 1) b) Φ) := by
  rw [← Finset.insert_Ico_add_one_left_eq_Ico h, SparseCore.bigSep_insert' (by simp)]

/-- A ring whose effects are steps leaves every piece done and its slots free. -/
theorem ring_steps {R W : ℕ → Copy} {n : ℕ} {Sl FR L FW Out Done : ℕ → sProp 𝕄} {Env : sProp 𝕄}
    (hRs : ∀ c < n + 2, Step d i ((R c).start F i) (Sl (c % 2)) (FR c))
    (hRw : ∀ c < n + 2, Step d i ((R c).wait F i) iprop(FR c ∗ Env) iprop(L c ∗ Env))
    (hWs : ∀ c < n + 2, Step d i ((W c).start F i) iprop(L c ∗ Out c) (FW c))
    (hWw : ∀ c < n + 2, Step d i ((W c).wait F i) iprop(FW c ∗ Env) iprop(Sl (c % 2) ∗ Done c ∗ Env)) :
    Step d i (seqOps (ringOps F i R W n))
      iprop(Sl 0 ∗ Sl 1 ∗ bigSep (Finset.range (n + 2)) Out ∗ Env)
      iprop(Sl (n % 2) ∗ Sl ((n + 1) % 2) ∗ bigSep (Finset.range (n + 2)) Done ∗ Env) := by
  unfold ringOps
  refine step_append (B := ringAt n FR FW Out Done Env n) (step_append (B := ringAt n FR FW Out Done Env 0) ?_ ?_) ?_
  · refine step_cons ((hRs 0 (by omega)).frame iprop(Sl 1 ∗ bigSep (Finset.range (n + 2)) Out ∗ Env))
      (step_cons (((hRs 1 (by omega)).frame iprop(FR 0 ∗ bigSep (Finset.range (n + 2)) Out ∗ Env)).conseq ?_ .rfl)
        (step_cons (((hRw 0 (by omega)).frame iprop(FR 1 ∗ bigSep (Finset.range (n + 2)) Out)).conseq ?_ .rfl)
          (step_cons (((hWs 0 (by omega)).frame iprop(FR 1 ∗ bigSep (Finset.Ico 1 (n + 2)) Out ∗ Env)).conseq ?_ ?_) (step_nil _))))
    · iintro ⟨Ha, Hb, Hc⟩; isplitl [Hb]; · iexact Hb
      isplitl [Ha]; · iexact Ha
      iexact Hc
    · iintro ⟨Ha, Hb, Hc, Hd⟩; isplitl [Hb Hd]; · isplitl [Hb]; · iexact Hb
                                                  iexact Hd
      isplitl [Ha]; · iexact Ha
      iexact Hc
    · rw [Finset.range_eq_Ico, bigSep_Ico_head (by omega : 0 < n + 2)]
      iintro ⟨⟨Ha, He⟩, Hb, Hc, Hd⟩
      isplitl [Ha Hc]
      · isplitl [Ha]; · iexact Ha
        iexact Hc
      isplitl [Hb]; · iexact Hb
      isplitl [Hd]; · iexact Hd
      iexact He
    · unfold ringAt
      rw [Finset.range_zero, bigSep_empty]
      iintro ⟨Ha, Hb, Hc, Hd⟩
      isplitl [Ha]; · iexact Ha
      isplitl [Hb]; · iexact Hb
      isplitr; · iempintro
      isplitl [Hc]; · iexact Hc
      iexact Hd
  · have loop : ∀ k ≤ n, Step d i (seqOps ((List.range k).flatMap fun c =>
        [(W c).wait F i, (R (c + 2)).start F i, (R (c + 1)).wait F i, (W (c + 1)).start F i]))
        (ringAt n FR FW Out Done Env 0) (ringAt n FR FW Out Done Env k) := by
      intro k
      induction k with
      | zero => intro _; exact step_nil _
      | succ k ih =>
        intro hk
        rw [List.range_succ, List.flatMap_append]
        refine step_append (ih (by omega)) ?_
        rw [List.flatMap_cons, List.flatMap_nil, List.append_nil]
        refine step_cons (((hWw k (by omega)).frame iprop(FR (k + 1) ∗ bigSep (Finset.range k) Done ∗ bigSep (Finset.Ico (k + 1) (n + 2)) Out)).conseq ?_ .rfl)
          (step_cons (((hRs (k + 2) (by omega)).frame iprop(FR (k + 1) ∗ bigSep (Finset.range (k + 1)) Done ∗ bigSep (Finset.Ico (k + 1) (n + 2)) Out ∗ Env)).conseq ?_ .rfl)
            (step_cons (((hRw (k + 1) (by omega)).frame iprop(FR (k + 2) ∗ bigSep (Finset.range (k + 1)) Done ∗ bigSep (Finset.Ico (k + 1) (n + 2)) Out)).conseq ?_ .rfl)
              (step_cons (((hWs (k + 1) (by omega)).frame iprop(FR (k + 2) ∗ bigSep (Finset.range (k + 1)) Done ∗ bigSep (Finset.Ico (k + 2) (n + 2)) Out ∗ Env)).conseq ?_ .rfl) (step_nil _))))
        · unfold ringAt
          iintro ⟨Ha, Hb, Hc, Hd, He⟩
          isplitl [Ha He]
          · isplitl [Ha]; · iexact Ha
            iexact He
          isplitl [Hb]; · iexact Hb
          isplitl [Hc]; · iexact Hc
          iexact Hd
        · rw [show (k + 2) % 2 = k % 2 by omega, Finset.range_add_one, SparseCore.bigSep_insert' (by simp)]
          iintro ⟨⟨Ha, Hb, Hc⟩, Hd, He, Hf⟩
          isplitl [Ha]; · iexact Ha
          isplitl [Hd]; · iexact Hd
          isplitl [Hb He]
          · isplitl [Hb]; · iexact Hb
            iexact He
          isplitl [Hf]; · iexact Hf
          iexact Hc
        · iintro ⟨Ha, Hb, Hc, Hd, He⟩
          isplitl [Hb He]
          · isplitl [Hb]; · iexact Hb
            iexact He
          isplitl [Ha]; · iexact Ha
          isplitl [Hc]; · iexact Hc
          iexact Hd
        · rw [bigSep_Ico_head (by omega : k + 1 < n + 2)]
          iintro ⟨⟨Ha, He⟩, Hb, Hc, Hd, Hf⟩
          isplitl [Ha Hd]
          · isplitl [Ha]; · iexact Ha
            iexact Hd
          isplitl [Hb]; · iexact Hb
          isplitl [Hc]; · iexact Hc
          isplitl [Hf]; · iexact Hf
          iexact He
    exact loop n le_rfl
  · refine step_cons (((hRw (n + 1) (by omega)).frame iprop(FW n ∗ bigSep (Finset.range n) Done ∗ Out (n + 1))).conseq ?_ .rfl)
      (step_cons (((hWs (n + 1) (by omega)).frame iprop(FW n ∗ bigSep (Finset.range n) Done ∗ Env)).conseq ?_ .rfl)
        (step_cons (((hWw n (by omega)).frame iprop(FW (n + 1) ∗ bigSep (Finset.range n) Done)).conseq ?_ .rfl)
          (step_cons (((hWw (n + 1) (by omega)).frame iprop(Sl (n % 2) ∗ bigSep (Finset.range (n + 1)) Done)).conseq ?_ ?_) (step_nil _))))
    · unfold ringAt
      rw [bigSep_Ico_head (by omega : n + 1 < n + 2), Finset.Ico_self, bigSep_empty]
      iintro ⟨Ha, Hb, Hc, ⟨Hd, -⟩, He⟩
      isplitl [Hb He]
      · isplitl [Hb]; · iexact Hb
        iexact He
      isplitl [Ha]; · iexact Ha
      isplitl [Hc]; · iexact Hc
      iexact Hd
    · iintro ⟨⟨Ha, He⟩, Hb, Hc, Hd⟩
      isplitl [Ha Hd]
      · isplitl [Ha]; · iexact Ha
        iexact Hd
      isplitl [Hb]; · iexact Hb
      isplitl [Hc]; · iexact Hc
      iexact He
    · iintro ⟨Ha, Hb, Hc, Hd⟩
      isplitl [Hb Hd]
      · isplitl [Hb]; · iexact Hb
        iexact Hd
      isplitl [Ha]; · iexact Ha
      iexact Hc
    · rw [Finset.range_add_one, SparseCore.bigSep_insert' (by simp)]
      iintro ⟨⟨Ha, Hb, Hc⟩, Hd, He⟩
      isplitl [Hd Hc]
      · isplitl [Hd]; · iexact Hd
        iexact Hc
      isplitl [Ha]; · iexact Ha
      isplitl [Hb]; · iexact Hb
      iexact He
    · rw [Finset.range_add_one (n := n + 1), SparseCore.bigSep_insert' (by simp)]
      iintro ⟨⟨Ha, Hb, Hc⟩, Hd, He⟩
      isplitl [Hd]; · iexact Hd
      isplitl [Ha]; · iexact Ha
      isplitl [Hb He]
      · isplitl [Hb]; · iexact Hb
        iexact He
      iexact Hc

end Ring

end Cert.Proof.Tile
-- ==== Proof.Chunk.lean ====
/-
  One chunk through a buffer: the read into it and the write out of it, as the four steps that `ring_steps` asks for.
-/
module

public import proofs.«01_k».proof.Proof.Ring

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Tactic

variable {F : FTy → Type} [FloatOps F]

local notation "𝕄" => Mod F

variable (d : Dev nD) (i : grid1.Coords) (O : CellTallies nD τ sig (HIx 1)) (W₀ : Waits sig (HIx 1))

/-- What the tile owes, with the evidence for its waits; of what it has waited for, only waits that name no
    handshake come to `W₀`. -/
def Env : sProp 𝕄 :=
  iprop(Transfers.MayWaits (thr d i) (none : HIx 1) O ∗ ∃ W, ⌜∀ p ∈ W, p ∈ W₀ ∨ p.2 = none⌝ ∗ owes (thr d i) O W)

/-- The copy in flight, delivering `X`. -/
def Fl (c : Copy) (X : sProp 𝕄) : sProp 𝕄 :=
  iprop(∃ D : sProp 𝕄, Transfers.Flight EC (thr d i) (.dma c.sem) (none : HIx 1) (c.dst.view.dmaCredit) D ∗ (D -∗ X))

/-- The copy's semaphore at zero. -/
abbrev sv (s : DmaSem sig) : sProp 𝕄 := semVal (thr d i, SemLoc.dma s) 0

variable {d i O W₀}

theorem step_start (c : Copy) (hc : 0 < c.dst.view.dmaCredit) {A X : sProp 𝕄} {q : PosShare TreeShare} {fs : Buf (Elt F) (c.src.view.loc (thr d i))}
    {Sd : Finset (Idx (c.dst.view.loc (thr d i)))} {fd : Buf (Elt F) (c.dst.view.loc (thr d i))} (hS : c.dst.view.set ⊆ Sd)
    (hA : A ⊢ iprop((c.src.view.loc (thr d i) ↦[c.src.view.set]{q} fs) ∗ (c.dst.view.loc (thr d i) ↦[Sd]{fullShare} fd) ∗ sv d i c.sem
      ∗ (((c.dst.view.loc (thr d i) ↦[Sd]{fullShare} (c.dst.view.write (Elt F) fd (c.src.view.read (Elt F) fs) Finset.univ))
          ∗ (c.src.view.loc (thr d i) ↦[c.src.view.set]{q} fs)) -∗ X))) :
    Step d i (c.start F i) A (Fl d i c X) := by
  intro Q
  iintro ⟨HA, Hk⟩
  ihave HA := hA $$ HA
  icases HA with ⟨Hs, Hd, Hv, HX⟩
  unfold Copy.start
  iapply (Transfers.wp_dmaLocal EC 𝒱₀ (thr d i) none (none : HIx 1) c.dst.view.dmaCredit rfl hc hS) $$ [Hs Hd Hv]
  · isplitl [Hs]; · iexact Hs
    isplitl [Hd]; · iexact Hd
    iexact Hv
  iintro Hf
  sl_step
  iapply Hk
  unfold Fl
  iexists _
  isplitl [Hf]; · iexact Hf
  iexact HX

theorem step_wait (c : Copy) {X : sProp 𝕄} :
    Step d i (c.wait F i) iprop(Fl d i c X ∗ Env d i O W₀) iprop((X ∗ sv d i c.sem) ∗ Env d i O W₀) := by
  intro Q
  unfold Env
  unfold Fl Copy.wait
  iintro ⟨⟨⟨%D, Hf, HD⟩, #Hmw, %W, %hW, HO⟩, Hk⟩
  ihave Hm := (Transfers.MayWaits.elim (SemLoc.dma c.sem)) $$ Hmw
  iapply (Transfers.wp_waitLocalO EC 𝒱₀ (thr d i) none (none : HIx 1) rfl) $$ [Hf HO Hm]
  · isplitl [Hf]; · iexact Hf
    isplitl [HO]; · iexact HO
    iexact Hm
  iintro ⟨HX, Hv, HO⟩
  sl_step
  iapply Hk
  isplitl [HX HD Hv]
  · isplitl [HX HD]; · iapply HD; iexact HX
    iexact Hv
  isplitr; · iexact Hmw
  iexists (insert (SemLoc.dma c.sem, none) W)
  isplitr
  · ipureintro
    intro p hp
    rcases Finset.mem_insert.mp hp with rfl | hp
    · exact Or.inr rfl
    · exact hW p hp
  iexact HO

theorem step_exists {X : Type} {p : Prog (TileEff F i) PUnit} {A : X → sProp 𝕄} {B : sProp 𝕄} (h : ∀ x, Step d i p (A x) B) :
    Step d i p iprop(∃ x, A x) B := by
  intro Q
  iintro ⟨⟨%x, HA⟩, Hk⟩
  iapply (h x Q)
  isplitl [HA]; · iexact HA
  iexact Hk

theorem step_pure {φ : Prop} {p : Prog (TileEff F i) PUnit} {A B : sProp 𝕄} (h : φ → Step d i p A B) :
    Step d i p iprop(⌜φ⌝ ∗ A) B := by
  intro Q
  iintro ⟨⟨%hφ, HA⟩, Hk⟩
  iapply (h hφ Q)
  isplitl [HA]; · iexact HA
  iexact Hk

/-- The four steps of a chunk, between its slot and its piece of the destination. -/
def ChunkOk (d : Dev nD) (i : grid1.Coords) (En : sProp 𝕄) (R W : Copy) (Sl Out Done : sProp 𝕄) : Prop :=
  ∃ FR L FW : sProp 𝕄, Step d i (R.start F i) Sl FR ∧ Step d i (R.wait F i) iprop(FR ∗ En) iprop(L ∗ En)
    ∧ Step d i (W.start F i) iprop(L ∗ Out) FW ∧ Step d i (W.wait F i) iprop(FW ∗ En) iprop(Sl ∗ Done ∗ En)

/-- A ring of chunks that are all right. -/
theorem ring_ok {R W : ℕ → Copy} {n : ℕ} {Sl Out Done : ℕ → sProp 𝕄} {En : sProp 𝕄}
    (h : ∀ c < n + 2, ChunkOk d i En (R c) (W c) (Sl (c % 2)) (Out c) (Done c)) :
    Step d i (seqOps (ringOps F i R W n))
      iprop(Sl 0 ∗ Sl 1 ∗ bigSep (Finset.range (n + 2)) Out ∗ En)
      iprop(Sl (n % 2) ∗ Sl ((n + 1) % 2) ∗ bigSep (Finset.range (n + 2)) Done ∗ En) := by
  have h' : ∀ c, ∃ FR L FW : sProp 𝕄, c < n + 2 → (Step d i ((R c).start F i) (Sl (c % 2)) FR ∧ Step d i ((R c).wait F i) iprop(FR ∗ En) iprop(L ∗ En)
      ∧ Step d i ((W c).start F i) iprop(L ∗ Out c) FW ∧ Step d i ((W c).wait F i) iprop(FW ∗ En) iprop(Sl (c % 2) ∗ Done c ∗ En)) := by
    intro c
    by_cases hc : c < n + 2
    · obtain ⟨FR, L, FW, h⟩ := h c hc
      exact ⟨FR, L, FW, fun _ => h⟩
    · exact ⟨iprop(emp), iprop(emp), iprop(emp), fun h => absurd h hc⟩
  choose FR L FW h' using h'
  exact ring_steps (fun c hc => (h' c hc).1) (fun c hc => (h' c hc).2.1) (fun c hc => (h' c hc).2.2.1) (fun c hc => (h' c hc).2.2.2)

/-- A chunk is all right when its write finds in the buffer what the destination is to hold. `B` is the buffer, `Src`
    the source with share enough for the read, `E` whatever else the slot holds; `conv` reads the buffer as the read's
    end names it as the write's end does. -/
theorem chunkOk_of {R W : Copy} (hR : 0 < R.sh.numel) (hW : 0 < W.sh.numel) {B Src E Out Done : sProp 𝕄} {q : PosShare TreeShare}
    {fs : Buf (Elt F) (R.src.view.loc (thr d i))} {conv : Buf (Elt F) (R.dst.view.loc (thr d i)) → Buf (Elt F) (W.src.view.loc (thr d i))}
    {G : Buf (Elt F) (W.dst.view.loc (thr d i))}
    (hB : B ⊢ iprop(∃ fd, R.dst.view.loc (thr d i) ↦[Finset.univ]{fullShare} fd))
    (hB' : ∀ g, (W.src.view.loc (thr d i) ↦[Finset.univ]{fullShare} g) ⊢ B)
    (hconv : ∀ g, (R.dst.view.loc (thr d i) ↦[Finset.univ]{fullShare} g : sProp 𝕄) ⊢ W.src.view.loc (thr d i) ↦[Finset.univ]{fullShare} conv g)
    (hSrc : Src ⊢ iprop((R.src.view.loc (thr d i) ↦[R.src.view.set]{q} fs) ∗ ((R.src.view.loc (thr d i) ↦[R.src.view.set]{q} fs) -∗ Src)))
    (hOut : Out ⊢ iprop(∃ fo, W.dst.view.loc (thr d i) ↦[W.dst.view.set]{fullShare} fo))
    (hDone : (W.dst.view.loc (thr d i) ↦[W.dst.view.set]{fullShare} G) ⊢ Done)
    {rs : R.sh.Idx → Elt F .f32} {ws : W.sh.Idx → Elt F .f32}
    (hrs : R.src.view.read (Elt F) fs = rs) (hws : W.dst.view.read (Elt F) G = ws)
    (hval : ∀ fd, W.src.view.read (Elt F) (conv (R.dst.view.write (Elt F) fd rs Finset.univ)) = ws) :
    ChunkOk d i (Env d i O W₀) R W iprop(B ∗ Src ∗ sv d i R.sem ∗ sv d i W.sem ∗ E) Out Done := by
  refine ⟨Fl d i R iprop((∃ g, ⌜W.src.view.read (Elt F) g = ws⌝ ∗ W.src.view.loc (thr d i) ↦[Finset.univ]{fullShare} g) ∗ Src ∗ sv d i W.sem ∗ E),
    iprop(((∃ g, ⌜W.src.view.read (Elt F) g = ws⌝ ∗ W.src.view.loc (thr d i) ↦[Finset.univ]{fullShare} g) ∗ Src ∗ sv d i W.sem ∗ E) ∗ sv d i R.sem),
    Fl d i W iprop(B ∗ Src ∗ sv d i R.sem ∗ E ∗ Done), ?_, step_wait R, ?_, ?_⟩
  · refine Step.conseq (step_exists (A := fun fd => iprop((R.dst.view.loc (thr d i) ↦[Finset.univ]{fullShare} fd) ∗ Src ∗ sv d i R.sem ∗ sv d i W.sem ∗ E)) fun fd =>
      step_start R (R.dst.view.dmaCredit_pos hR) (q := q) (fs := fs) (fd := fd) (Finset.subset_univ _) ?_) ?_ .rfl
    · iintro ⟨HB, HS, Hr, Hw, HE⟩
      ihave HS := hSrc $$ HS
      icases HS with ⟨Hs, Hback⟩
      isplitl [Hs]; · iexact Hs
      isplitl [HB]; · iexact HB
      isplitl [Hr]; · iexact Hr
      iintro ⟨HB, Hs⟩
      isplitl [HB]
      · iexists (conv (R.dst.view.write (Elt F) fd (R.src.view.read (Elt F) fs) Finset.univ))
        isplitr
        · ipureintro; rw [hrs]; exact hval fd
        iapply (hconv _); iexact HB
      isplitl [Hback Hs]; · iapply Hback; iexact Hs
      isplitl [Hw]; · iexact Hw
      iexact HE
    · iintro ⟨HB, HR⟩
      ihave HB := hB $$ HB
      icases HB with ⟨%fd, HB⟩
      iexists fd
      isplitl [HB]; · iexact HB
      iexact HR
  · refine Step.conseq (step_exists (A := fun g => iprop(∃ fo, ⌜W.src.view.read (Elt F) g = ws⌝ ∗ (W.src.view.loc (thr d i) ↦[Finset.univ]{fullShare} g)
        ∗ (W.dst.view.loc (thr d i) ↦[W.dst.view.set]{fullShare} fo) ∗ Src ∗ sv d i R.sem ∗ sv d i W.sem ∗ E))
      fun g => step_exists fun fo => step_pure fun hg =>
        step_start W (W.dst.view.dmaCredit_pos hW) (q := fullShare) (fs := g) (fd := fo) (Finset.Subset.refl _) ?_) ?_ .rfl
    · iintro ⟨HB, Ho, HS, Hr, Hw, HE⟩
      ihave HB := (pointsTo_split_subset (q := fullShare) (f := g) (Finset.subset_univ W.src.view.set)).1 $$ HB
      icases HB with ⟨HB, Hrest⟩
      isplitl [HB]; · iexact HB
      isplitl [Ho]; · iexact Ho
      isplitl [Hw]; · iexact Hw
      iintro ⟨Ho, HB⟩
      isplitl [HB Hrest]
      · iapply (hB' g)
        iapply (pointsTo_split_subset (q := fullShare) (f := g) (Finset.subset_univ W.src.view.set)).2
        isplitl [HB]; · iexact HB
        iexact Hrest
      isplitl [HS]; · iexact HS
      isplitl [Hr]; · iexact Hr
      isplitl [HE]; · iexact HE
      iapply hDone
      rw [hg, ← pointsTo_congr (f := W.dst.view.write (Elt F) fo ws Finset.univ) (g := G) (fun x hx => by
        obtain ⟨y, -, rfl⟩ := Finset.mem_map.mp hx
        rw [View.write_emb_of_mem _ _ (Finset.mem_univ y), ← hws, View.read_apply]
        exact eq_of_heq ((cast_heq _ _).trans (cast_heq _ _)))]
      iexact Ho
    · iintro ⟨⟨⟨⟨%g, %hg, HB⟩, HS, Hw, HE⟩, Hr⟩, HO⟩
      ihave HO := hOut $$ HO
      icases HO with ⟨%fo, HO⟩
      iexists g; iexists fo
      isplitr; · ipureintro; exact hg
      isplitl [HB]; · iexact HB
      isplitl [HO]; · iexact HO
      isplitl [HS]; · iexact HS
      isplitl [Hr]; · iexact Hr
      isplitl [Hw]; · iexact Hw
      iexact HE
  · refine (step_wait W).conseq .rfl ?_
    iintro ⟨⟨⟨HB, HS, Hr, HE, HD⟩, Hw⟩, Hen⟩
    isplitl [HB HS Hr HE Hw]
    · isplitl [HB]; · iexact HB
      isplitl [HS]; · iexact HS
      isplitl [Hr]; · iexact Hr
      isplitl [Hw]; · iexact Hw
      iexact HE
    isplitl [HD]; · iexact HD
    iexact Hen

end Cert.Proof.Tile
-- ==== Proof.Geometry.lean ====
/-
  Where the tile's views lie: closed forms of the offsets the program computes, and of each view's placement in its
  buffer.
-/
module

public import proofs.«01_k».proof.Proof.TileProgram
public import Idealize.ShloMosaic.Lib.ValueLayout

@[expose] public section

noncomputable section

namespace Cert.Proof.Tile

open Cert.KernelIdeal Cert.KernelIdeal.Gen
open Idealize.ShloMosaic Idealize.ShloMosaic.ValueIdx

/-- The tile's number. -/
def wid (i : grid1.Coords) : ℕ := 2 * (i 1).val + (i 0).val

theorem wid_lt (i : grid1.Coords) : wid i < 32 := by
  have h0 : (i 0).val < 2 := (i 0).isLt
  have h1 : (i 1).val < 16 := (i 1).isLt
  unfold wid; omega

/-- Its row `r`, batch and head together. -/
def row (i : grid1.Coords) (r : Fin 2) : ℕ := 2 * wid i + r.val

theorem row_lt (i : grid1.Coords) (r : Fin 2) : row i r < 64 := by
  have := wid_lt i; have := r.isLt
  unfold row; omega

/-- The row's batch and head. -/
def rb (i : grid1.Coords) (r : Fin 2) : Fin 4 := ⟨row i r / 16, by have := row_lt i r; omega⟩
def rh (i : grid1.Coords) (r : Fin 2) : Fin 16 := ⟨row i r % 16, by omega⟩

theorem off1_eq : ∀ (i : grid1.Coords) (r : Fin 2), k1_off1 i (rowW r) = ![row i r, 0, 0] := by decide +kernel
theorem off2_eq : ∀ (i : grid1.Coords) (r : Fin 2), k1_off2 i (rowW r) = ![row i r / 16, row i r % 16, 0, 0] := by decide +kernel
theorem off3_eq : ∀ (i : grid1.Coords) (r : Fin 2), k1_off3 i (rowW r) = ![row i r / 16, row i r % 16, 0, 0] := by decide +kernel
theorem qOff_eq : ∀ (i : grid1.Coords) (r : Fin 2) (c : Fin 16), qOff i r c.val = ![row i r / 16, row i r % 16, 128 * c.val, 0] := by
  decide +kernel
theorem xOff_eq : ∀ (i : grid1.Coords) (c : Fin 16), k1_off20 i (BitVec.ofNat 32 (16 * c.val)) = ![wid i / 8, wid i % 8 * 256 + 16 * c.val, 0] := by
  decide +kernel

/-- A run of positions of a `[m, 128]` memref: the rows from the offset on. -/
theorem emb_pos {sp : Space} {m : Nat} (mr : Memref sig .scVector sp ⟨2, ![m, 128]⟩ .f32) (o n : Nat) (h : o + n ≤ m) (a : Fin n) (b : Fin 128) :
    (posSlice mr o n h).view.emb (ix2 a b) = mr.view.emb (ix2 ⟨o + a.val, by omega⟩ b) := by
  show mr.view.emb _ = _
  congr 1
  funext k
  match k with
  | ⟨0, _⟩ => exact Fin.ext (show o + 1 * a.val = o + a.val by omega)
  | ⟨1, _⟩ => exact Fin.ext (show 0 + 1 * b.val = b.val by omega)

theorem emb_hbRow (i : grid1.Coords) (r : Fin 2) (a : Fin 16) (b : Fin 128) :
    (hbRow i r).view.emb (ix2 a b) = (ix3 ⟨row i r, row_lt i r⟩ a b : S64x16x128.Idx) := by
  show (Rect.unit (s := S64x16x128) (k1_off1 i (rowW r)) S1x16x128.size (k1_off1_inb i r)).emb (Shape.reshapeEquiv _ (ix2 a b)) = _
  rw [reshapeEquiv_ix2_1ab]
  funext k
  apply Fin.ext
  refine (congrArg (fun n => n + 1 * _) (congrFun (off1_eq i r) k)).trans ?_
  match k with
  | ⟨0, _⟩ => show row i r + 1 * 0 = row i r; omega
  | ⟨1, _⟩ => show 0 + 1 * a.val = a.val; omega
  | ⟨2, _⟩ => show 0 + 1 * b.val = b.val; omega

theorem emb_ovRow (i : grid1.Coords) (r : Fin 2) (a : Fin 2058) (b : Fin 128) :
    (ovRow i r).view.emb (ix2 a b) = (ix4 (rb i r) (rh i r) a b : S4x16x2058x128.Idx) := by
  show (Rect.unit (s := S4x16x2058x128) (k1_off2 i (rowW r)) S1x1x2058x128.size (k1_off2_inb i r)).emb (Shape.reshapeEquiv _ (ix2 a b)) = _
  rw [reshapeEquiv_ix2_11ab]
  funext k
  apply Fin.ext
  refine (congrArg (fun n => n + 1 * _) (congrFun (off2_eq i r) k)).trans ?_
  match k with
  | ⟨0, _⟩ => show row i r / 16 + 1 * 0 = row i r / 16; omega
  | ⟨1, _⟩ => show row i r % 16 + 1 * 0 = row i r % 16; omega
  | ⟨2, _⟩ => show 0 + 1 * a.val = a.val; omega
  | ⟨3, _⟩ => show 0 + 1 * b.val = b.val; omega

theorem emb_vRow (i : grid1.Coords) (r : Fin 2) (a : Fin 2048) (b : Fin 128) :
    (vRow i r).view.emb (ix2 a b) = (ix4 (rb i r) (rh i r) a b : S4x16x2048x128.Idx) := by
  show (Rect.unit (s := S4x16x2048x128) (k1_off3 i (rowW r)) S1x1x2048x128.size (k1_off3_inb i r)).emb (Shape.reshapeEquiv _ (ix2 a b)) = _
  rw [reshapeEquiv_ix2_11ab]
  funext k
  apply Fin.ext
  refine (congrArg (fun n => n + 1 * _) (congrFun (off3_eq i r) k)).trans ?_
  match k with
  | ⟨0, _⟩ => show row i r / 16 + 1 * 0 = row i r / 16; omega
  | ⟨1, _⟩ => show row i r % 16 + 1 * 0 = row i r % 16; omega
  | ⟨2, _⟩ => show 0 + 1 * a.val = a.val; omega
  | ⟨3, _⟩ => show 0 + 1 * b.val = b.val; omega

/-- Chunk `c` of the queries' row in a whole `[4, 16, 2048, 128]` buffer. -/
theorem emb_qRect (i : grid1.Coords) (r : Fin 2) (c : ℕ) (hc : c < 16) (h : S128x128.numel = S1x1x128x128.numel) (a b : Fin 128) :
    (Rect.unit (s := S4x16x2048x128) (qOff i r c) S1x1x128x128.size (qOff_inb i r c)).emb (Shape.reshapeEquiv h (ix2 a b))
      = (ix4 (rb i r) (rh i r) ⟨128 * c + a.val, by omega⟩ b : S4x16x2048x128.Idx) := by
  rw [reshapeEquiv_ix2_11ab]
  funext k
  apply Fin.ext
  refine (congrArg (fun n => n + 1 * _) (congrFun (qOff_eq i r ⟨c, hc⟩) k)).trans ?_
  match k with
  | ⟨0, _⟩ => show row i r / 16 + 1 * 0 = row i r / 16; omega
  | ⟨1, _⟩ => show row i r % 16 + 1 * 0 = row i r % 16; omega
  | ⟨2, _⟩ => show 128 * c + 1 * a.val = 128 * c + a.val; omega
  | ⟨3, _⟩ => show 0 + 1 * b.val = b.val; omega

theorem emb_qChunk (i : grid1.Coords) (r : Fin 2) (c : ℕ) (hc : c < 16) (a b : Fin 128) :
    (qChunk qM i r c).view.emb (ix2 a b) = (ix4 (rb i r) (rh i r) ⟨128 * c + a.val, by omega⟩ b : S4x16x2048x128.Idx) :=
  emb_qRect i r c hc _ a b
theorem emb_oqChunk (i : grid1.Coords) (r : Fin 2) (c : ℕ) (hc : c < 16) (a b : Fin 128) :
    (qChunk oqM i r c).view.emb (ix2 a b) = (ix4 (rb i r) (rh i r) ⟨128 * c + a.val, by omega⟩ b : S4x16x2048x128.Idx) :=
  emb_qRect i r c hc _ a b

/-- Chunk `c` of the tile's rows in a whole `[4, 2048, 2048]` buffer. -/
theorem emb_xRect (i : grid1.Coords) (c : ℕ) (hc : c < 16) (h : S16x2048.numel = S1x16x2048.numel) (a : Fin 16) (b : Fin 2048) :
    (Rect.unit (s := S4x2048x2048) (k1_off20 i (BitVec.ofNat 32 (16 * (c % 16)))) S1x16x2048.size
        (k1_off20_inb i ⟨c % 16, Nat.mod_lt _ (by norm_num)⟩)).emb (Shape.reshapeEquiv h (ix2 a b))
      = (ix3 ⟨wid i / 8, by have := wid_lt i; omega⟩ ⟨wid i % 8 * 256 + 16 * c + a.val, by omega⟩ b : S4x2048x2048.Idx) := by
  rw [reshapeEquiv_ix2_1ab]
  funext k
  apply Fin.ext
  refine (congrArg (fun n => n + 1 * _) (congrFun (xOff_eq i ⟨c % 16, Nat.mod_lt _ (by norm_num)⟩) k)).trans ?_
  have hm : c % 16 = c := Nat.mod_eq_of_lt hc
  match k with
  | ⟨0, _⟩ => show wid i / 8 + 1 * 0 = wid i / 8; omega
  | ⟨1, _⟩ => show wid i % 8 * 256 + 16 * (c % 16) + 1 * a.val = wid i % 8 * 256 + 16 * c + a.val; omega
  | ⟨2, _⟩ => show 0 + 1 * b.val = b.val; omega

theorem emb_xChunk (i : grid1.Coords) (c : ℕ) (hc : c < 16) (a : Fin 16) (b : Fin 2048) :
    (xChunk xM i c).view.emb (ix2 a b)
      = (ix3 ⟨wid i / 8, by have := wid_lt i; omega⟩ ⟨wid i % 8 * 256 + 16 * c + a.val, by omega⟩ b : S4x2048x2048.Idx) :=
  emb_xRect i c hc _ a b
theorem emb_oxChunk (i : grid1.Coords) (c : ℕ) (hc : c < 16) (a : Fin 16) (b : Fin 2048) :
    (xChunk oxM i c).view.emb (ix2 a b)
      = (ix3 ⟨wid i / 8, by have := wid_lt i; omega⟩ ⟨wid i % 8 * 256 + 16 * c + a.val, by omega⟩ b : S4x2048x2048.Idx) :=
  emb_xRect i c hc _ a b

/-- A rank-2 view's elements are the indices of which a property holds, when its placement `g` has the property and
    every index that has it comes from somewhere. -/
theorem set_eq2 {κ : Kind} {sp : Space} {n0 n1 : ℕ} {e : EltTy} (v : View sig κ sp ⟨2, ![n0, n1]⟩ e) {g : Fin n0 → Fin n1 → v.ty.Idx}
    (hg : ∀ a b, v.emb (ix2 a b) = g a b) (p : v.ty.Idx → Prop) [DecidablePred p] (h : ∀ a b, p (g a b)) (h' : ∀ x, p x → ∃ a b, g a b = x) :
    v.set = Finset.univ.filter p := by
  ext x
  constructor
  · intro hx
    obtain ⟨y, -, rfl⟩ := Finset.mem_map.mp hx
    rw [eq_ix2 y]
    exact Finset.mem_filter.mpr ⟨Finset.mem_univ _, (hg (y 0) (y 1)).symm ▸ h (y 0) (y 1)⟩
  · intro hx
    obtain ⟨a, b, rfl⟩ := h' x (Finset.mem_filter.mp hx).2
    rw [← hg]
    exact View.emb_mem_set _ _

/-- The positions `[o, o + n)` of a row of a `[4, 16, m, 128]` buffer. -/
def rowPart (m : ℕ) (R o n : ℕ) : Finset (⟨4, ![4, 16, m, 128]⟩ : Shape).Idx :=
  Finset.univ.filter fun x => (x 0).val = R / 16 ∧ (x 1).val = R % 16 ∧ o ≤ (x 2).val ∧ (x 2).val < o + n

/-- The rows `[o, o + n)` of a block of the inputs. -/
def xPart (b o n : ℕ) : Finset S4x2048x2048.Idx :=
  Finset.univ.filter fun x => (x 0).val = b ∧ o ≤ (x 1).val ∧ (x 1).val < o + n

theorem set_ovPart (i : grid1.Coords) (r : Fin 2) (o n : ℕ) (h : o + n ≤ 2058) :
    (posSlice (ovRow i r) o n h).view.set = rowPart 2058 (row i r) o n := by
  refine set_eq2 (posSlice (ovRow i r) o n h).view (g := fun a b => (ix4 (rb i r) (rh i r) ⟨o + a.val, by omega⟩ b : S4x16x2058x128.Idx))
    (fun a b => (emb_pos _ o n h a b).trans (emb_ovRow i r _ b)) _ (fun a b => ⟨rfl, rfl, ?_, ?_⟩) fun x hx => ?_
  · show o ≤ o + a.val; omega
  · show o + a.val < o + n; omega
  · obtain ⟨h0, h1, h2, h3⟩ := hx
    refine ⟨⟨(x 2).val - o, by omega⟩, x 3, ?_⟩
    funext k
    match k with
    | ⟨0, _⟩ => exact Fin.ext h0.symm
    | ⟨1, _⟩ => exact Fin.ext h1.symm
    | ⟨2, _⟩ => exact Fin.ext (show o + ((x 2).val - o) = (x 2).val by omega)
    | ⟨3, _⟩ => rfl

theorem set_oqPart (i : grid1.Coords) (r : Fin 2) (c : ℕ) (hc : c < 16) :
    (qChunk oqM i r c).view.set = rowPart 2048 (row i r) (128 * c) 128 := by
  refine set_eq2 (qChunk oqM i r c).view (g := fun a b => (ix4 (rb i r) (rh i r) ⟨128 * c + a.val, by omega⟩ b : S4x16x2048x128.Idx))
    (fun a b => emb_oqChunk i r c hc a b) _ (fun a b => ⟨rfl, rfl, ?_, ?_⟩) fun x hx => ?_
  · show 128 * c ≤ 128 * c + a.val; omega
  · show 128 * c + a.val < 128 * c + 128; omega
  · obtain ⟨h0, h1, h2, h3⟩ := hx
    refine ⟨⟨(x 2).val - 128 * c, by omega⟩, x 3, ?_⟩
    funext k
    match k with
    | ⟨0, _⟩ => exact Fin.ext h0.symm
    | ⟨1, _⟩ => exact Fin.ext h1.symm
    | ⟨2, _⟩ => exact Fin.ext (show 128 * c + ((x 2).val - 128 * c) = (x 2).val by omega)
    | ⟨3, _⟩ => rfl

theorem set_oxPart (i : grid1.Coords) (c : ℕ) (hc : c < 16) :
    (xChunk oxM i c).view.set = xPart (wid i / 8) (wid i % 8 * 256 + 16 * c) 16 := by
  refine set_eq2 (xChunk oxM i c).view (g := fun a b => (ix3 ⟨wid i / 8, by have := wid_lt i; omega⟩ ⟨wid i % 8 * 256 + 16 * c + a.val, by omega⟩ b : S4x2048x2048.Idx))
    (fun a b => emb_oxChunk i c hc a b) _ (fun a b => ⟨rfl, ?_, ?_⟩) fun x hx => ?_
  · show wid i % 8 * 256 + 16 * c ≤ wid i % 8 * 256 + 16 * c + a.val; omega
  · show wid i % 8 * 256 + 16 * c + a.val < wid i % 8 * 256 + 16 * c + 16; omega
  · obtain ⟨h0, h1, h2⟩ := hx
    refine ⟨⟨(x 1).val - (wid i % 8 * 256 + 16 * c), by omega⟩, x 2, ?_⟩
    funext k
    match k with
    | ⟨0, _⟩ => exact Fin.ext h0.symm
    | ⟨1, _⟩ => exact Fin.ext (show wid i % 8 * 256 + 16 * c + ((x 1).val - (wid i % 8 * 256 + 16 * c)) = (x 1).val by omega)
    | ⟨2, _⟩ => rfl

end Cert.Proof.Tile
-- ==== Proof.TileRings.lean ====
/-
  The tile's rings: each chunk of the values, of the queries and of the inputs finds its place, and so each row does.
-/
module

public import proofs.«01_k».proof.Proof.Chunk
public import proofs.«01_k».proof.Proof.Geometry

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Tactic

variable {F : FTy → Type} [FloatOps F]

local notation "𝕄" => Mod F

abbrev vLoc (d : Dev nD) : Loc nD τ sig := (SparseCore.T d).loc main_arg3
abbrev hLoc (d : Dev nD) : Loc nD τ sig := (SparseCore.T d).loc main_v6_1
abbrev xLoc (d : Dev nD) : Loc nD τ sig := (SparseCore.T d).loc main_arg0
abbrev qLoc (d : Dev nD) : Loc nD τ sig := (SparseCore.T d).loc main_arg1
abbrev ovLoc (d : Dev nD) : Loc nD τ sig := (SparseCore.T d).loc main_v7_0
abbrev oxLoc (d : Dev nD) : Loc nD τ sig := (SparseCore.T d).loc main_v7_1
abbrev oqLoc (d : Dev nD) : Loc nD τ sig := (SparseCore.T d).loc main_v7_2

/-- What the SparseCore makes of the augmented values: sixteen positions of the head block, then the values from the
    seventh on, down to position 2055; the last two positions as they were. -/
def ovVal (fv : S4x16x2048x128.Idx → Elt F .f32) (fh : S64x16x128.Idx → Elt F .f32) (fo : S4x16x2058x128.Idx → Elt F .f32) :
    S4x16x2058x128.Idx → Elt F .f32 := fun x =>
  if h : (x 2).val < 16 then fh (ix3 ⟨(x 0).val * 16 + (x 1).val, by have h0 : (x 0).val < 4 := (x 0).isLt; have h1 : (x 1).val < 16 := (x 1).isLt; omega⟩ ⟨(x 2).val, h⟩ (x 3))
  else if h' : (x 2).val < 2056 then fv (ix4 (x 0) (x 1) ⟨(x 2).val - 10, by omega⟩ (x 3))
  else fo x

/-! ## What the views read -/

theorem read_pos {sp : Space} {m : Nat} (mr : Memref sig .scVector sp ⟨2, ![m, 128]⟩ .f32) (o n : Nat) (h : o + n ≤ m)
    (f : mr.view.ty.Contents (Elt F)) (a : Fin n) (b : Fin 128) :
    (posSlice mr o n h).view.read (Elt F) f (ix2 a b) = mr.view.read (Elt F) f (ix2 ⟨o + a.val, by omega⟩ b) := by
  rw [View.read_apply, View.read_apply]
  exact congrArg _ (congrArg f (emb_pos mr o n h a b))

theorem read_hbRow (i : grid1.Coords) (r : Fin 2) (f : S64x16x128.Idx → Elt F .f32) (a : Fin 16) (b : Fin 128) :
    (hbRow i r).view.read (Elt F) f (ix2 a b) = f (ix3 ⟨row i r, row_lt i r⟩ a b) := congrArg f (emb_hbRow i r a b)
theorem read_ovRow (i : grid1.Coords) (r : Fin 2) (f : S4x16x2058x128.Idx → Elt F .f32) (a : Fin 2058) (b : Fin 128) :
    (ovRow i r).view.read (Elt F) f (ix2 a b) = f (ix4 (rb i r) (rh i r) a b) := congrArg f (emb_ovRow i r a b)
theorem read_vRow (i : grid1.Coords) (r : Fin 2) (f : S4x16x2048x128.Idx → Elt F .f32) (a : Fin 2048) (b : Fin 128) :
    (vRow i r).view.read (Elt F) f (ix2 a b) = f (ix4 (rb i r) (rh i r) a b) := congrArg f (emb_vRow i r a b)

theorem read_xChunk (i : grid1.Coords) (c : ℕ) (hc : c < 16) (f : S4x2048x2048.Idx → Elt F .f32) (a : Fin 16) (b : Fin 2048) :
    (xChunk xM i c).view.read (Elt F) f (ix2 a b)
      = f (ix3 ⟨wid i / 8, by have := wid_lt i; omega⟩ ⟨wid i % 8 * 256 + 16 * c + a.val, by omega⟩ b) := congrArg f (emb_xChunk i c hc a b)
theorem read_oxChunk (i : grid1.Coords) (c : ℕ) (hc : c < 16) (f : S4x2048x2048.Idx → Elt F .f32) (a : Fin 16) (b : Fin 2048) :
    (xChunk oxM i c).view.read (Elt F) f (ix2 a b)
      = f (ix3 ⟨wid i / 8, by have := wid_lt i; omega⟩ ⟨wid i % 8 * 256 + 16 * c + a.val, by omega⟩ b) := congrArg f (emb_oxChunk i c hc a b)

/-- The two ends of an inputs' chunk read alike. -/
theorem read_x (i : grid1.Coords) (c : ℕ) (hc : c < 16) (f : S4x2048x2048.Idx → Elt F .f32) :
    (xChunk xM i c).view.read (Elt F) f = (xChunk oxM i c).view.read (Elt F) f := by
  refine funext fun y => ?_
  rw [eq_ix2 y]
  exact (read_xChunk i c hc f (y 0) (y 1)).trans (read_oxChunk i c hc f (y 0) (y 1)).symm

/-! ## Sources and slots -/

variable {d : Dev nD} {i : grid1.Coords} {O : CellTallies nD τ sig (HIx 1)} {W₀ : Waits sig (HIx 1)}

/-- A buffer of the tile, at whatever it holds. -/
def B {sp : Space} {s : Shape} (d : Dev nD) (i : grid1.Coords) (b : Memref sig .scVector sp s .f32) : sProp 𝕄 :=
  iprop(∃ f, b.view.loc (thr d i) ↦[Finset.univ]{fullShare} f)

omit [FloatOps F] in
/-- What holds a larger part lends a smaller one. -/
theorem lend {ℓ : Loc nD τ sig} {I J : Finset (Idx ℓ)} (h : J ⊆ I) (q : PosShare TreeShare) (f : Buf (Elt F) ℓ) :
    (ℓ ↦[I]{q} f : sProp 𝕄) ⊢ iprop((ℓ ↦[J]{q} f) ∗ ((ℓ ↦[J]{q} f) -∗ ℓ ↦[I]{q} f)) := by
  iintro H
  ihave H := (pointsTo_split_subset (q := q) (f := f) h).1 $$ H
  icases H with ⟨HJ, HR⟩
  isplitl [HJ]; · iexact HJ
  iintro HJ
  iapply (pointsTo_split_subset (q := q) (f := f) h).2
  isplitl [HJ]; · iexact HJ
  iexact HR

theorem ChunkOk.conseq {En : sProp 𝕄} {R W : Copy} {Sl Sl' Out Done : sProp 𝕄} (h : ChunkOk d i En R W Sl Out Done) (h₁ : Sl' ⊢ Sl) (h₂ : Sl ⊢ Sl') :
    ChunkOk d i En R W Sl' Out Done := by
  obtain ⟨FR, L, FW, a, b, c, e⟩ := h
  refine ⟨FR, L, FW, a.conseq h₁ .rfl, b, c, e.conseq .rfl ?_⟩
  iintro ⟨HS, HR⟩
  isplitl [HS]; · iapply h₂; iexact HS
  iexact HR

/-- One chunk by itself. -/
theorem ChunkOk.run {En : sProp 𝕄} {R W : Copy} {Sl Out Done : sProp 𝕄} (h : ChunkOk d i En R W Sl Out Done) :
    Step d i (seqOps (syncOps F i R ++ syncOps F i W)) iprop(Sl ∗ Out ∗ En) iprop(Sl ∗ Done ∗ En) := by
  obtain ⟨FR, L, FW, a, b, c, e⟩ := h
  refine step_cons ((a.frame iprop(Out ∗ En))) (step_cons ((b.frame Out).conseq (B' := iprop((L ∗ Out) ∗ En)) ?_ ?_)
    (step_cons (c.frame En) (step_cons e (step_nil _))))
  · iintro ⟨H1, H2, H3⟩
    isplitl [H1 H3]
    · isplitl [H1]; · iexact H1
      iexact H3
    iexact H2
  · iintro ⟨⟨H1, H2⟩, H3⟩
    isplitl [H1 H3]
    · isplitl [H1]; · iexact H1
      iexact H3
    iexact H2

omit [FloatOps F] in
theorem vPart_subset (r : Fin 2) (o n : ℕ) (h : o + n ≤ 2048) : (posSlice (vRow i r) o n h).view.set ⊆ rowPart 2048 (row i r) 0 2048 := by
  intro x hx
  obtain ⟨y, -, rfl⟩ := Finset.mem_map.mp hx
  obtain ⟨a, b, rfl⟩ : ∃ a b, y = ix2 a b := ⟨y 0, y 1, eq_ix2 y⟩
  have e := (emb_pos (vRow i r) o n h a b).trans (emb_vRow i r _ b)
  refine Finset.mem_filter.mpr ⟨Finset.mem_univ _, ?_⟩
  rw [e]
  have := a.isLt
  exact ⟨rfl, rfl, Nat.zero_le _, show o + a.val < 0 + 2048 by omega⟩

omit [FloatOps F] in
theorem qPart_subset (r : Fin 2) (c : ℕ) (hc : c < 16) : (qChunk qM i r c).view.set ⊆ rowPart 2048 (row i r) 0 2048 := by
  intro x hx
  obtain ⟨y, -, rfl⟩ := Finset.mem_map.mp hx
  obtain ⟨a, b, rfl⟩ : ∃ a b, y = ix2 a b := ⟨y 0, y 1, eq_ix2 y⟩
  refine Finset.mem_filter.mpr ⟨Finset.mem_univ _, ?_⟩
  rw [emb_qChunk i r c hc]
  have := a.isLt
  exact ⟨rfl, rfl, Nat.zero_le _, show 128 * c + a.val < 0 + 2048 by omega⟩

omit [FloatOps F] in
theorem xPart_subset (c : ℕ) (hc : c < 16) : (xChunk xM i c).view.set ⊆ xPart (wid i / 8) (wid i % 8 * 256) 256 := by
  intro x hx
  obtain ⟨y, -, rfl⟩ := Finset.mem_map.mp hx
  obtain ⟨a, b, rfl⟩ : ∃ a b, y = ix2 a b := ⟨y 0, y 1, eq_ix2 y⟩
  refine Finset.mem_filter.mpr ⟨Finset.mem_univ _, ?_⟩
  rw [emb_xChunk i c hc]
  have := a.isLt
  exact ⟨rfl, show wid i % 8 * 256 ≤ wid i % 8 * 256 + 16 * c + a.val by omega, show wid i % 8 * 256 + 16 * c + a.val < wid i % 8 * 256 + 256 by omega⟩

/-- Row `R` of the head blocks. -/
def hPart (R : ℕ) : Finset S64x16x128.Idx := Finset.univ.filter fun x => (x 0).val = R

omit [FloatOps F] in
theorem hPart_subset (r : Fin 2) : (hbRow i r).view.set ⊆ hPart (row i r) := by
  intro x hx
  obtain ⟨y, -, rfl⟩ := Finset.mem_map.mp hx
  obtain ⟨a, b, rfl⟩ : ∃ a b, y = ix2 a b := ⟨y 0, y 1, eq_ix2 y⟩
  refine Finset.mem_filter.mpr ⟨Finset.mem_univ _, ?_⟩
  rw [emb_hbRow]

omit [FloatOps F] in
theorem exists_of {X : Type} {Φ : X → sProp 𝕄} {P : sProp 𝕄} (x : X) (h : Φ x = P) : P ⊢ iprop(∃ x, Φ x) := by
  rw [← h]; iintro H; iexists x; iexact H

omit [FloatOps F] in
theorem pts_ovPart (r : Fin 2) (o n : ℕ) (h : o + n ≤ 2058) (f : Buf (Elt F) (ovLoc d)) :
    ((posSlice (ovRow i r) o n h).view.loc (thr d i) ↦[(posSlice (ovRow i r) o n h).view.set]{fullShare} f : sProp 𝕄)
      = ovLoc d ↦[rowPart 2058 (row i r) o n]{fullShare} f := by
  rw [set_ovPart]
omit [FloatOps F] in
theorem pts_oqPart (r : Fin 2) (c : ℕ) (hc : c < 16) (f : Buf (Elt F) (oqLoc d)) :
    ((qChunk oqM i r c).view.loc (thr d i) ↦[(qChunk oqM i r c).view.set]{fullShare} f : sProp 𝕄)
      = oqLoc d ↦[rowPart 2048 (row i r) (128 * c) 128]{fullShare} f := by
  rw [set_oqPart i r c hc]
omit [FloatOps F] in
theorem pts_oxPart (c : ℕ) (hc : c < 16) (f : Buf (Elt F) (oxLoc d)) :
    ((xChunk oxM i c).view.loc (thr d i) ↦[(xChunk oxM i c).view.set]{fullShare} f : sProp 𝕄)
      = oxLoc d ↦[xPart (wid i / 8) (wid i % 8 * 256 + 16 * c) 16]{fullShare} f := by
  rw [set_oxPart i c hc]

/-! ## The chunks -/

variable (fv : S4x16x2048x128.Idx → Elt F .f32) (fh : S64x16x128.Idx → Elt F .f32) (fo : S4x16x2058x128.Idx → Elt F .f32)
  (fx fox : S4x2048x2048.Idx → Elt F .f32) (fq foq : S4x16x2048x128.Idx → Elt F .f32)

theorem h_chunk (r : Fin 2) (sr sw : DmaSem sig) (E : sProp 𝕄) :
    ChunkOk d i (Env d i O W₀) (hIn i r sr) (hOut i r sw)
      iprop(B d i hB ∗ (hLoc d ↦[hPart (row i r)]{fullShare} fh) ∗ sv d i sr ∗ sv d i sw ∗ E)
      (ovLoc d ↦[rowPart 2058 (row i r) 0 16]{fullShare} fo) (ovLoc d ↦[rowPart 2058 (row i r) 0 16]{fullShare} ovVal fv fh fo) := by
  unfold hIn hOut
  refine chunkOk_of (conv := id) (q := fullShare) (fs := fh) (G := ovVal fv fh fo) (show 0 < S16x128.numel by decide +kernel) (show 0 < S16x128.numel by decide +kernel) .rfl (fun g => ?_)
    (fun _ => .rfl) ?_ ?_ ?_ rfl rfl ?_
  · unfold B; iintro H; iexists g; iexact H
  · exact lend (ℓ := hLoc d) (hPart_subset r) _ _
  · exact exists_of fo (pts_ovPart r 0 16 (by omega) fo)
  · exact Entails.of_eq (pts_ovPart r 0 16 (by omega) _)
  · intro fd
    funext y
    obtain ⟨a, b, rfl⟩ : ∃ a b, y = ix2 a b := ⟨y 0, y 1, eq_ix2 y⟩
    refine (congrFun (View.read_write_univ (v := hB.view) fd _) _).trans ((read_hbRow i r fh a b).trans ?_)
    refine Eq.trans ?_ ((read_pos (ovRow i r) 0 16 (by norm_num) (ovVal fv fh fo) a b).trans (read_ovRow i r (ovVal fv fh fo) _ b)).symm
    unfold ovVal
    have ha := a.isLt
    rw [dif_pos (show ((ix4 (rb i r) (rh i r) ⟨0 + a.val, by omega⟩ b : S4x16x2058x128.Idx) 2).val < 16 from show 0 + a.val < 16 by omega)]
    congr 1
    funext k
    match k with
    | ⟨0, _⟩ => exact Fin.ext (show row i r = row i r / 16 * 16 + row i r % 16 by omega)
    | ⟨1, _⟩ => exact Fin.ext (show a.val = 0 + a.val by omega)
    | ⟨2, _⟩ => rfl

/-- The value at a position of the copied range. -/
theorem ovVal_mid (r : Fin 2) (p : ℕ) (hp : 16 ≤ p) (hp' : p < 2056) (b : Fin 128) (s : Fin 2048) (hs : s.val + 10 = p) :
    ovVal fv fh fo (ix4 (rb i r) (rh i r) ⟨p, by omega⟩ b) = fv (ix4 (rb i r) (rh i r) s b) := by
  unfold ovVal
  rw [dif_neg (show ¬ p < 16 by omega), dif_pos (show p < 2056 from hp')]
  congr 1
  funext k
  match k with
  | ⟨0, _⟩ => rfl
  | ⟨1, _⟩ => rfl
  | ⟨2, _⟩ => exact Fin.ext (show p - 10 = s.val by omega)
  | ⟨3, _⟩ => rfl

theorem v_chunk (b : Memref sig .scVector .vmem S136x128 .f32) (r : Fin 2) (sr sw : DmaSem sig) (c : ℕ) (hc : c < 15) (q : PosShare TreeShare) (E : sProp 𝕄)
    (hp : 128 * c + 136 ≤ 2048) (hp' : 16 + 128 * c + 128 ≤ 2058) {h₁ h₂ h₃ h₄ h₅ h₆} :
    ChunkOk d i (Env d i O W₀) ⟨_, _, _, posSlice (vRow i r) (128 * c) 136 hp, b, sr, h₁, h₂, h₃⟩
      ⟨_, _, _, posSlice b 6 128 (by norm_num), posSlice (ovRow i r) (16 + 128 * c) 128 hp', sw, h₄, h₅, h₆⟩
      iprop(B d i b ∗ (vLoc d ↦[rowPart 2048 (row i r) 0 2048]{q} fv) ∗ sv d i sr ∗ sv d i sw ∗ E)
      (ovLoc d ↦[rowPart 2058 (row i r) (16 + 128 * c) 128]{fullShare} fo)
      (ovLoc d ↦[rowPart 2058 (row i r) (16 + 128 * c) 128]{fullShare} ovVal fv fh fo) := by
  refine chunkOk_of (conv := id) (q := q) (fs := fv) (G := ovVal fv fh fo) (show 0 < S136x128.numel by decide +kernel) (show 0 < S128x128.numel by decide +kernel) .rfl (fun g => ?_)
    (fun _ => .rfl) ?_ ?_ ?_ rfl rfl ?_
  · unfold B; iintro H; iexists g; iexact H
  · exact lend (ℓ := vLoc d) (vPart_subset (i := i) r (128 * c) 136 hp) _ _
  · exact exists_of fo (pts_ovPart r (16 + 128 * c) 128 hp' fo)
  · exact Entails.of_eq (pts_ovPart r (16 + 128 * c) 128 hp' _)
  · intro fd
    funext y
    obtain ⟨a, e, rfl⟩ : ∃ a e, y = ix2 a e := ⟨y 0, y 1, eq_ix2 y⟩
    have ha := a.isLt
    refine (read_pos b 6 128 (by norm_num) _ a e).trans ((congrFun (View.read_write_univ (v := b.view) fd _) _).trans ?_)
    refine ((read_pos (vRow i r) (128 * c) 136 (by omega) fv _ e).trans (read_vRow i r fv _ e)).trans ?_
    refine Eq.trans ?_ ((read_pos (ovRow i r) (16 + 128 * c) 128 (by omega) (ovVal fv fh fo) a e).trans (read_ovRow i r (ovVal fv fh fo) _ e)).symm
    exact (ovVal_mid fv fh fo r _ (by omega) (by omega) e _ (show 128 * c + (6 + a.val) + 10 = 16 + 128 * c + a.val by omega)).symm

/-- The last chunk of the values: 128 positions in, 120 out. -/
theorem v_last (b : Memref sig .scVector .vmem S136x128 .f32) (r : Fin 2) (sr sw : DmaSem sig) (q : PosShare TreeShare) (E : sProp 𝕄)
    {h₁ h₂ h₃ h₄ h₅ h₆} :
    ChunkOk d i (Env d i O W₀) ⟨_, _, _, posSlice (vRow i r) 1920 128 (by norm_num), posSlice b 0 128 (by norm_num), sr, h₁, h₂, h₃⟩
      ⟨_, _, _, posSlice b 6 120 (by norm_num), posSlice (ovRow i r) 1936 120 (by norm_num), sw, h₄, h₅, h₆⟩
      iprop(B d i b ∗ (vLoc d ↦[rowPart 2048 (row i r) 0 2048]{q} fv) ∗ sv d i sr ∗ sv d i sw ∗ E)
      (ovLoc d ↦[rowPart 2058 (row i r) 1936 120]{fullShare} fo)
      (ovLoc d ↦[rowPart 2058 (row i r) 1936 120]{fullShare} ovVal fv fh fo) := by
  refine chunkOk_of (conv := id) (q := q) (fs := fv) (G := ovVal fv fh fo) (show 0 < S128x128.numel by decide +kernel)
    (show 0 < (⟨2, ![120, 128]⟩ : Shape).numel by decide +kernel) .rfl (fun g => ?_)
    (fun _ => .rfl) ?_ ?_ ?_ rfl rfl ?_
  · unfold B; iintro H; iexists g; iexact H
  · have hl := lend (F := F) (ℓ := vLoc d) (vPart_subset (i := i) r 1920 128 (by norm_num)) q fv
    exact hl
  · exact exists_of fo (pts_ovPart r 1936 120 (by omega) fo)
  · exact Entails.of_eq (pts_ovPart r 1936 120 (by omega) _)
  · intro fd
    funext y
    obtain ⟨a, e, rfl⟩ : ∃ a e, y = ix2 a e := ⟨y 0, y 1, eq_ix2 y⟩
    have ha := a.isLt
    refine (read_pos b 6 120 (by norm_num) _ a e).trans ?_
    refine Eq.trans ?_ ((read_pos (ovRow i r) 1936 120 (by norm_num) (ovVal fv fh fo) a e).trans (read_ovRow i r (ovVal fv fh fo) _ e)).symm
    refine Eq.trans ?_ (ovVal_mid fv fh fo r _ (by omega) (by omega) e ⟨1920 + (6 + a.val), by omega⟩ (show 1920 + (6 + a.val) + 10 = 1936 + a.val by omega)).symm
    refine Eq.trans ?_ ((read_pos (vRow i r) 1920 128 (by norm_num) fv ⟨6 + a.val, by omega⟩ e).trans (read_vRow i r fv _ e))
    refine Eq.trans ?_ (congrFun (View.read_write_univ (v := (posSlice b 0 128 (by norm_num)).view) fd _) (ix2 ⟨6 + a.val, by omega⟩ e))
    refine Eq.trans ?_ (read_pos b 0 128 (by norm_num) _ ⟨6 + a.val, by omega⟩ e).symm
    congr 2
    exact Fin.ext (show 6 + a.val = 0 + (6 + a.val) by omega)

theorem q_chunk (b : Memref sig .scVector .vmem S136x128 .f32) (r : Fin 2) (sr sw : DmaSem sig) (c : ℕ) (hc : c < 16) (q : PosShare TreeShare) (E : sProp 𝕄)
    {h₁ h₂ h₃ h₄ h₅ h₆} :
    ChunkOk d i (Env d i O W₀) ⟨_, _, _, qChunk qM i r c, posSlice b 0 128 (by norm_num), sr, h₁, h₂, h₃⟩
      ⟨_, _, _, posSlice b 0 128 (by norm_num), qChunk oqM i r c, sw, h₄, h₅, h₆⟩
      iprop(B d i b ∗ (qLoc d ↦[rowPart 2048 (row i r) 0 2048]{q} fq) ∗ sv d i sr ∗ sv d i sw ∗ E)
      (oqLoc d ↦[rowPart 2048 (row i r) (128 * c) 128]{fullShare} foq)
      (oqLoc d ↦[rowPart 2048 (row i r) (128 * c) 128]{fullShare} fq) := by
  refine chunkOk_of (conv := id) (q := q) (fs := fq) (G := fq) (show 0 < S128x128.numel by decide +kernel)
    (show 0 < S128x128.numel by decide +kernel) .rfl (fun g => ?_)
    (fun _ => .rfl) ?_ ?_ ?_ rfl rfl ?_
  · unfold B; iintro H; iexists g; iexact H
  · exact lend (ℓ := qLoc d) (qPart_subset (i := i) r c hc) _ _
  · exact exists_of foq (pts_oqPart r c hc foq)
  · exact Entails.of_eq (pts_oqPart r c hc _)
  · intro fd
    refine (View.read_write_univ (v := (posSlice b 0 128 (by norm_num)).view) fd _).trans ?_
    funext y
    obtain ⟨a, e, rfl⟩ : ∃ a e, y = ix2 a e := ⟨y 0, y 1, eq_ix2 y⟩
    exact (congrArg fq (emb_qChunk i r c hc a e)).trans (congrArg fq (emb_oqChunk i r c hc a e)).symm

set_option maxHeartbeats 2000000 in
theorem x_chunk (b : Memref sig .scVector .vmem S16x2048 .f32) (sr sw : DmaSem sig) (c : ℕ) (hc : c < 16) (q : PosShare TreeShare) (E : sProp 𝕄)
    {h₁ h₂ h₃ h₄ h₅ h₆} :
    ChunkOk d i (Env d i O W₀) ⟨_, _, _, xChunk xM i c, b, sr, h₁, h₂, h₃⟩ ⟨_, _, _, b, xChunk oxM i c, sw, h₄, h₅, h₆⟩
      iprop(B d i b ∗ (xLoc d ↦[xPart (wid i / 8) (wid i % 8 * 256) 256]{q} fx) ∗ sv d i sr ∗ sv d i sw ∗ E)
      (oxLoc d ↦[xPart (wid i / 8) (wid i % 8 * 256 + 16 * c) 16]{fullShare} fox)
      (oxLoc d ↦[xPart (wid i / 8) (wid i % 8 * 256 + 16 * c) 16]{fullShare} fx) := by
  refine chunkOk_of (conv := id) (q := q) (fs := fx) (G := fx) (show 0 < S16x2048.numel by decide +kernel)
    (show 0 < S16x2048.numel by decide +kernel) .rfl (fun g => ?_)
    (fun _ => .rfl) ?_ ?_ ?_ rfl rfl ?_
  · unfold B; iintro H; iexists g; iexact H
  · have hl := lend (F := F) (ℓ := xLoc d) (xPart_subset (i := i) c hc) q fx
    exact hl
  · exact exists_of fox (pts_oxPart c hc fox)
  · exact Entails.of_eq (pts_oxPart c hc _)
  · intro fd
    show b.view.read (Elt F) (b.view.write (Elt F) fd ((xChunk xM i c).view.read (Elt F) fx) Finset.univ) = (xChunk oxM i c).view.read (Elt F) fx
    rw [View.read_write_univ]
    exact read_x i c hc fx

end Cert.Proof.Tile
-- ==== Proof.TileBody.lean ====
/-
  The tile's whole task: two rows of the augmented values, two of the queries and 256 of the inputs, through the tile's
  own buffers.
-/
module

public import proofs.«01_k».proof.Proof.TileRings

@[expose] public section

noncomputable section

namespace Cert.Proof.Tile

open Cert.KernelIdeal Cert.KernelIdeal.Gen
open Idealize.ShloMosaic Idealize.ShloMosaic.ValueIdx
open Idealize.ShloMosaic.SparseCore (S V)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Tactic

variable {F : FTy → Type} [FloatOps F]

local notation "𝕄" => Mod F

/-! ## Rows in pieces -/

/-- How many positions chunk `c` of the augmented values has. -/
def vN (c : ℕ) : ℕ := if c < 15 then 128 else 120

theorem vN_cases (c : ℕ) : (c < 15 ∧ vN c = 128) ∨ (15 ≤ c ∧ vN c = 120) := by
  unfold vN; split <;> omega

theorem mem_rowPart {m R o n : ℕ} {x : (⟨4, ![4, 16, m, 128]⟩ : Shape).Idx} :
    x ∈ rowPart m R o n ↔ ((x 0).val = R / 16 ∧ (x 1).val = R % 16) ∧ o ≤ (x 2).val ∧ (x 2).val < o + n := by
  unfold rowPart; rw [Finset.mem_filter]; simp only [Finset.mem_univ, true_and]; tauto

theorem mem_xPart {b o n : ℕ} {x : S4x2048x2048.Idx} : x ∈ xPart b o n ↔ (x 0).val = b ∧ o ≤ (x 1).val ∧ (x 1).val < o + n := by
  unfold xPart; rw [Finset.mem_filter]; simp only [Finset.mem_univ, true_and]

theorem rowPart_disjoint {m R o n o' n' : ℕ} (h : o + n ≤ o' ∨ o' + n' ≤ o) : Disjoint (rowPart m R o n) (rowPart m R o' n') := by
  refine Finset.disjoint_left.mpr fun x hx hx' => ?_
  rw [mem_rowPart] at hx hx'
  omega

theorem xPart_disjoint {b o n o' n' : ℕ} (h : o + n ≤ o' ∨ o' + n' ≤ o) : Disjoint (xPart b o n) (xPart b o' n') := by
  refine Finset.disjoint_left.mpr fun x hx hx' => ?_
  rw [mem_xPart] at hx hx'
  omega

omit [FloatOps F] in
theorem pts_union {ℓ : Loc nD τ sig} {I J : Finset (Idx ℓ)} (h : Disjoint I J) (q : PosShare TreeShare) (f : Buf (Elt F) ℓ) :
    (ℓ ↦[I ∪ J]{q} f : sProp 𝕄) = iprop((ℓ ↦[I]{q} f) ∗ ℓ ↦[J]{q} f) :=
  BI.equiv_iff.mp ⟨(pointsTo_union h).1, (pointsTo_union h).2⟩

omit [FloatOps F] in
/-- A full share is its two halves. -/
theorem pts_halves {ℓ : Loc nD τ sig} (I : Finset (Idx ℓ)) (f : Buf (Elt F) ℓ) :
    (ℓ ↦[I]{fullShare} f : sProp 𝕄) = iprop((ℓ ↦[I]{PosShare.left fullShare} f) ∗ ℓ ↦[I]{PosShare.right fullShare} f) :=
  BI.equiv_iff.mp ⟨(pointsTo_share (PosShare.mem_left_op_right fullShare)).1, (pointsTo_share (PosShare.mem_left_op_right fullShare)).2⟩

omit [FloatOps F] in
/-- A row of the augmented values: the head block, the sixteen chunks and the last two positions. -/
theorem ovRow_pieces (d : Dev nD) (R : ℕ) (f : S4x16x2058x128.Idx → Elt F .f32) :
    (ovLoc d ↦[rowPart 2058 R 0 2058]{fullShare} f : sProp 𝕄)
      = iprop((ovLoc d ↦[rowPart 2058 R 0 16]{fullShare} f)
          ∗ bigSep (Finset.range 16) (fun c => (ovLoc d ↦[rowPart 2058 R (16 + 128 * c) (vN c)]{fullShare} f : sProp 𝕄))
          ∗ ovLoc d ↦[rowPart 2058 R 2056 2]{fullShare} f) := by
  have hdis : ∀ t ∈ Finset.range 16, ∀ t' ∈ Finset.range 16, t ≠ t' →
      Disjoint (rowPart 2058 R (16 + 128 * t) (vN t)) (rowPart 2058 R (16 + 128 * t') (vN t')) := by
    intro t ht t' ht' hne
    have h := vN_cases t; have h' := vN_cases t'
    rw [Finset.mem_range] at ht ht'
    exact rowPart_disjoint (by omega)
  have hmem : ∀ x, x ∈ (Finset.range 16).biUnion (fun c => rowPart 2058 R (16 + 128 * c) (vN c)) ↔ x ∈ rowPart 2058 R 16 2040 := by
    intro x
    simp only [Finset.mem_biUnion, Finset.mem_range, mem_rowPart]
    constructor
    · rintro ⟨c, hc, h, h', h''⟩
      have := vN_cases c
      exact ⟨h, by omega, by omega⟩
    · rintro ⟨h, h', h''⟩
      refine ⟨((x 2).val - 16) / 128, by omega, h, by omega, ?_⟩
      have := vN_cases (((x 2).val - 16) / 128)
      omega
  have hcov : rowPart 2058 R 0 2058 = rowPart 2058 R 0 16 ∪ ((Finset.range 16).biUnion (fun c => rowPart 2058 R (16 + 128 * c) (vN c)) ∪ rowPart 2058 R 2056 2) := by
    ext x
    rw [Finset.mem_union, Finset.mem_union, hmem]
    simp only [mem_rowPart]
    omega
  have hd2 : Disjoint ((Finset.range 16).biUnion (fun c => rowPart 2058 R (16 + 128 * c) (vN c))) (rowPart 2058 R 2056 2) := by
    rw [Finset.ext hmem]; exact rowPart_disjoint (by omega)
  have hd1 : Disjoint (rowPart 2058 R 0 16) ((Finset.range 16).biUnion (fun c => rowPart 2058 R (16 + 128 * c) (vN c)) ∪ rowPart 2058 R 2056 2) := by
    rw [Finset.ext hmem]; exact Finset.disjoint_union_right.mpr ⟨rowPart_disjoint (by omega), rowPart_disjoint (by omega)⟩
  rw [hcov]
  rw [pts_union (ℓ := ovLoc d) hd1, pts_union (ℓ := ovLoc d) hd2, pointsTo_biUnion (ℓ := ovLoc d) _ _ hdis]

omit [FloatOps F] in
/-- A row of the queries' copy in sixteen chunks. -/
theorem oqRow_pieces (d : Dev nD) (R : ℕ) (f : S4x16x2048x128.Idx → Elt F .f32) :
    (oqLoc d ↦[rowPart 2048 R 0 2048]{fullShare} f : sProp 𝕄)
      = bigSep (Finset.range 16) (fun c => (oqLoc d ↦[rowPart 2048 R (128 * c) 128]{fullShare} f : sProp 𝕄)) := by
  rw [← pointsTo_biUnion (ℓ := oqLoc d) _ _ (fun t _ t' _ hne => rowPart_disjoint (by omega))]
  congr 1
  ext x
  simp only [Finset.mem_biUnion, Finset.mem_range, mem_rowPart]
  constructor
  · rintro ⟨h, h', h''⟩
    exact ⟨(x 2).val / 128, by omega, h, by omega, by omega⟩
  · rintro ⟨c, hc, h, h', h''⟩
    exact ⟨h, by omega, by omega⟩

omit [FloatOps F] in
/-- The tile's rows of the inputs' copy in sixteen chunks. -/
theorem ox_pieces (d : Dev nD) (b o : ℕ) (f : S4x2048x2048.Idx → Elt F .f32) :
    (oxLoc d ↦[xPart b o 256]{fullShare} f : sProp 𝕄)
      = bigSep (Finset.range 16) (fun c => (oxLoc d ↦[xPart b (o + 16 * c) 16]{fullShare} f : sProp 𝕄)) := by
  rw [← pointsTo_biUnion (ℓ := oxLoc d) _ _ (fun t _ t' _ hne => xPart_disjoint (by omega))]
  congr 1
  ext x
  simp only [Finset.mem_biUnion, Finset.mem_range, mem_xPart]
  constructor
  · rintro ⟨h, h', h''⟩
    exact ⟨((x 1).val - o) / 16, by omega, h, by omega, by omega⟩
  · rintro ⟨c, hc, h, h', h''⟩
    exact ⟨h, by omega, by omega⟩

/-! ## The rings' slots -/

/-- The halves of a share: one for each buffer's reads. -/
abbrev lq : PosShare TreeShare := PosShare.left fullShare
abbrev rq : PosShare TreeShare := PosShare.right fullShare

variable (d : Dev nD) (i : grid1.Coords)

/-- The first slot of the values' ring. -/
abbrev vSl0 (fv : S4x16x2048x128.Idx → Elt F .f32) (r : Fin 2) : sProp 𝕄 :=
  iprop(B d i rB0 ∗ (vLoc d ↦[rowPart 2048 (row i r) 0 2048]{lq} fv) ∗ sv d i cc1_scratch5.sem ∗ sv d i cc1_scratch7.sem ∗ emp)
/-- The second. -/
abbrev vSl1 (fv : S4x16x2048x128.Idx → Elt F .f32) (r : Fin 2) : sProp 𝕄 :=
  iprop(B d i rB1 ∗ (vLoc d ↦[rowPart 2048 (row i r) 0 2048]{rq} fv) ∗ sv d i cc1_scratch6.sem ∗ sv d i cc1_scratch8.sem
      ∗ sv d i cc1_scratch17.sem ∗ sv d i cc1_scratch18.sem)
/-- A slot of the values' ring. -/
def vSl (fv : S4x16x2048x128.Idx → Elt F .f32) (r : Fin 2) : ℕ → sProp 𝕄
  | 0 => vSl0 d i fv r
  | _ => vSl1 d i fv r

/-- The first slot of the queries' ring. -/
abbrev qSl0 (fq : S4x16x2048x128.Idx → Elt F .f32) (r : Fin 2) : sProp 𝕄 :=
  iprop(B d i rB0 ∗ (qLoc d ↦[rowPart 2048 (row i r) 0 2048]{lq} fq) ∗ sv d i cc1_scratch9.sem ∗ sv d i cc1_scratch11.sem ∗ emp)
/-- The second. -/
abbrev qSl1 (fq : S4x16x2048x128.Idx → Elt F .f32) (r : Fin 2) : sProp 𝕄 :=
  iprop(B d i rB1 ∗ (qLoc d ↦[rowPart 2048 (row i r) 0 2048]{rq} fq) ∗ sv d i cc1_scratch10.sem ∗ sv d i cc1_scratch12.sem ∗ emp)
/-- A slot of the queries' ring. -/
def qSl (fq : S4x16x2048x128.Idx → Elt F .f32) (r : Fin 2) : ℕ → sProp 𝕄
  | 0 => qSl0 d i fq r
  | _ => qSl1 d i fq r

/-- The first slot of the inputs' ring. -/
abbrev xSl0 (fx : S4x2048x2048.Idx → Elt F .f32) : sProp 𝕄 :=
  iprop(B d i xB0 ∗ (xLoc d ↦[xPart (wid i / 8) (wid i % 8 * 256) 256]{lq} fx) ∗ sv d i cc1_scratch13.sem ∗ sv d i cc1_scratch15.sem ∗ emp)
/-- The second. -/
abbrev xSl1 (fx : S4x2048x2048.Idx → Elt F .f32) : sProp 𝕄 :=
  iprop(B d i xB1 ∗ (xLoc d ↦[xPart (wid i / 8) (wid i % 8 * 256) 256]{rq} fx) ∗ sv d i cc1_scratch14.sem ∗ sv d i cc1_scratch16.sem ∗ emp)
/-- A slot of the inputs' ring. -/
def xSl (fx : S4x2048x2048.Idx → Elt F .f32) : ℕ → sProp 𝕄
  | 0 => xSl0 d i fx
  | _ => xSl1 d i fx

variable {d i} {O : CellTallies nD τ sig (HIx 1)} {W₀ : Waits sig (HIx 1)}
variable (fv : S4x16x2048x128.Idx → Elt F .f32) (fh : S64x16x128.Idx → Elt F .f32) (fo : S4x16x2058x128.Idx → Elt F .f32)
  (fx fox : S4x2048x2048.Idx → Elt F .f32) (fq foq : S4x16x2048x128.Idx → Elt F .f32)

theorem v_ok (r : Fin 2) (c : ℕ) (hc : c < 14 + 2) :
    ChunkOk d i (Env d i O W₀) (vIn i r c) (vOut i r c) (vSl d i fv r (c % 2))
      (ovLoc d ↦[rowPart 2058 (row i r) (16 + 128 * c) (vN c)]{fullShare} fo)
      (ovLoc d ↦[rowPart 2058 (row i r) (16 + 128 * c) (vN c)]{fullShare} ovVal fv fh fo) := by
  rcases Nat.lt_or_ge c 15 with h | h
  · have hN : vN c = 128 := if_pos h
    rw [hN]
    unfold vIn vOut
    rw [dif_pos h, dif_pos h]
    rcases Nat.mod_two_eq_zero_or_one c with h0 | h0
    · rw [h0]
      exact v_chunk fv fh fo rB0 r _ _ c h lq _ (by omega) (by omega)
    · rw [h0]
      exact v_chunk fv fh fo rB1 r _ _ c h rq _ (by omega) (by omega)
  · obtain rfl : c = 15 := by omega
    unfold vIn vOut
    rw [dif_neg (by omega), dif_neg (by omega)]
    refine ChunkOk.conseq (v_last fv fh fo rB1 r _ _ rq iprop(sv d i cc1_scratch6.sem ∗ sv d i cc1_scratch8.sem)) ?_ ?_
    · show vSl1 d i fv r ⊢ _
      iintro ⟨H1, H2, H3, H4, H5, H6⟩
      isplitl [H1]; · iexact H1
      isplitl [H2]; · iexact H2
      isplitl [H5]; · iexact H5
      isplitl [H6]; · iexact H6
      isplitl [H3]; · iexact H3
      iexact H4
    · show _ ⊢ vSl1 d i fv r
      iintro ⟨H1, H2, H3, H4, H5, H6⟩
      isplitl [H1]; · iexact H1
      isplitl [H2]; · iexact H2
      isplitl [H5]; · iexact H5
      isplitl [H6]; · iexact H6
      isplitl [H3]; · iexact H3
      iexact H4

theorem q_ok (r : Fin 2) (c : ℕ) (hc : c < 14 + 2) :
    ChunkOk d i (Env d i O W₀) (qIn i r c) (qOut i r c) (qSl d i fq r (c % 2))
      (oqLoc d ↦[rowPart 2048 (row i r) (128 * c) 128]{fullShare} foq) (oqLoc d ↦[rowPart 2048 (row i r) (128 * c) 128]{fullShare} fq) := by
  unfold qIn qOut
  rcases Nat.mod_two_eq_zero_or_one c with h0 | h0
  · rw [h0]
    exact q_chunk fq foq rB0 r _ _ c hc lq _
  · rw [h0]
    exact q_chunk fq foq rB1 r _ _ c hc rq _

theorem x_ok (c : ℕ) (hc : c < 14 + 2) :
    ChunkOk d i (Env d i O W₀) (xIn i c) (xOut i c) (xSl d i fx (c % 2))
      (oxLoc d ↦[xPart (wid i / 8) (wid i % 8 * 256 + 16 * c) 16]{fullShare} fox)
      (oxLoc d ↦[xPart (wid i / 8) (wid i % 8 * 256 + 16 * c) 16]{fullShare} fx) := by
  unfold xIn xOut
  rcases Nat.mod_two_eq_zero_or_one c with h0 | h0
  · rw [h0]
    exact x_chunk fx fox xB0 _ _ c hc lq _
  · rw [h0]
    exact x_chunk fx fox xB1 _ _ c hc rq _

/-! ## The rows -/

/-- The values' rings' buffers and semaphores. -/
def vScr (d : Dev nD) (i : grid1.Coords) : sProp 𝕄 :=
  iprop(sv d i cc1_scratch5.sem ∗ sv d i cc1_scratch7.sem ∗ sv d i cc1_scratch6.sem ∗ sv d i cc1_scratch8.sem
    ∗ sv d i cc1_scratch17.sem ∗ sv d i cc1_scratch18.sem)

theorem row_run (r : Fin 2) (s₀ s₁ : DmaSem sig) :
    Step d i (seqOps (rowOps F i r s₀ s₁))
      iprop(((vLoc d ↦[rowPart 2048 (row i r) 0 2048]{fullShare} fv) ∗ (hLoc d ↦[hPart (row i r)]{fullShare} fh)
          ∗ (ovLoc d ↦[rowPart 2058 (row i r) 0 2058]{fullShare} fo))
        ∗ (B d i hB ∗ B d i rB0 ∗ B d i rB1) ∗ (sv d i s₀ ∗ sv d i s₁) ∗ vScr d i ∗ Env d i O W₀)
      iprop(((vLoc d ↦[rowPart 2048 (row i r) 0 2048]{fullShare} fv) ∗ (hLoc d ↦[hPart (row i r)]{fullShare} fh)
          ∗ (ovLoc d ↦[rowPart 2058 (row i r) 0 2058]{fullShare} ovVal fv fh fo))
        ∗ (B d i hB ∗ B d i rB0 ∗ B d i rB1) ∗ (sv d i s₀ ∗ sv d i s₁) ∗ vScr d i ∗ Env d i O W₀) := by
  have hend : (ovLoc d ↦[rowPart 2058 (row i r) 2056 2]{fullShare} fo : sProp 𝕄)
      = ovLoc d ↦[rowPart 2058 (row i r) 2056 2]{fullShare} ovVal fv fh fo :=
    pointsTo_congr fun x hx => by
      have := mem_rowPart.mp hx
      unfold ovVal
      rw [dif_neg (by omega), dif_neg (by omega)]
  rw [ovRow_pieces d (row i r) fo, ovRow_pieces d (row i r) (ovVal fv fh fo), pts_halves (ℓ := vLoc d), hend]
  have h1 := (ChunkOk.run (h_chunk (d := d) (i := i) (O := O) (W₀ := W₀) fv fh fo r s₀ s₁ iprop(emp))).frame
    iprop((vSl d i fv r 0 ∗ vSl d i fv r 1
      ∗ bigSep (Finset.range (14 + 2)) (fun c => (ovLoc d ↦[rowPart 2058 (row i r) (16 + 128 * c) (vN c)]{fullShare} fo : sProp 𝕄)))
      ∗ ovLoc d ↦[rowPart 2058 (row i r) 2056 2]{fullShare} ovVal fv fh fo)
  have h2 := (ring_ok (d := d) (i := i) (n := 14) (En := Env d i O W₀) (fun c hc => v_ok (d := d) (i := i) (O := O) (W₀ := W₀) fv fh fo r c hc)).frame
    iprop((B d i hB ∗ (hLoc d ↦[hPart (row i r)]{fullShare} fh) ∗ sv d i s₀ ∗ sv d i s₁ ∗ emp)
      ∗ (ovLoc d ↦[rowPart 2058 (row i r) 0 16]{fullShare} ovVal fv fh fo) ∗ ovLoc d ↦[rowPart 2058 (row i r) 2056 2]{fullShare} ovVal fv fh fo)
  unfold rowOps
  refine step_append (h1.conseq ?_ .rfl) (h2.conseq ?_ ?_)
  · unfold vScr
    show _ ⊢ iprop(((B d i hB ∗ (hLoc d ↦[hPart (row i r)]{fullShare} fh) ∗ sv d i s₀ ∗ sv d i s₁ ∗ emp) ∗ _ ∗ _) ∗ (vSl0 d i fv r ∗ vSl1 d i fv r ∗ _) ∗ _)
    iintro ⟨⟨⟨Hv0, Hv1⟩, Hh, Ho, Hos, Hoe⟩, ⟨Hb, Hb0, Hb1⟩, ⟨Hs0, Hs1⟩, ⟨H5, H7, H6, H8, H17, H18⟩, HE⟩
    isplitl [Hb Hh Hs0 Hs1 Ho HE]
    · isplitl [Hb Hh Hs0 Hs1]
      · isplitl [Hb]; · iexact Hb
        isplitl [Hh]; · iexact Hh
        isplitl [Hs0]; · iexact Hs0
        isplitl [Hs1]; · iexact Hs1
        iempintro
      isplitl [Ho]; · iexact Ho
      iexact HE
    isplitr [Hoe]
    · isplitl [Hb0 Hv0 H5 H7]
      · isplitl [Hb0]; · iexact Hb0
        isplitl [Hv0]; · iexact Hv0
        isplitl [H5]; · iexact H5
        isplitl [H7]; · iexact H7
        iempintro
      isplitr [Hos]
      · isplitl [Hb1]; · iexact Hb1
        isplitl [Hv1]; · iexact Hv1
        isplitl [H6]; · iexact H6
        isplitl [H8]; · iexact H8
        isplitl [H17]; · iexact H17
        iexact H18
      iexact Hos
    iexact Hoe
  · iintro ⟨⟨Hh, Ho, HE⟩, ⟨Hs0, Hs1, Hos⟩, Hoe⟩
    isplitr [Hh Ho Hoe]
    · isplitl [Hs0]; · iexact Hs0
      isplitl [Hs1]; · iexact Hs1
      isplitl [Hos]; · iexact Hos
      iexact HE
    isplitl [Hh]; · iexact Hh
    isplitl [Ho]; · iexact Ho
    iexact Hoe
  · unfold vScr
    show iprop((vSl0 d i fv r ∗ vSl1 d i fv r ∗ _) ∗ _) ⊢ _
    iintro ⟨⟨⟨Hb0, Hv0, H5, H7, -⟩, ⟨Hb1, Hv1, H6, H8, H17, H18⟩, Hos, HE⟩, ⟨Hb, Hh, Hs0, Hs1, -⟩, Ho, Hoe⟩
    isplitl [Hv0 Hv1 Hh Ho Hos Hoe]
    · isplitl [Hv0 Hv1]
      · isplitl [Hv0]; · iexact Hv0
        iexact Hv1
      isplitl [Hh]; · iexact Hh
      isplitl [Ho]; · iexact Ho
      isplitl [Hos]; · iexact Hos
      iexact Hoe
    isplitl [Hb Hb0 Hb1]
    · isplitl [Hb]; · iexact Hb
      isplitl [Hb0]; · iexact Hb0
      iexact Hb1
    isplitl [Hs0 Hs1]
    · isplitl [Hs0]; · iexact Hs0
      iexact Hs1
    isplitr [HE]
    · isplitl [H5]; · iexact H5
      isplitl [H7]; · iexact H7
      isplitl [H6]; · iexact H6
      isplitl [H8]; · iexact H8
      isplitl [H17]; · iexact H17
      iexact H18
    iexact HE

/-- The queries' rings' semaphores. -/
def qScr (d : Dev nD) (i : grid1.Coords) : sProp 𝕄 :=
  iprop(sv d i cc1_scratch9.sem ∗ sv d i cc1_scratch11.sem ∗ sv d i cc1_scratch10.sem ∗ sv d i cc1_scratch12.sem)

theorem q_run (r : Fin 2) :
    Step d i (seqOps (ringOps F i (qIn i r) (qOut i r) 14))
      iprop(((qLoc d ↦[rowPart 2048 (row i r) 0 2048]{fullShare} fq) ∗ (oqLoc d ↦[rowPart 2048 (row i r) 0 2048]{fullShare} foq))
        ∗ (B d i rB0 ∗ B d i rB1) ∗ qScr d i ∗ Env d i O W₀)
      iprop(((qLoc d ↦[rowPart 2048 (row i r) 0 2048]{fullShare} fq) ∗ (oqLoc d ↦[rowPart 2048 (row i r) 0 2048]{fullShare} fq))
        ∗ (B d i rB0 ∗ B d i rB1) ∗ qScr d i ∗ Env d i O W₀) := by
  rw [oqRow_pieces d (row i r) fq, oqRow_pieces d (row i r) foq, pts_halves (ℓ := qLoc d)]
  refine (ring_ok (d := d) (i := i) (n := 14) (En := Env d i O W₀) (fun c hc => q_ok (d := d) (i := i) (O := O) (W₀ := W₀) fq foq r c hc)).conseq ?_ ?_
  · unfold qScr
    show _ ⊢ iprop(qSl0 d i fq r ∗ qSl1 d i fq r ∗ _ ∗ _)
    iintro ⟨⟨⟨Hv0, Hv1⟩, Ho⟩, ⟨Hb0, Hb1⟩, ⟨H5, H7, H6, H8⟩, HE⟩
    isplitl [Hb0 Hv0 H5 H7]
    · isplitl [Hb0]; · iexact Hb0
      isplitl [Hv0]; · iexact Hv0
      isplitl [H5]; · iexact H5
      isplitl [H7]; · iexact H7
      iempintro
    isplitl [Hb1 Hv1 H6 H8]
    · isplitl [Hb1]; · iexact Hb1
      isplitl [Hv1]; · iexact Hv1
      isplitl [H6]; · iexact H6
      isplitl [H8]; · iexact H8
      iempintro
    isplitl [Ho]; · iexact Ho
    iexact HE
  · unfold qScr
    show iprop(qSl0 d i fq r ∗ qSl1 d i fq r ∗ _ ∗ _) ⊢ _
    iintro ⟨⟨Hb0, Hv0, H5, H7, -⟩, ⟨Hb1, Hv1, H6, H8, -⟩, Ho, HE⟩
    isplitl [Hv0 Hv1 Ho]
    · isplitl [Hv0 Hv1]
      · isplitl [Hv0]; · iexact Hv0
        iexact Hv1
      iexact Ho
    isplitl [Hb0 Hb1]
    · isplitl [Hb0]; · iexact Hb0
      iexact Hb1
    isplitr [HE]
    · isplitl [H5]; · iexact H5
      isplitl [H7]; · iexact H7
      isplitl [H6]; · iexact H6
      iexact H8
    iexact HE

/-- The inputs' ring's semaphores. -/
def xScr (d : Dev nD) (i : grid1.Coords) : sProp 𝕄 :=
  iprop(sv d i cc1_scratch13.sem ∗ sv d i cc1_scratch15.sem ∗ sv d i cc1_scratch14.sem ∗ sv d i cc1_scratch16.sem)

theorem x_run :
    Step d i (seqOps (ringOps F i (xIn i) (xOut i) 14))
      iprop(((xLoc d ↦[xPart (wid i / 8) (wid i % 8 * 256) 256]{fullShare} fx) ∗ (oxLoc d ↦[xPart (wid i / 8) (wid i % 8 * 256) 256]{fullShare} fox))
        ∗ (B d i xB0 ∗ B d i xB1) ∗ xScr d i ∗ Env d i O W₀)
      iprop(((xLoc d ↦[xPart (wid i / 8) (wid i % 8 * 256) 256]{fullShare} fx) ∗ (oxLoc d ↦[xPart (wid i / 8) (wid i % 8 * 256) 256]{fullShare} fx))
        ∗ (B d i xB0 ∗ B d i xB1) ∗ xScr d i ∗ Env d i O W₀) := by
  rw [ox_pieces d _ _ fx, ox_pieces d _ _ fox, pts_halves (ℓ := xLoc d)]
  refine (ring_ok (d := d) (i := i) (n := 14) (En := Env d i O W₀) (fun c hc => x_ok (d := d) (i := i) (O := O) (W₀ := W₀) fx fox c hc)).conseq ?_ ?_
  · unfold xScr
    show _ ⊢ iprop(xSl0 d i fx ∗ xSl1 d i fx ∗ _ ∗ _)
    iintro ⟨⟨⟨Hv0, Hv1⟩, Ho⟩, ⟨Hb0, Hb1⟩, ⟨H5, H7, H6, H8⟩, HE⟩
    isplitl [Hb0 Hv0 H5 H7]
    · isplitl [Hb0]; · iexact Hb0
      isplitl [Hv0]; · iexact Hv0
      isplitl [H5]; · iexact H5
      isplitl [H7]; · iexact H7
      iempintro
    isplitl [Hb1 Hv1 H6 H8]
    · isplitl [Hb1]; · iexact Hb1
      isplitl [Hv1]; · iexact Hv1
      isplitl [H6]; · iexact H6
      isplitl [H8]; · iexact H8
      iempintro
    isplitl [Ho]; · iexact Ho
    iexact HE
  · unfold xScr
    show iprop(xSl0 d i fx ∗ xSl1 d i fx ∗ _ ∗ _) ⊢ _
    iintro ⟨⟨Hb0, Hv0, H5, H7, -⟩, ⟨Hb1, Hv1, H6, H8, -⟩, Ho, HE⟩
    isplitl [Hv0 Hv1 Ho]
    · isplitl [Hv0 Hv1]
      · isplitl [Hv0]; · iexact Hv0
        iexact Hv1
      iexact Ho
    isplitl [Hb0 Hb1]
    · isplitl [Hb0]; · iexact Hb0
      iexact Hb1
    isplitr [HE]
    · isplitl [H5]; · iexact H5
      isplitl [H7]; · iexact H7
      isplitl [H6]; · iexact H6
      iexact H8
    iexact HE

/-! ## The whole task -/

/-- The tile's operands, with the augmented values at `f`, the inputs' copy at `g` and the queries' at `h`. -/
def tileOps (d : Dev nD) (i : grid1.Coords) (f : S4x16x2058x128.Idx → Elt F .f32) (g : S4x2048x2048.Idx → Elt F .f32)
    (h : S4x16x2048x128.Idx → Elt F .f32) : sProp 𝕄 :=
  iprop(((vLoc d ↦[rowPart 2048 (row i 0) 0 2048]{fullShare} fv) ∗ (hLoc d ↦[hPart (row i 0)]{fullShare} fh)
      ∗ (ovLoc d ↦[rowPart 2058 (row i 0) 0 2058]{fullShare} f))
    ∗ ((vLoc d ↦[rowPart 2048 (row i 1) 0 2048]{fullShare} fv) ∗ (hLoc d ↦[hPart (row i 1)]{fullShare} fh)
      ∗ (ovLoc d ↦[rowPart 2058 (row i 1) 0 2058]{fullShare} f))
    ∗ ((qLoc d ↦[rowPart 2048 (row i 0) 0 2048]{fullShare} fq) ∗ (oqLoc d ↦[rowPart 2048 (row i 0) 0 2048]{fullShare} h))
    ∗ ((qLoc d ↦[rowPart 2048 (row i 1) 0 2048]{fullShare} fq) ∗ (oqLoc d ↦[rowPart 2048 (row i 1) 0 2048]{fullShare} h))
    ∗ ((xLoc d ↦[xPart (wid i / 8) (wid i % 8 * 256) 256]{fullShare} fx) ∗ (oxLoc d ↦[xPart (wid i / 8) (wid i % 8 * 256) 256]{fullShare} g)))

/-- The tile's buffers and semaphores. -/
def tileScr (d : Dev nD) (i : grid1.Coords) : sProp 𝕄 :=
  iprop((B d i hB ∗ B d i rB0 ∗ B d i rB1) ∗ (B d i xB0 ∗ B d i xB1)
    ∗ (sv d i cc1_scoped0.sem ∗ sv d i cc1_scoped1.sem) ∗ (sv d i cc1_scoped2.sem ∗ sv d i cc1_scoped3.sem)
    ∗ vScr d i ∗ qScr d i ∗ xScr d i)

theorem tile_run :
    Step d i (tileBody F i)
      iprop(tileOps fv fh fx fq d i fo fox foq ∗ tileScr d i ∗ Env d i O W₀)
      iprop(tileOps fv fh fx fq d i (ovVal fv fh fo) fx fq ∗ tileScr d i ∗ Env d i O W₀) := by
  rw [tileBody_eq]
  unfold bodyOps
  refine step_append (step_append (step_append (step_append
    (((row_run (d := d) (i := i) (O := O) (W₀ := W₀) fv fh fo 0 cc1_scoped0.sem cc1_scoped1.sem).frame
      iprop(((vLoc d ↦[rowPart 2048 (row i 1) 0 2048]{fullShare} fv) ∗ (hLoc d ↦[hPart (row i 1)]{fullShare} fh)
          ∗ (ovLoc d ↦[rowPart 2058 (row i 1) 0 2058]{fullShare} fo))
        ∗ ((qLoc d ↦[rowPart 2048 (row i 0) 0 2048]{fullShare} fq) ∗ (oqLoc d ↦[rowPart 2048 (row i 0) 0 2048]{fullShare} foq))
        ∗ ((qLoc d ↦[rowPart 2048 (row i 1) 0 2048]{fullShare} fq) ∗ (oqLoc d ↦[rowPart 2048 (row i 1) 0 2048]{fullShare} foq))
        ∗ ((xLoc d ↦[xPart (wid i / 8) (wid i % 8 * 256) 256]{fullShare} fx) ∗ (oxLoc d ↦[xPart (wid i / 8) (wid i % 8 * 256) 256]{fullShare} fox))
        ∗ (B d i xB0 ∗ B d i xB1) ∗ (sv d i cc1_scoped2.sem ∗ sv d i cc1_scoped3.sem) ∗ qScr d i ∗ xScr d i)).conseq ?_ .rfl)
    (((row_run (d := d) (i := i) (O := O) (W₀ := W₀) fv fh fo 1 cc1_scoped2.sem cc1_scoped3.sem).frame
      iprop(((vLoc d ↦[rowPart 2048 (row i 0) 0 2048]{fullShare} fv) ∗ (hLoc d ↦[hPart (row i 0)]{fullShare} fh)
          ∗ (ovLoc d ↦[rowPart 2058 (row i 0) 0 2058]{fullShare} ovVal fv fh fo))
        ∗ ((qLoc d ↦[rowPart 2048 (row i 0) 0 2048]{fullShare} fq) ∗ (oqLoc d ↦[rowPart 2048 (row i 0) 0 2048]{fullShare} foq))
        ∗ ((qLoc d ↦[rowPart 2048 (row i 1) 0 2048]{fullShare} fq) ∗ (oqLoc d ↦[rowPart 2048 (row i 1) 0 2048]{fullShare} foq))
        ∗ ((xLoc d ↦[xPart (wid i / 8) (wid i % 8 * 256) 256]{fullShare} fx) ∗ (oxLoc d ↦[xPart (wid i / 8) (wid i % 8 * 256) 256]{fullShare} fox))
        ∗ (B d i xB0 ∗ B d i xB1) ∗ (sv d i cc1_scoped0.sem ∗ sv d i cc1_scoped1.sem) ∗ qScr d i ∗ xScr d i)).conseq ?_ .rfl))
    (((q_run (d := d) (i := i) (O := O) (W₀ := W₀) fq foq 0).frame
      iprop(((vLoc d ↦[rowPart 2048 (row i 0) 0 2048]{fullShare} fv) ∗ (hLoc d ↦[hPart (row i 0)]{fullShare} fh)
          ∗ (ovLoc d ↦[rowPart 2058 (row i 0) 0 2058]{fullShare} ovVal fv fh fo))
        ∗ ((vLoc d ↦[rowPart 2048 (row i 1) 0 2048]{fullShare} fv) ∗ (hLoc d ↦[hPart (row i 1)]{fullShare} fh)
          ∗ (ovLoc d ↦[rowPart 2058 (row i 1) 0 2058]{fullShare} ovVal fv fh fo))
        ∗ ((qLoc d ↦[rowPart 2048 (row i 1) 0 2048]{fullShare} fq) ∗ (oqLoc d ↦[rowPart 2048 (row i 1) 0 2048]{fullShare} foq))
        ∗ ((xLoc d ↦[xPart (wid i / 8) (wid i % 8 * 256) 256]{fullShare} fx) ∗ (oxLoc d ↦[xPart (wid i / 8) (wid i % 8 * 256) 256]{fullShare} fox))
        ∗ B d i hB ∗ (B d i xB0 ∗ B d i xB1) ∗ (sv d i cc1_scoped0.sem ∗ sv d i cc1_scoped1.sem) ∗ (sv d i cc1_scoped2.sem ∗ sv d i cc1_scoped3.sem)
        ∗ vScr d i ∗ xScr d i)).conseq ?_ .rfl))
    (((q_run (d := d) (i := i) (O := O) (W₀ := W₀) fq foq 1).frame
      iprop(((vLoc d ↦[rowPart 2048 (row i 0) 0 2048]{fullShare} fv) ∗ (hLoc d ↦[hPart (row i 0)]{fullShare} fh)
          ∗ (ovLoc d ↦[rowPart 2058 (row i 0) 0 2058]{fullShare} ovVal fv fh fo))
        ∗ ((vLoc d ↦[rowPart 2048 (row i 1) 0 2048]{fullShare} fv) ∗ (hLoc d ↦[hPart (row i 1)]{fullShare} fh)
          ∗ (ovLoc d ↦[rowPart 2058 (row i 1) 0 2058]{fullShare} ovVal fv fh fo))
        ∗ ((qLoc d ↦[rowPart 2048 (row i 0) 0 2048]{fullShare} fq) ∗ (oqLoc d ↦[rowPart 2048 (row i 0) 0 2048]{fullShare} fq))
        ∗ ((xLoc d ↦[xPart (wid i / 8) (wid i % 8 * 256) 256]{fullShare} fx) ∗ (oxLoc d ↦[xPart (wid i / 8) (wid i % 8 * 256) 256]{fullShare} fox))
        ∗ B d i hB ∗ (B d i xB0 ∗ B d i xB1) ∗ (sv d i cc1_scoped0.sem ∗ sv d i cc1_scoped1.sem) ∗ (sv d i cc1_scoped2.sem ∗ sv d i cc1_scoped3.sem)
        ∗ vScr d i ∗ xScr d i)).conseq ?_ .rfl))
    (((x_run (d := d) (i := i) (O := O) (W₀ := W₀) fx fox).frame
      iprop(((vLoc d ↦[rowPart 2048 (row i 0) 0 2048]{fullShare} fv) ∗ (hLoc d ↦[hPart (row i 0)]{fullShare} fh)
          ∗ (ovLoc d ↦[rowPart 2058 (row i 0) 0 2058]{fullShare} ovVal fv fh fo))
        ∗ ((vLoc d ↦[rowPart 2048 (row i 1) 0 2048]{fullShare} fv) ∗ (hLoc d ↦[hPart (row i 1)]{fullShare} fh)
          ∗ (ovLoc d ↦[rowPart 2058 (row i 1) 0 2058]{fullShare} ovVal fv fh fo))
        ∗ ((qLoc d ↦[rowPart 2048 (row i 0) 0 2048]{fullShare} fq) ∗ (oqLoc d ↦[rowPart 2048 (row i 0) 0 2048]{fullShare} fq))
        ∗ ((qLoc d ↦[rowPart 2048 (row i 1) 0 2048]{fullShare} fq) ∗ (oqLoc d ↦[rowPart 2048 (row i 1) 0 2048]{fullShare} fq))
        ∗ (B d i hB ∗ B d i rB0 ∗ B d i rB1) ∗ (sv d i cc1_scoped0.sem ∗ sv d i cc1_scoped1.sem) ∗ (sv d i cc1_scoped2.sem ∗ sv d i cc1_scoped3.sem)
        ∗ vScr d i ∗ qScr d i)).conseq ?_ ?_)
  · unfold tileOps tileScr
    iintro ⟨⟨Hv0, Hv1, Hq0, Hq1, Hx⟩, ⟨Hb, Hxb, Hs0, Hs1, HV, HQ, HX⟩, HE⟩
    isplitl [Hv0 Hb Hs0 HV HE]
    · isplitl [Hv0]; · iexact Hv0
      isplitl [Hb]; · iexact Hb
      isplitl [Hs0]; · iexact Hs0
      isplitl [HV]; · iexact HV
      iexact HE
    isplitl [Hv1]; · iexact Hv1
    isplitl [Hq0]; · iexact Hq0
    isplitl [Hq1]; · iexact Hq1
    isplitl [Hx]; · iexact Hx
    isplitl [Hxb]; · iexact Hxb
    isplitl [Hs1]; · iexact Hs1
    isplitl [HQ]; · iexact HQ
    iexact HX
  · iintro ⟨⟨Hv0, Hb, Hs0, HV, HE⟩, Hv1, Hq0, Hq1, Hx, Hxb, Hs1, HQ, HX⟩
    isplitl [Hv1 Hb Hs1 HV HE]
    · isplitl [Hv1]; · iexact Hv1
      isplitl [Hb]; · iexact Hb
      isplitl [Hs1]; · iexact Hs1
      isplitl [HV]; · iexact HV
      iexact HE
    isplitl [Hv0]; · iexact Hv0
    isplitl [Hq0]; · iexact Hq0
    isplitl [Hq1]; · iexact Hq1
    isplitl [Hx]; · iexact Hx
    isplitl [Hxb]; · iexact Hxb
    isplitl [Hs0]; · iexact Hs0
    isplitl [HQ]; · iexact HQ
    iexact HX
  · iintro ⟨⟨Hv1, ⟨Hb, Hb01⟩, Hs1, HV, HE⟩, Hv0, Hq0, Hq1, Hx, Hxb, Hs0, HQ, HX⟩
    isplitl [Hq0 Hb01 HQ HE]
    · isplitl [Hq0]; · iexact Hq0
      isplitl [Hb01]; · iexact Hb01
      isplitl [HQ]; · iexact HQ
      iexact HE
    isplitl [Hv0]; · iexact Hv0
    isplitl [Hv1]; · iexact Hv1
    isplitl [Hq1]; · iexact Hq1
    isplitl [Hx]; · iexact Hx
    isplitl [Hb]; · iexact Hb
    isplitl [Hxb]; · iexact Hxb
    isplitl [Hs0]; · iexact Hs0
    isplitl [Hs1]; · iexact Hs1
    isplitl [HV]; · iexact HV
    iexact HX
  · iintro ⟨⟨Hq0, Hb01, HQ, HE⟩, Hv0, Hv1, Hq1, HR⟩
    isplitl [Hq1 Hb01 HQ HE]
    · isplitl [Hq1]; · iexact Hq1
      isplitl [Hb01]; · iexact Hb01
      isplitl [HQ]; · iexact HQ
      iexact HE
    isplitl [Hv0]; · iexact Hv0
    isplitl [Hv1]; · iexact Hv1
    isplitl [Hq0]; · iexact Hq0
    iexact HR
  · iintro ⟨⟨Hq1, Hb01, HQ, HE⟩, Hv0, Hv1, Hq0, Hx, Hb, Hxb, Hs0, Hs1, HV, HX⟩
    isplitl [Hx Hxb HX HE]
    · isplitl [Hx]; · iexact Hx
      isplitl [Hxb]; · iexact Hxb
      isplitl [HX]; · iexact HX
      iexact HE
    isplitl [Hv0]; · iexact Hv0
    isplitl [Hv1]; · iexact Hv1
    isplitl [Hq0]; · iexact Hq0
    isplitl [Hq1]; · iexact Hq1
    isplitl [Hb Hb01]
    · isplitl [Hb]; · iexact Hb
      iexact Hb01
    isplitl [Hs0]; · iexact Hs0
    isplitl [Hs1]; · iexact Hs1
    isplitl [HV]; · iexact HV
    iexact HQ
  · unfold tileOps tileScr
    iintro ⟨⟨Hx, Hxb, HX, HE⟩, Hv0, Hv1, Hq0, Hq1, Hb, Hs0, Hs1, HV, HQ⟩
    isplitl [Hv0 Hv1 Hq0 Hq1 Hx]
    · isplitl [Hv0]; · iexact Hv0
      isplitl [Hv1]; · iexact Hv1
      isplitl [Hq0]; · iexact Hq0
      isplitl [Hq1]; · iexact Hq1
      iexact Hx
    isplitr [HE]
    · isplitl [Hb]; · iexact Hb
      isplitl [Hxb]; · iexact Hxb
      isplitl [Hs0]; · iexact Hs0
      isplitl [Hs1]; · iexact Hs1
      isplitl [HV]; · iexact HV
      isplitl [HQ]; · iexact HQ
      iexact HX
    iexact HE

end Cert.Proof.Tile
-- ==== Proof.TailRegion.lean ====
/-
  The tail call: all its copies started on one semaphore, nothing known until the last wait, and then every head's two
  last rows in place.
-/
module

public import proofs.«01_k».proof.Proof.TailProgram
public import proofs.«01_k».proof.Proof.TileBody
public import proofs.«01_k».proof.Proof.ConcatRegion
public import Idealize.ShloMosaic.Lib.Batch

@[expose] public section

noncomputable section

namespace Cert.Proof

open Cert.KernelIdeal Cert.KernelIdeal.Gen
open Idealize.ShloMosaic
open Idealize.ShloMosaic.ValueIdx (reshapeEquiv_ix2_11ab)
open Idealize.ShloMosaic.SparseCore.Cfg (HIx)
open Idealize.ShloMosaic.Pipeline
open Idealize.ShloMosaic.Transfers
open Idealize.SL Idealize.SL.RA Idealize.SL.BI Idealize.SL.Sem
open Idealize.SL.BI.BIBase Idealize.SL.BI.Laws Idealize.SL.ProofMode
open Cert.Proof.Tile (rowPart set_eq2 mem_rowPart pts_union)

variable {F : FTy → Type} [FloatOps F]

local notation "𝕄" => Mod F

theorem emb_tailDst (t : ℕ) (ht : t < 64) (a : Fin 2) (b : Fin 128) :
    (tailDst t).view.emb (ValueIdx.ix2 a b) = (ValueIdx.ix4 ⟨t / 16, by omega⟩ ⟨t % 16, by omega⟩ ⟨2056 + a.val, by omega⟩ b : S4x16x2058x128.Idx) := by
  show (Rect.unit (s := S4x16x2058x128) ![t / 16 % 4, t % 16, 2056, 0] S1x1x2x128.size (inb_new t)).emb (Shape.reshapeEquiv _ (ValueIdx.ix2 a b)) = _
  rw [reshapeEquiv_ix2_11ab]
  funext k
  apply Fin.ext
  match k with
  | ⟨0, _⟩ => show t / 16 % 4 + 1 * 0 = t / 16; omega
  | ⟨1, _⟩ => show t % 16 + 1 * 0 = t % 16; omega
  | ⟨2, _⟩ => show 2056 + 1 * a.val = 2056 + a.val; omega
  | ⟨3, _⟩ => show 0 + 1 * b.val = b.val; omega

theorem emb_tailSrc (t : ℕ) (ht : t < 64) (a : Fin 2) (b : Fin 128) :
    (tailSrc t).view.emb (ValueIdx.ix2 a b) = (ValueIdx.ix4 ⟨t / 16, by omega⟩ ⟨t % 16, by omega⟩ ⟨6 + a.val, by omega⟩ b : S4x16x8x128.Idx) := by
  show (Rect.unit (s := S4x16x8x128) ![t / 16 % 4, t % 16, 6, 0] S1x1x2x128.size (inb_old t)).emb (Shape.reshapeEquiv _ (ValueIdx.ix2 a b)) = _
  rw [reshapeEquiv_ix2_11ab]
  funext k
  apply Fin.ext
  match k with
  | ⟨0, _⟩ => show t / 16 % 4 + 1 * 0 = t / 16; omega
  | ⟨1, _⟩ => show t % 16 + 1 * 0 = t % 16; omega
  | ⟨2, _⟩ => show 6 + 1 * a.val = 6 + a.val; omega
  | ⟨3, _⟩ => show 0 + 1 * b.val = b.val; omega

theorem set_tailDst (t : ℕ) (ht : t < 64) : (tailDst t).view.set = rowPart 2058 t 2056 2 := by
  refine set_eq2 (tailDst t).view (emb_tailDst t ht) _ (fun a b => ⟨rfl, rfl, ?_, ?_⟩) fun x hx => ?_
  · show 2056 ≤ 2056 + a.val; omega
  · show 2056 + a.val < 2056 + 2; omega
  · obtain ⟨h0, h1, h2, h3⟩ := hx
    refine ⟨⟨(x 2).val - 2056, by omega⟩, x 3, ?_⟩
    funext k
    match k with
    | ⟨0, _⟩ => exact Fin.ext h0.symm
    | ⟨1, _⟩ => exact Fin.ext h1.symm
    | ⟨2, _⟩ => exact Fin.ext (show 2056 + ((x 2).val - 2056) = (x 2).val by omega)
    | ⟨3, _⟩ => rfl

theorem set_tailSrc (t : ℕ) (ht : t < 64) : (tailSrc t).view.set = rowPart 8 t 6 2 := by
  refine set_eq2 (tailSrc t).view (emb_tailSrc t ht) _ (fun a b => ⟨rfl, rfl, ?_, ?_⟩) fun x hx => ?_
  · show 6 ≤ 6 + a.val; omega
  · show 6 + a.val < 6 + 2; omega
  · obtain ⟨h0, h1, h2, h3⟩ := hx
    refine ⟨⟨(x 2).val - 6, by omega⟩, x 3, ?_⟩
    funext k
    match k with
    | ⟨0, _⟩ => exact Fin.ext h0.symm
    | ⟨1, _⟩ => exact Fin.ext h1.symm
    | ⟨2, _⟩ => exact Fin.ext (show 6 + ((x 2).val - 6) = (x 2).val by omega)
    | ⟨3, _⟩ => rfl

/-- The result with every head's two last rows the last two of the eight. -/
def tailVal (f : S4x16x2058x128.Idx → Elt F .f32) (g : S4x16x8x128.Idx → Elt F .f32) : S4x16x2058x128.Idx → Elt F .f32 := fun y =>
  if 2056 ≤ (y 2).val then g (ix4 (y 0) (y 1) ⟨(y 2).val - 2050, by have h2 : (y 2).val < 2058 := (y 2).isLt; omega⟩ (y 3)) else f y

abbrev newLoc (c : Dev nD) : Loc nD τ sig := (c.tc : Thread nD τ).loc main_v9
abbrev oldLoc (c : Dev nD) : Loc nD τ sig := (c.tc : Thread nD τ).loc main_v8

section Run

variable (c : Dev nD) (f : S4x16x2058x128.Idx → Elt F .f32) (g : S4x16x8x128.Idx → Elt F .f32)

/-- What the copy of head `t` delivers: its two rows written, and the rows read back. -/
def tailGive (t : Fin 64) : sProp 𝕄 :=
  iprop((newLoc c ↦[rowPart 2058 t.val 2056 2]{fullShare} tailVal f g) ∗ (oldLoc c ↦[rowPart 8 t.val 6 2]{fullShare} g))

/-- What it takes. -/
def tailTake (t : Fin 64) : sProp 𝕄 :=
  iprop((oldLoc c ↦[rowPart 8 t.val 6 2]{fullShare} g) ∗ (newLoc c ↦[rowPart 2058 t.val 2056 2]{fullShare} f))

instance (t : Fin 64) : Storable (upEmb : UEmb _ 𝕄) (tailGive c f g t) := by unfold tailGive; infer_instance

/-- The units a copy puts on the semaphore. -/
abbrev tailUnits : ℕ := (tailDst 0).view.dmaCredit

theorem tailUnits_eq (t : ℕ) : (tailDst t).view.dmaCredit = tailUnits := rfl

theorem tailUnits_pos : 0 < tailUnits := (tailDst 0).view.dmaCredit_pos (by decide)

theorem written (t : ℕ) (ht : t < 64) (x : S4x16x2058x128.Idx) (hx : x ∈ rowPart 2058 t 2056 2) :
    (tailDst t).view.write (Elt F) f ((tailSrc t).view.read (Elt F) g) Finset.univ x = tailVal f g x := by
  rw [← set_tailDst t ht] at hx
  obtain ⟨y, -, rfl⟩ := Finset.mem_map.mp hx
  rw [View.write_emb_of_mem _ _ (Finset.mem_univ y), View.read_apply]
  obtain ⟨a, b, rfl⟩ : ∃ a b, y = ValueIdx.ix2 a b := ⟨y 0, y 1, ValueIdx.eq_ix2 y⟩
  rw [emb_tailDst t ht, emb_tailSrc t ht]
  unfold tailVal
  rw [if_pos (by show 2056 ≤ 2056 + a.val; omega)]
  refine congrArg g ?_
  funext k
  match k with
  | ⟨0, _⟩ => rfl
  | ⟨1, _⟩ => rfl
  | ⟨2, _⟩ => exact Fin.ext (show 6 + a.val = 2056 + a.val - 2050 by omega)
  | ⟨3, _⟩ => rfl

theorem starts_wp (n j : ℕ) (hj : j + n = 64) (k : Prog (TpuEff nD τ sig (Elt F) Λ₀ .tc) PUnit) (Q : PUnit → sProp 𝕄) :
    iprop(bigSep (pending j) (tailTake c f g) ∗ Batch EC c.tc (.dma cc2_scratch0.sem) (none : HIx 1) tailUnits (tailGive c f g) j 0)
      ⊢ iprop((Batch EC c.tc (.dma cc2_scratch0.sem) (none : HIx 1) tailUnits (tailGive c f g) 64 0 -∗ wp frame (wpE (defs₀ (F := F)) 𝒱₀ c.tc none) Set.univ k Q)
        -∗ wp frame (wpE (defs₀ (F := F)) 𝒱₀ c.tc none) Set.univ (starts j n k) Q) := by
  induction n generalizing j with
  | zero =>
    obtain rfl : j = 64 := by omega
    iintro ⟨-, HB⟩ Hk
    iapply Hk; iexact HB
  | succ n ih =>
    have hlt : j < 64 := by omega
    rw [bigSep_pending_step _ j hlt]
    unfold starts tailTake
    iintro ⟨⟨⟨Hs, Hd⟩, HP⟩, HB⟩ Hk
    iapply (wp_dmaBatch EC 𝒱₀ c.tc none (src := tailSrc j) (dst := tailDst j) (sm := .dma cc2_scratch0.sem) (fs := g) (fd := f) (D := tailGive c f g)
      (Sd := (tailDst j).view.set) (q := fullShare) (none : HIx 1) tailUnits rfl (Finset.Subset.refl _) hlt (Nat.zero_le _) ?_) $$ [Hs Hd HB]
    · unfold tailGive
      rw [show ((tailDst j).view.loc c.tc ↦[(tailDst j).view.set]{fullShare} ((tailDst j).view.write (Elt F) f ((tailSrc j).view.read (Elt F) g) Finset.univ) : sProp 𝕄)
        = (newLoc c ↦[rowPart 2058 j 2056 2]{fullShare} tailVal f g) from by
          rw [set_tailDst j hlt]; exact pointsTo_congr (ℓ := newLoc c) (written f g j hlt), set_tailSrc j hlt]
    · isplitl [Hs]; · rw [set_tailSrc j hlt]; iexact Hs
      isplitl [Hd]; · rw [set_tailDst j hlt]; iexact Hd
      iexact HB
    iintro HB
    iapply (ih (j + 1) (by omega)) $$ [HP HB] Hk
    isplitl [HP]; · iexact HP
    iexact HB

/-- The waits: the debts stay what they are, the semaphore's waits recorded. -/
theorem waits_wp (m n j : ℕ) (hj : j + n = 64) (hn : 0 < n) (k : Prog (TpuEff nD τ sig (Elt F) Λ₀ .tc) PUnit) (Q : PUnit → sProp 𝕄) :
    iprop(Batch EC c.tc (.dma cc2_scratch0.sem) (none : HIx 1) tailUnits (tailGive c f g) 64 (j * tailUnits) ∗ owesTc (F := F) c m
        ∗ MayWaits (c.tc : Thread nD τ) (none : HIx 1) ((K (F := F)).Otc c m))
      ⊢ iprop((iprop(bigSep Finset.univ (tailGive c f g) ∗ semVal ((c.tc : Thread nD τ), SemLoc.dma cc2_scratch0.sem) 0 ∗ owesTc (F := F) c m)
          -∗ wp frame (wpE (defs₀ (F := F)) 𝒱₀ c.tc none) Set.univ k Q)
        -∗ wp frame (wpE (defs₀ (F := F)) 𝒱₀ c.tc none) Set.univ (waits j n k) Q) := by
  have hins : ∀ W, (K (F := F)).WBelow (SparseCore.T c) W (cutAt m) → (K (F := F)).WBelow (SparseCore.T c) (insert (SemLoc.dma cc2_scratch0.sem, (none : HIx 1)) W) (cutAt m) := by
    intro W hW p hp
    rcases Finset.mem_insert.mp hp with rfl | hp
    · exact Nat.zero_le _
    · exact hW p hp
  induction n generalizing j with
  | zero => omega
  | succ n ih =>
    unfold waits
    iintro ⟨HB, HO, #HM⟩ Hk
    icases (show owesTc (F := F) c m ⊢ iprop(∃ W, ⌜(K (F := F)).WBelow (SparseCore.T c) W (cutAt m)⌝ ∗ owes (SparseCore.T c) ((K (F := F)).Otc c m) W) from .rfl) $$ HO with ⟨%W, %hW, HO⟩
    ihave HM' := (MayWaits.elim (SemLoc.dma cc2_scratch0.sem)) $$ HM
    rcases Nat.eq_zero_or_pos n with rfl | hn'
    · iapply (wp_waitBatchLastO EC 𝒱₀ c.tc none (none : HIx 1) (tailUnits_eq j) tailUnits_pos (u := j * tailUnits)
        (by rw [← Nat.succ_mul, Nat.mul_comm, show j.succ = 64 by omega])) $$ [HB HO HM']
      · isplitl [HB]; · iexact HB
        isplitl [HO]; · iexact HO
        iexact HM'
      iintro ⟨HD, Hv, HO⟩
      unfold waits
      iapply Hk
      isplitl [HD]; · iexact HD
      isplitl [Hv]; · iexact Hv
      unfold owesTc
      iexists _; isplitr; rotate_left; · iexact HO
      ipureintro; exact hins W hW
    · iapply (wp_waitBatchO EC 𝒱₀ c.tc none (none : HIx 1) (tailUnits_eq j) (u := j * tailUnits)
        (by rw [← Nat.succ_mul, Nat.mul_comm]; exact Nat.mul_lt_mul_of_pos_left (show j + 1 < 64 by omega) tailUnits_pos)) $$ [HB HO HM']
      · isplitl [HB]; · iexact HB
        isplitl [HO]; · iexact HO
        iexact HM'
      iintro ⟨HB, HO⟩
      iapply (ih (j + 1) (by omega) hn') $$ [HB HO] Hk
      rw [Nat.succ_mul]
      isplitl [HB]; · iexact HB
      isplitl [HO]
      · unfold owesTc
        iexists _; isplitr; rotate_left; · iexact HO
        ipureintro; exact hins W hW
      iexact HM

/-- A buffer in its heads' parts and the rest. -/
theorem cut_heads {ℓ : Loc nD τ sig} (A : Fin 64 → Finset (Idx ℓ)) (hA : ∀ t t', t ≠ t' → Disjoint (A t) (A t')) (f : Buf (Elt F) ℓ) :
    (ℓ ↦{fullShare} f : sProp 𝕄) = iprop((ℓ ↦[Finset.univ \ Finset.univ.biUnion A]{fullShare} f) ∗ bigSep Finset.univ fun t => ℓ ↦[A t]{fullShare} f) := by
  rw [← pointsTo_biUnion Finset.univ (ℓ := ℓ) A (fun t _ t' _ h => hA t t' h)]
  have hd : Disjoint (Finset.univ \ Finset.univ.biUnion A) (Finset.univ.biUnion A) := Finset.sdiff_disjoint
  refine (congrArg (fun S => (ℓ ↦[S]{fullShare} f : sProp 𝕄)) (Finset.sdiff_union_of_subset (Finset.subset_univ (Finset.univ.biUnion A))).symm).trans ?_
  exact pts_union (ℓ := ℓ) hd fullShare f

theorem tail_disj {m o n : ℕ} (t t' : Fin 64) (h : t ≠ t') : Disjoint (rowPart m t.val o n) (rowPart m t'.val o n) := by
  have := t.isLt; have := t'.isLt
  have hne : t.val ≠ t'.val := fun e => h (Fin.ext e)
  refine Finset.disjoint_left.mpr fun x hx hx' => ?_
  obtain ⟨⟨h0, h1⟩, -⟩ := mem_rowPart.mp hx
  obtain ⟨⟨g0, g1⟩, -⟩ := mem_rowPart.mp hx'
  omega

/-- The body's run. -/
theorem tail_wp (m : ℕ) (Q : PUnit → sProp 𝕄) :
    iprop((newLoc c ↦{fullShare} f) ∗ (oldLoc c ↦{fullShare} g) ∗ semVal ((c.tc : Thread nD τ), SemLoc.dma cc2_scratch0.sem) 0 ∗ owesTc (F := F) c m
        ∗ MayWaits (c.tc : Thread nD τ) (none : HIx 1) ((K (F := F)).Otc c m))
      ⊢ iprop((iprop((newLoc c ↦{fullShare} tailVal f g) ∗ (oldLoc c ↦{fullShare} g) ∗ semVal ((c.tc : Thread nD τ), SemLoc.dma cc2_scratch0.sem) 0 ∗ owesTc (F := F) c m)
          -∗ Q ⟨⟩)
        -∗ wp frame (wpE (defs₀ (F := F)) 𝒱₀ c.tc none) Set.univ (starts 0 64 (waits 0 64 (.ret ⟨⟩))) Q) := by
  have hrest : ∀ x ∈ (Finset.univ \ Finset.univ.biUnion fun t : Fin 64 => rowPart 2058 t.val 2056 2), f x = tailVal f g x := by
    intro x hx
    have h0 : (x 0).val < 4 := (x 0).isLt
    have h1 : (x 1).val < 16 := (x 1).isLt
    have h2 : (x 2).val < 2058 := (x 2).isLt
    unfold tailVal
    rw [if_neg]
    intro h
    refine (Finset.mem_sdiff.mp hx).2 (Finset.mem_biUnion.mpr ⟨⟨16 * (x 0).val + (x 1).val, by omega⟩, Finset.mem_univ _, mem_rowPart.mpr ⟨⟨?_, ?_⟩, h, by omega⟩⟩)
    · show (x 0).val = (16 * (x 0).val + (x 1).val) / 16; omega
    · show (x 1).val = (16 * (x 0).val + (x 1).val) % 16; omega
  rw [cut_heads (ℓ := newLoc c) (fun t : Fin 64 => rowPart 2058 t.val 2056 2) tail_disj f, cut_heads (ℓ := oldLoc c) (fun t : Fin 64 => rowPart 8 t.val 6 2) tail_disj g,
    cut_heads (ℓ := newLoc c) (fun t : Fin 64 => rowPart 2058 t.val 2056 2) tail_disj (tailVal f g), pointsTo_congr (ℓ := newLoc c) hrest]
  iintro ⟨⟨Hr, Hd⟩, ⟨Hr', Hs⟩, Hv, HO, HM⟩ Hk
  imod (batch_alloc' EC (SparseCore.T c) (none : HIx 1) tailUnits (tailGive c f g)) $$ Hv with HB
  ihave Ht : bigSep Finset.univ (tailTake c f g) $$ [Hd Hs]
  · unfold tailTake
    rw [bigSep_sep']
    isplitl [Hs]; · iexact Hs
    iexact Hd
  iapply (starts_wp c f g 64 0 rfl) $$ [Ht HB]
  · rw [pending_zero]
    isplitl [Ht]; · iexact Ht
    iexact HB
  iintro HB
  iapply (waits_wp c f g m 64 0 rfl (by norm_num)) $$ [HB HO HM]
  · rw [Nat.zero_mul]
    isplitl [HB]; · iexact HB
    isplitl [HO]; · iexact HO
    iexact HM
  iintro ⟨HD, Hv, HO⟩
  rw [wp_ret]; imodintro
  iapply Hk
  icases (show bigSep Finset.univ (tailGive c f g) ⊢ iprop((bigSep Finset.univ fun t : Fin 64 => newLoc c ↦[rowPart 2058 t.val 2056 2]{fullShare} tailVal f g)
      ∗ bigSep Finset.univ fun t : Fin 64 => oldLoc c ↦[rowPart 8 t.val 6 2]{fullShare} g) from Entails.of_eq (by unfold tailGive; rw [bigSep_sep'])) $$ HD with ⟨Hd, Hs⟩
  isplitl [Hr Hd]
  · isplitl [Hr]; · iexact Hr
    iexact Hd
  isplitl [Hr' Hs]
  · isplitl [Hr']; · iexact Hr'
    iexact Hs
  isplitl [Hv]; · iexact Hv
  iexact HO

end Run

end Cert.Proof
-- ==== Proof.TailCall.lean ====
/-
  The tail call's proof data: no window, the body's own two arrays and semaphore held before its one point and after.
-/
module

public import proofs.«01_k».proof.Proof.TailRegion
public import Idealize.ShloMosaic.Lib.Pipeline.Kit

@[expose] public section

noncomputable section

namespace Cert.Proof

open Cert.KernelIdeal Cert.KernelIdeal.Gen
open Idealize.ShloMosaic
open Idealize.ShloMosaic.SparseCore.Cfg (HIx)
open Idealize.ShloMosaic.Pipeline
open Idealize.ShloMosaic.Transfers
open Idealize.SL Idealize.SL.RA Idealize.SL.BI Idealize.SL.Sem
open Idealize.SL.BI.BIBase Idealize.SL.BI.Laws Idealize.SL.ProofMode

variable {F : FTy → Type} [FloatOps F]

local notation "𝕄" => Mod F

/-- The array the rows are written to, and the one they come from. -/
abbrev newRef : DevRef τ sig := Proc.devRef .tc main_v9
abbrev oldRef : DevRef τ sig := Proc.devRef .tc main_v8

/-- The one semaphore of the call. -/
def tailSem : Unit → SemLoc sig := fun _ => .dma cc2_scratch0.sem

theorem tailSem_facts : OwnSemFacts cfg2.spec tailSem where
  isScoped := by decide
  inj := fun _ _ _ => rfl
  disj := fun _ w => w.elim0

/-- What the call leaves. -/
def tailNext (V : Dev nD → Valuation τ sig (Elt F)) (c : Dev nD) : Valuation τ sig (Elt F) :=
  Function.update (V c) newRef (tailVal (V c newRef) (V c oldRef))

theorem tailNext_new (V : Dev nD → Valuation τ sig (Elt F)) (c : Dev nD) : tailNext V c newRef = tailVal (V c newRef) (V c oldRef) :=
  Function.update_self _ _ _

theorem tailNext_ne (V : Dev nD → Valuation τ sig (Elt F)) (c : Dev nD) (b : DevRef τ sig) (h : b ≠ newRef) : tailNext V c b = V c b :=
  Function.update_of_ne h _ _

/-- The arrays the body uses. -/
def tailRefs : Finset (DevRef τ sig) := {newRef, oldRef}

theorem held_tail (c : Dev nD) (W : Valuation τ sig (Elt F)) :
    (StableHlo.held (c.tc : Thread nD τ) tailRefs W : sProp 𝕄) = iprop((newLoc c ↦{fullShare} W newRef) ∗ (oldLoc c ↦{fullShare} W oldRef)) := by
  unfold StableHlo.held tailRefs
  rw [SparseCore.bigSep_insert' (by decide), bigSep_singleton]

theorem tail_own (c : Dev nD) : (ownSems0 tailSem c : sProp 𝕄) = semVal ((c.tc : Thread nD τ), SemLoc.dma cc2_scratch0.sem) 0 :=
  bigSep_univ_of_subsingleton ()

/-- The call's proof data. -/
def datTail (V : Dev nD → Valuation τ sig (Elt F)) (n : ℕ) (c : Dev nD) : Dat τ (Elt F) (HIx 1) ℕ UU ℕ cfg2 c where
  A w := w.elim0
  after w := w.elim0
  Φ t := if t.val = 0 then
      iprop(scopedRest cfg2.spec c ∗ ownSems0 tailSem c ∗ StableHlo.held (c.tc : Thread nD τ) tailRefs (V c) ∗ MayWaits (c.tc : Thread nD τ) none ((K (F := F)).Otc c n))
    else iprop(scopedRest cfg2.spec c ∗ ownSems0 tailSem c ∗ StableHlo.held (c.tc : Thread nD τ) tailRefs (tailNext V c))
  q _ := fullShare
  owed _ := (K (F := F)).Otc c n
  recorded _ := below (F := F) c n

theorem datTail_owes (V : Dev nD → Valuation τ sig (Elt F)) (n : ℕ) (c : Dev nD) (t : Fin (cfg2.N + 1)) :
    (datTail V n c).owesAt none t = owesTc (F := F) c n := by
  have hb : (datTail V n c).bound none t = below (F := F) c n := by
    unfold Dat.bound
    refine Set.union_eq_self_of_subset_right ?_
    rintro _ ⟨w, -⟩
    exact w.elim0
  unfold Dat.owesAt owesWithin owesTc
  rw [hb]
  rfl

theorem datTail_before (V : Dev nD → Valuation τ sig (Elt F)) (n : ℕ) (c : Dev nD) (t : Fin (cfg2.N + 1)) (h : t.val = 0) : (datTail V n c).Φ t
    = iprop(scopedRest cfg2.spec c ∗ ownSems0 tailSem c ∗ StableHlo.held (c.tc : Thread nD τ) tailRefs (V c) ∗ MayWaits (c.tc : Thread nD τ) none ((K (F := F)).Otc c n)) := by
  unfold datTail
  exact if_pos h

theorem datTail_after (V : Dev nD → Valuation τ sig (Elt F)) (n : ℕ) (c : Dev nD) (t : Fin (cfg2.N + 1)) (h : t.val ≠ 0) : (datTail V n c).Φ t
    = iprop(scopedRest cfg2.spec c ∗ ownSems0 tailSem c ∗ StableHlo.held (c.tc : Thread nD τ) tailRefs (tailNext V c)) := by
  unfold datTail
  exact if_neg h

set_option maxRecDepth 65536 in
theorem datTail_body (V : Dev nD → Valuation τ sig (Elt F)) (n : ℕ) (c : Dev nD) :
    BodyObligationLoose (datTail V n c) (defs₀ (F := F)) 𝒱₀ none Set.univ := by
  intro t
  have ht : t.val = 0 := by have h : t.val < grid2.N := t.isLt; have := N_2; omega
  show _ ⊢ wp _ _ _ (bodyAt2 (F := F) t) _
  rw [datTail_owes, datTail_owes]
  rw [datTail_before V n c t.castSucc ht, datTail_after V n c t.succ (by show t.val + 1 ≠ 0; omega),
    held_tail, held_tail, tail_own, tailNext_new, tailNext_ne V c oldRef (by decide)]
  rw [show bodyAt2 (F := F) t = starts 0 64 (waits 0 64 (.ret ⟨⟩)) from tail_eq]
  iintro ⟨⟨Hr, Hs, ⟨Hf, Hg⟩, HM⟩, HO, Hw⟩
  iapply (tail_wp (F := F) c (V c newRef) (V c oldRef) n _) $$ [Hs Hf Hg HM HO]
  · isplitl [Hf]; · iexact Hf
    isplitl [Hg]; · iexact Hg
    isplitl [Hs]; · iexact Hs
    isplitl [HO]; · iexact HO
    iexact HM
  iintro ⟨Hf, Hg, Hs, HO⟩
  isplitr [HO Hw]
  · isplitl [Hr]; · iexact Hr
    isplitl [Hs]; · iexact Hs
    isplitl [Hf]; · iexact Hf
    iexact Hg
  isplitl [HO]; · iexact HO
  iapply (show (bigSep Finset.univ fun w : Fin cfg2.W => _ : sProp 𝕄) ⊢ bigSep Finset.univ fun w : Fin cfg2.W => _ from bigSep_mono fun w _ => w.elim0)
  iexact Hw

end Cert.Proof
-- ==== Proof.Calls.lean ====
/-
  The three TensorCore calls of @main, each entered from the unscoped buffers held at a valuation and left with them held
  at the valuation it makes of it.
-/
module

public import proofs.«01_k».proof.Proof.RetrieveRegion
public import proofs.«01_k».proof.Proof.TailCall

@[expose] public section

noncomputable section

namespace Cert.Proof

open Cert.KernelIdeal Cert.KernelIdeal.Gen
open Idealize.ShloMosaic
open Idealize.ShloMosaic.SparseCore.Cfg (HIx)
open Idealize.ShloMosaic.Pipeline
open Idealize.SL Idealize.SL.RA Idealize.SL.BI Idealize.SL.Sem
open Idealize.SL.BI.BIBase Idealize.SL.BI.Laws Idealize.SL.ProofMode

variable {F : FTy → Type} [FloatOps F]

local notation "𝕄" => Mod F

/-- A TensorCore array as a buffer of the device. -/
abbrev ref (b : Ref sig .tc) : DevRef τ sig := Proc.devRef .tc b

variable (V : Dev nD → Valuation τ sig (Elt F)) (n : ℕ)

/-- The proof data of the three calls, from the valuation the call in question is entered with. -/
def dats : Dats F := fun p => match p with
  | 0 => datRet V n
  | 1 => datTail V n
  | 2 => datCat V n
  | ⟨_ + 3, h⟩ => absurd h (Nat.not_lt.2 (Nat.le_add_left _ _))

/-- What the retrieval call leaves: the keys, the values, the positions and the mask. -/
def retNext (c : Dev nD) : Valuation τ sig (Elt F) :=
  Function.update (Function.update (Function.update (Function.update (V c)
    (ref main_v6_0) (keysOut (entry V cfg0 c 0) (entry V cfg0 c 1)))
    (ref main_v6_1) (valsOut (entry V cfg0 c 0) (entry V cfg0 c 1) (entry V cfg0 c 2) (entry V cfg0 c 5)))
    (ref main_v6_2) (posOut (entry V cfg0 c 0) (entry V cfg0 c 1) (entry V cfg0 c 3)))
    (ref main_v6_3) (maskOut (entry V cfg0 c 4))

/-- What the joining call leaves. -/
def catNext (c : Dev nD) : Valuation τ sig (Elt F) :=
  Function.update (V c) (ref main_v10) (catArr (entry V cfg3 c 0) (entry V cfg3 c 1))

theorem retNext_ne (c : Dev nD) (b : DevRef τ sig) (h0 : b ≠ ref main_v6_0) (h1 : b ≠ ref main_v6_1) (h2 : b ≠ ref main_v6_2) (h3 : b ≠ ref main_v6_3) :
    retNext V c b = V c b := by
  unfold retNext
  rw [Function.update_of_ne h3, Function.update_of_ne h2, Function.update_of_ne h1, Function.update_of_ne h0]

theorem retNext_keys (c : Dev nD) : retNext V c (ref main_v6_0) = keysOut (entry V cfg0 c 0) (entry V cfg0 c 1) := by
  unfold retNext
  rw [Function.update_of_ne (by decide), Function.update_of_ne (by decide), Function.update_of_ne (by decide), Function.update_self]

theorem retNext_vals (c : Dev nD) : retNext V c (ref main_v6_1) = valsOut (entry V cfg0 c 0) (entry V cfg0 c 1) (entry V cfg0 c 2) (entry V cfg0 c 5) := by
  unfold retNext
  rw [Function.update_of_ne (by decide), Function.update_of_ne (by decide), Function.update_self]

theorem retNext_pos (c : Dev nD) : retNext V c (ref main_v6_2) = posOut (entry V cfg0 c 0) (entry V cfg0 c 1) (entry V cfg0 c 3) := by
  unfold retNext
  rw [Function.update_of_ne (by decide), Function.update_self]

theorem retNext_mask (c : Dev nD) : retNext V c (ref main_v6_3) = maskOut (entry V cfg0 c 4) := by
  unfold retNext
  rw [Function.update_self]

theorem catNext_ne (c : Dev nD) (b : DevRef τ sig) (h : b ≠ ref main_v10) : catNext V c b = V c b := Function.update_of_ne h _ _

theorem catNext_new (c : Dev nD) : catNext V c (ref main_v10) = catArr (entry V cfg3 c 0) (entry V cfg3 c 1) := Function.update_self _ _ _

theorem ret_arrays (c : Dev nD) : ∀ w : Fin cfg0.W, (datRet V n c).arrAt w cfg0.N = retNext V c (ref (arrRef cfg0.spec w))
  | 0 => ((datRet V n c).arrAt_in 0 rfl _).trans (retNext_ne V c _ (by decide) (by decide) (by decide) (by decide)).symm
  | 1 => ((datRet V n c).arrAt_in 1 rfl _).trans (retNext_ne V c _ (by decide) (by decide) (by decide) (by decide)).symm
  | 2 => ((datRet V n c).arrAt_in 2 rfl _).trans (retNext_ne V c _ (by decide) (by decide) (by decide) (by decide)).symm
  | 3 => ((datRet V n c).arrAt_in 3 rfl _).trans (retNext_ne V c _ (by decide) (by decide) (by decide) (by decide)).symm
  | 4 => ((datRet V n c).arrAt_in 4 rfl _).trans (retNext_ne V c _ (by decide) (by decide) (by decide) (by decide)).symm
  | 5 => ((datRet V n c).arrAt_in 5 rfl _).trans (retNext_ne V c _ (by decide) (by decide) (by decide) (by decide)).symm
  | 6 => (datRet_out6 V n c).trans (retNext_keys V c).symm
  | 7 => (datRet_out7 V n c).trans (retNext_vals V c).symm
  | 8 => (datRet_out8 V n c).trans (retNext_pos V c).symm
  | 9 => (datRet_out9 V n c).trans (retNext_mask V c).symm
  | ⟨_ + 10, h⟩ => absurd h (Nat.not_lt.2 (Nat.le_add_left _ _))

theorem cat_arrays (c : Dev nD) : ∀ w : Fin cfg3.W, (datCat V n c).arrAt w cfg3.N = catNext V c (ref (arrRef cfg3.spec w))
  | 0 => ((datCat V n c).arrAt_in 0 rfl _).trans (catNext_ne V c _ (by decide)).symm
  | 1 => ((datCat V n c).arrAt_in 1 rfl _).trans (catNext_ne V c _ (by decide)).symm
  | 2 => (datCat_out V n c).trans (catNext_new V c).symm
  | ⟨_ + 3, h⟩ => absurd h (Nat.not_lt.2 (Nat.le_add_left _ _))

theorem arrs_ret : arrRefs (τ := τ) cfg0.spec ⊆ ucRefs τ sig := arrRefs_sub_ucRefs _ (by decide)
theorem arrs_tail : arrRefs (τ := τ) cfg2.spec ⊆ ucRefs τ sig := arrRefs_sub_ucRefs _ (by decide)
theorem arrs_cat : arrRefs (τ := τ) cfg3.spec ⊆ ucRefs τ sig := arrRefs_sub_ucRefs _ (by decide)

theorem mem_arrs_ret (w : Fin cfg0.W) : ref (arrRef cfg0.spec w) ∈ arrRefs (τ := τ) cfg0.spec :=
  Finset.mem_map_of_mem _ (Finset.mem_image_of_mem _ (Finset.mem_univ w))
theorem mem_arrs_cat (w : Fin cfg3.W) : ref (arrRef cfg3.spec w) ∈ arrRefs (τ := τ) cfg3.spec :=
  Finset.mem_map_of_mem _ (Finset.mem_image_of_mem _ (Finset.mem_univ w))

theorem ret_in (c : Dev nD) : iprop(scopedRest cfg0.spec c ∗ ownSems0 (fun k : PEmpty => k.elim) c ∗ StableHlo.held (c.tc : Thread nD τ) ∅ (V c)
    ∗ Transfers.MayWaits (c.tc : Thread nD τ) none ((K (F := F)).Otc c n)) ⊢ (datRet V n c).Φ 0 :=
  (sep_elim_left : _ ⊢ (scopedRest cfg0.spec c : sProp 𝕄))

theorem cat_in (c : Dev nD) : iprop(scopedRest cfg3.spec c ∗ ownSems0 (fun k : PEmpty => k.elim) c ∗ StableHlo.held (c.tc : Thread nD τ) ∅ (V c)
    ∗ Transfers.MayWaits (c.tc : Thread nD τ) none ((K (F := F)).Otc c n)) ⊢ (datCat V n c).Φ 0 :=
  (sep_elim_left : _ ⊢ (scopedRest cfg3.spec c : sProp 𝕄))

theorem none_out (c : Dev nD) (W : Valuation τ sig (Elt F)) {A : sProp 𝕄} :
    A ⊢ iprop(A ∗ ownSems0 (fun k : PEmpty => k.elim) c ∗ StableHlo.held (c.tc : Thread nD τ) ∅ W) := by
  rw [ownSems0_none, show (StableHlo.held (c.tc : Thread nD τ) ∅ W : sProp 𝕄) = BI.emp from BI.bigSep_empty]
  iintro H
  isplitl [H]; · iexact H
  isplitl []; · iempintro
  iempintro

theorem ret_out (c : Dev nD) : (datRet V n c).Φ (Fin.last _)
    ⊢ iprop(scopedRest cfg0.spec c ∗ ownSems0 (fun k : PEmpty => k.elim) c ∗ StableHlo.held (c.tc : Thread nD τ) ∅ (retNext V c)) := none_out c _

theorem cat_out (c : Dev nD) : (datCat V n c).Φ (Fin.last _)
    ⊢ iprop(scopedRest cfg3.spec c ∗ ownSems0 (fun k : PEmpty => k.elim) c ∗ StableHlo.held (c.tc : Thread nD τ) ∅ (catNext V c)) := none_out c _

theorem ret_share (c : Dev nD) (w : Fin cfg0.W) : (datRet V n c).share w = fullShare := by unfold Dat.share; split <;> rfl
theorem cat_share (c : Dev nD) (w : Fin cfg3.W) : (datCat V n c).share w = fullShare := by unfold Dat.share; split <;> rfl

/-- The retrieval call. -/
def regRet : RegionSeg (pcfgs (F := F)) adm (dats V n) none defs₀ 𝒱₀ (K (F := F)).L (K (F := F)).lev 0 :=
  tcRegion (dats V n) n 0 (fun k : PEmpty => k.elim) (OwnSemFacts.none _) V (retNext V) ∅ launch0.toP rfl arrs_ret (Finset.empty_subset _)
    (datRet_body V n) (fun _ _ => rfl) (fun _ _ => rfl) (ret_share V n)
    (fun c b hb => retNext_ne V c b
      (fun h => (Finset.mem_sdiff.mp (Finset.mem_sdiff.mp hb).1).2 (h ▸ mem_arrs_ret 6)) (fun h => (Finset.mem_sdiff.mp (Finset.mem_sdiff.mp hb).1).2 (h ▸ mem_arrs_ret 7))
      (fun h => (Finset.mem_sdiff.mp (Finset.mem_sdiff.mp hb).1).2 (h ▸ mem_arrs_ret 8)) (fun h => (Finset.mem_sdiff.mp (Finset.mem_sdiff.mp hb).1).2 (h ▸ mem_arrs_ret 9)))
    (ret_in V n) (ret_out V n) (fun _ _ => rfl) (ret_arrays V n)

theorem tailRefs_sub : tailRefs ⊆ ucRefs τ sig \ arrRefs (τ := τ) cfg2.spec := by
  intro b hb
  refine Finset.mem_sdiff.mpr ⟨?_, fun h => ?_⟩
  · unfold tailRefs at hb
    rcases Finset.mem_insert.mp hb with rfl | hb
    · exact Finset.mem_filter.mpr ⟨StableHlo.devRef_mem_tcRefs _, by decide⟩
    · rw [Finset.mem_singleton.mp hb]; exact Finset.mem_filter.mpr ⟨StableHlo.devRef_mem_tcRefs _, by decide⟩
  · obtain ⟨_, h, -⟩ := Finset.mem_map.mp h
    obtain ⟨w, -, -⟩ := Finset.mem_image.mp h
    exact w.elim0

/-- The tail call. -/
def regTail : RegionSeg (pcfgs (F := F)) adm (dats V n) none defs₀ 𝒱₀ (K (F := F)).L (K (F := F)).lev 1 :=
  tcRegion (dats V n) n 1 tailSem tailSem_facts V (tailNext V) tailRefs launch2.toP rfl arrs_tail tailRefs_sub
    (datTail_body V n) (fun _ _ => rfl) (fun _ _ => rfl) (fun _ w => w.elim0)
    (fun c b hb => tailNext_ne V c b fun h => (Finset.mem_sdiff.mp hb).2 (h ▸ Finset.mem_insert_self _ _))
    (fun c => Entails.of_eq (datTail_before V n c 0 rfl).symm)
    (fun c => Entails.of_eq (datTail_after V n c (Fin.last _) (by show grid2.N ≠ 0; rw [N_2]; decide)))
    (fun _ w => w.elim0) (fun _ w => w.elim0)

/-- The joining call. -/
def regCat : RegionSeg (pcfgs (F := F)) adm (dats V n) none defs₀ 𝒱₀ (K (F := F)).L (K (F := F)).lev 2 :=
  tcRegion (dats V n) n 2 (fun k : PEmpty => k.elim) (OwnSemFacts.none _) V (catNext V) ∅ launch3.toP rfl arrs_cat (Finset.empty_subset _)
    (datCat_body V n) (fun _ _ => rfl) (fun _ _ => rfl) (cat_share V n)
    (fun c b hb => catNext_ne V c b fun h => (Finset.mem_sdiff.mp (Finset.mem_sdiff.mp hb).1).2 (h ▸ mem_arrs_cat 2))
    (cat_in V n) (cat_out V n) (fun _ _ => rfl) (cat_arrays V n)

end Cert.Proof
-- ==== Proof.TileLaunch.lean ====
/-
  The SparseCore call in the launch: what its handshakes carry, the tile's obligation, and the operands cut among the
  tiles.
-/
module

public import proofs.«01_k».proof.Proof.TileBody
public import Idealize.ShloMosaic.Lib.SparseCore.Scatter

@[expose] public section

noncomputable section

namespace Cert.Proof.Tile

open Cert.KernelIdeal Cert.KernelIdeal.Gen
open Idealize.ShloMosaic Idealize.ShloMosaic.ValueIdx
open Idealize.ShloMosaic.SparseCore (S V)
open Idealize.ShloMosaic.SparseCore.Cfg (HIx mem_ownCells)
open Idealize.SL Idealize.SL.RA Idealize.SL.BI Idealize.SL.Sem
open scoped Idealize.SL.BI
open Idealize.SL.BI.BIBase Idealize.SL.BI.Laws Idealize.SL.ProofMode
open Idealize.ShloMosaic.Tactic

variable {F : FTy → Type} [FloatOps F]

local notation "𝕄" => Mod F

/-! ## The tile's own buffers and semaphores -/

section Own

variable (d : Dev nD) (i : grid1.Coords)

/-- The tile's copies' semaphores. -/
def dmaSems : Finset (DmaSem sig) :=
  {cc1_scoped0.sem, cc1_scoped1.sem, cc1_scoped2.sem, cc1_scoped3.sem,
    cc1_scratch5.sem, cc1_scratch7.sem, cc1_scratch6.sem, cc1_scratch8.sem, cc1_scratch17.sem, cc1_scratch18.sem,
    cc1_scratch9.sem, cc1_scratch11.sem, cc1_scratch10.sem, cc1_scratch12.sem,
    cc1_scratch13.sem, cc1_scratch15.sem, cc1_scratch14.sem, cc1_scratch16.sem}

/-- The cell of a semaphore on the tile. -/
def semCell : DmaSem sig ↪ GSem nD τ sig := ⟨fun s => (thr d i, SemLoc.dma s), fun a b h => by
  have := congrArg Prod.snd h; exact SemLoc.dma.inj this⟩

omit [FloatOps F] in
theorem dmaSems_own : dmaSems.map (semCell d i) ⊆ SparseCore.Cfg.ownCells (thr d i) := by
  intro g hg
  obtain ⟨s, hs, rfl⟩ := Finset.mem_map.mp hg
  refine mem_ownCells.mpr ⟨rfl, ?_⟩
  show (SemLoc.dma s : SemLoc sig).isScoped .scVector = true
  clear hg; revert s; decide +kernel

omit [FloatOps F] in
theorem bigSep_dmaSems (Φ : DmaSem sig → sProp 𝕄) : bigSep dmaSems Φ =
    iprop(Φ cc1_scoped0.sem ∗ Φ cc1_scoped1.sem ∗ Φ cc1_scoped2.sem ∗ Φ cc1_scoped3.sem
      ∗ Φ cc1_scratch5.sem ∗ Φ cc1_scratch7.sem ∗ Φ cc1_scratch6.sem ∗ Φ cc1_scratch8.sem ∗ Φ cc1_scratch17.sem ∗ Φ cc1_scratch18.sem
      ∗ Φ cc1_scratch9.sem ∗ Φ cc1_scratch11.sem ∗ Φ cc1_scratch10.sem ∗ Φ cc1_scratch12.sem
      ∗ Φ cc1_scratch13.sem ∗ Φ cc1_scratch15.sem ∗ Φ cc1_scratch14.sem ∗ Φ cc1_scratch16.sem) := by
  unfold dmaSems
  rw [SparseCore.bigSep_insert' (by decide +kernel), SparseCore.bigSep_insert' (by decide +kernel), SparseCore.bigSep_insert' (by decide +kernel),
    SparseCore.bigSep_insert' (by decide +kernel), SparseCore.bigSep_insert' (by decide +kernel), SparseCore.bigSep_insert' (by decide +kernel),
    SparseCore.bigSep_insert' (by decide +kernel), SparseCore.bigSep_insert' (by decide +kernel), SparseCore.bigSep_insert' (by decide +kernel),
    SparseCore.bigSep_insert' (by decide +kernel), SparseCore.bigSep_insert' (by decide +kernel), SparseCore.bigSep_insert' (by decide +kernel),
    SparseCore.bigSep_insert' (by decide +kernel), SparseCore.bigSep_insert' (by decide +kernel), SparseCore.bigSep_insert' (by decide +kernel),
    SparseCore.bigSep_insert' (by decide +kernel), SparseCore.bigSep_insert' (by decide +kernel), bigSep_singleton]

/-- The tile's other cells at zero. -/
def semRest : sProp 𝕄 := bigSep (SparseCore.Cfg.ownCells (thr d i) \ dmaSems.map (semCell d i)) fun g => semVal g 0

omit [FloatOps F] in
theorem ownSems0_tile : (SparseCore.Cfg.ownSems0 (thr d i) : sProp 𝕄) = iprop(bigSep dmaSems (fun s => sv d i s) ∗ semRest d i) := by
  unfold SparseCore.Cfg.ownSems0 semRest
  rw [SparseCore.bigSep_sdiff_split' (dmaSems_own d i), bigSep_map]
  rfl

/-- The tile's scratch. -/
def refs : Finset (Ref sig .scVector) := {cc1_scratch0, cc1_scratch1, cc1_scratch2, cc1_scratch3, cc1_scratch4}

/-- A scratch buffer's place on the tile. -/
def refCell : Ref sig .scVector ↪ DevRef τ sig := ⟨(thr d i).2.devRef, Proc.devRef_injective _⟩

omit [FloatOps F] in
theorem refs_own : refs.map (refCell d i) ⊆ SparseCore.Cfg.ownRefs (thr d i).2 := by
  intro b hb
  obtain ⟨r, hr, rfl⟩ := Finset.mem_map.mp hb
  refine SparseCore.Cfg.mem_ownRefs_of_owner (p := (thr d i).2) (b := (thr d i).2.devRef r) ?_
  unfold refs at hr
  simp only [Finset.mem_insert, Finset.mem_singleton] at hr
  rcases hr with rfl | rfl | rfl | rfl | rfl <;> rfl

/-- The tile's other buffers. -/
def refRest : sProp 𝕄 := bigSep (SparseCore.Cfg.ownRefs (thr d i).2 \ refs.map (refCell d i)) fun b => iprop(∃ f, ((d, b) : Loc nD τ sig) ↦{fullShare} f)

omit [FloatOps F] in
theorem bigSep_refs (Φ : Ref sig .scVector → sProp 𝕄) : bigSep refs Φ =
    iprop(Φ cc1_scratch0 ∗ Φ cc1_scratch1 ∗ Φ cc1_scratch2 ∗ Φ cc1_scratch3 ∗ Φ cc1_scratch4) := by
  unfold refs
  rw [SparseCore.bigSep_insert' (by decide +kernel), SparseCore.bigSep_insert' (by decide +kernel), SparseCore.bigSep_insert' (by decide +kernel),
    SparseCore.bigSep_insert' (by decide +kernel), bigSep_singleton]

omit [FloatOps F] in
theorem ownBufs_tile : (SparseCore.Cfg.ownBufs (thr d i) : sProp 𝕄)
    = iprop(bigSep refs (fun r => iprop(∃ f, (thr d i).loc r ↦{fullShare} f)) ∗ refRest d i) := by
  unfold SparseCore.Cfg.ownBufs refRest
  rw [SparseCore.bigSep_sdiff_split' (refs_own d i), bigSep_map]
  rfl

omit [FloatOps F] in
theorem tileScr_eq : (iprop(bigSep refs (fun r => iprop(∃ f, (thr d i).loc r ↦{fullShare} f)) ∗ bigSep dmaSems (fun s => sv d i s)) : sProp 𝕄)
    ⊢ tileScr d i := by
  rw [bigSep_refs, bigSep_dmaSems]
  unfold tileScr vScr qScr xScr B
  iintro ⟨⟨A0, A1, A2, A3, A4⟩, S0, S1, S2, S3, C5, C7, C6, C8, C17, C18, C9, C11, C10, C12, C13, C15, C14, C16⟩
  isplitl [A0 A1 A2]
  · isplitl [A0]; · iexact A0
    isplitl [A1]; · iexact A1
    iexact A2
  isplitl [A3 A4]
  · isplitl [A3]; · iexact A3
    iexact A4
  isplitl [S0 S1]
  · isplitl [S0] <;> iassumption
  isplitl [S2 S3]
  · isplitl [S2] <;> iassumption
  isplitl [C5 C7 C6 C8 C17 C18]
  · isplitl [C5]; · iexact C5
    isplitl [C7]; · iexact C7
    isplitl [C6]; · iexact C6
    isplitl [C8]; · iexact C8
    isplitl [C17] <;> iassumption
  isplitl [C9 C11 C10 C12]
  · isplitl [C9]; · iexact C9
    isplitl [C11]; · iexact C11
    isplitl [C10] <;> iassumption
  isplitl [C13]; · iexact C13
  isplitl [C15]; · iexact C15
  isplitl [C14] <;> iassumption

omit [FloatOps F] in
theorem tileScr_back : tileScr d i
    ⊢ (iprop(bigSep refs (fun r => iprop(∃ f, (thr d i).loc r ↦{fullShare} f)) ∗ bigSep dmaSems (fun s => sv d i s)) : sProp 𝕄) := by
  rw [bigSep_refs, bigSep_dmaSems]
  unfold tileScr vScr qScr xScr B
  iintro ⟨⟨A0, A1, A2⟩, ⟨A3, A4⟩, ⟨S0, S1⟩, ⟨S2, S3⟩, ⟨C5, C7, C6, C8, C17, C18⟩, ⟨C9, C11, C10, C12⟩, C13, C15, C14, C16⟩
  isplitl [A0 A1 A2 A3 A4]
  · isplitl [A0]; · iexact A0
    isplitl [A1]; · iexact A1
    isplitl [A2]; · iexact A2
    isplitl [A3] <;> iassumption
  isplitl [S0]; · iexact S0
  isplitl [S1]; · iexact S1
  isplitl [S2]; · iexact S2
  isplitl [S3]; · iexact S3
  isplitl [C5]; · iexact C5
  isplitl [C7]; · iexact C7
  isplitl [C6]; · iexact C6
  isplitl [C8]; · iexact C8
  isplitl [C17]; · iexact C17
  isplitl [C18]; · iexact C18
  isplitl [C9]; · iexact C9
  isplitl [C11]; · iexact C11
  isplitl [C10]; · iexact C10
  isplitl [C12]; · iexact C12
  isplitl [C13]; · iexact C13
  isplitl [C15]; · iexact C15
  isplitl [C14] <;> iassumption

end Own

/-! ## What the handshakes carry -/

variable (m : (ℓ : Loc nD τ sig) → Buf (Elt F) ℓ) (fh : Dev nD → S64x16x128.Idx → Elt F .f32)

/-- The tile of SparseCore `c` and vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The tile's operands before its task, -/
abbrev goPts (d : Dev nD) (i : grid1.Coords) : sProp 𝕄 :=
  tileOps (m (vLoc d)) (fh d) (m (xLoc d)) (m (qLoc d)) d i (m (ovLoc d)) (m (oxLoc d)) (m (oqLoc d))
/-- and after it. -/
abbrev tdPts (d : Dev nD) (i : grid1.Coords) : sProp 𝕄 :=
  tileOps (m (vLoc d)) (fh d) (m (xLoc d)) (m (qLoc d)) d i (ovVal (m (vLoc d)) (fh d) (m (ovLoc d))) (m (xLoc d)) (m (qLoc d))

/-- The tile that call's core and subcore name. -/
abbrev tile (q : Fin 1) (c : Fin ((K (F := F)).nCore q)) (s : Fin ((K (F := F)).nSub q)) : grid1.Coords :=
  coordsV ⟨c.val, match q with | 0 => c.isLt⟩ ⟨s.val, match q with | 0 => s.isLt⟩

instance tileOps_storable (fv : S4x16x2048x128.Idx → Elt F .f32) (gh : S64x16x128.Idx → Elt F .f32) (fx : S4x2048x2048.Idx → Elt F .f32)
    (fq : S4x16x2048x128.Idx → Elt F .f32) (d : Dev nD) (i : grid1.Coords) (f : S4x16x2058x128.Idx → Elt F .f32) (g : S4x2048x2048.Idx → Elt F .f32)
    (h : S4x16x2048x128.Idx → Elt F .f32) : BI.Storable (upEmb : UEmb _ 𝕄) (tileOps fv gh fx fq d i f g h) := by
  unfold tileOps; infer_instance

/-- Each tile takes its rows of every operand, and brings them back, the results' written. -/
def P : (K (F := F)).Pay (nD := nD) (Val := Elt F) (Name := ℕ) (U := UU) where
  st := fun q d c => bigSep Finset.univ fun s => goPts m fh d (tile q c s)
  dn := fun q d c => bigSep Finset.univ fun s => tdPts m fh d (tile q c s)
  go := fun q d c s => goPts m fh d (tile q c s)
  td := fun q d c s => tdPts m fh d (tile q c s)
  x := fun _ _ => iprop(emp)

instance P_storable : (P (F := F) m fh).IsStorable where
  st q d c := (inferInstance : BI.Storable (upEmb : UEmb _ 𝕄) (bigSep Finset.univ fun s => goPts m fh d (tile q c s)))
  dn q d c := (inferInstance : BI.Storable (upEmb : UEmb _ 𝕄) (bigSep Finset.univ fun s => tdPts m fh d (tile q c s)))
  go q d c s := tileOps_storable _ _ _ _ d (tile q c s) _ _ _
  td q d c s := tileOps_storable _ _ _ _ d (tile q c s) _ _ _

theorem vecSplit : (K (F := F)).VecSplit' (P m fh) 0 := by
  intro d c
  show (bigSep Finset.univ fun s : Fin ((K (F := F)).nSub 0) => goPts m fh d (tile 0 c s)) ⊢ |={Set.univ}=> iprop(
    (bigSep Finset.univ fun s : Fin ((K (F := F)).nSub 0) => goPts m fh d (tile 0 c s))
    ∗ ((bigSep Finset.univ fun s : Fin ((K (F := F)).nSub 0) => tdPts m fh d (tile 0 c s))
      -∗ bigSep Finset.univ fun s : Fin ((K (F := F)).nSub 0) => tdPts m fh d (tile 0 c s)))
  iintro H; imodintro
  isplitl [H]; · iexact H
  iintro H; iexact H

/-! ## The obligation -/

theorem tile_body (d : Dev nD) (i : grid1.Coords) (O : CellTallies nD τ sig (HIx 1)) (W : Waits sig (HIx 1)) (hO : ∀ g, O g none = 0) :
    iprop(levAts (K (F := F)).L (K (F := F)).lev ∗ emp ∗ goPts m fh d i
        ∗ scopedBufs (thr d i) ∗ scopedSems0 (thr d i) ∗ owes (thr d i) O W)
      ⊢ wp frame (wpE (defs₀ (F := F)) 𝒱₀ (thr d i) none) Set.univ (tileBody F i)
          fun _ => iprop(tdPts m fh d i ∗ scopedBufs (thr d i) ∗ scopedSems0 (thr d i)
            ∗ ∃ W', ⌜∀ p ∈ W', p ∈ W ∨ p.2 = none⌝ ∗ owes (thr d i) O W') := by
  rw [(K (F := F)).scopedBufs_V facts d _ _, SparseCore.Cfg.scopedSems0_V (Val := Elt F) d _ _]
  rw [show (SparseCore.Cfg.ownBufs (V d ((i 0).castLE hcore1) ((i 1).castLE hsub1)) : sProp 𝕄) = _ from ownBufs_tile d i,
    show (SparseCore.Cfg.ownSems0 (V d ((i 0).castLE hcore1) ((i 1).castLE hsub1)) : sProp 𝕄) = _ from ownSems0_tile d i]
  iintro ⟨#Hlv, -, Hgo, ⟨Hb, Hbr⟩, ⟨Hs, Hsr⟩, HO⟩
  ihave Hmw := (show levAts (K (F := F)).L (K (F := F)).lev ⊢ Transfers.MayWaits (thr d i) (none : HIx 1) O from
    (K (F := F)).mayWaits_none (thr := thr d i) hO) $$ Hlv
  iapply (tile_run (O := O) (W₀ := W) _ _ _ _ _ _ _ _)
  isplitl [Hgo Hb Hs HO Hmw]
  · isplitl [Hgo]; · iexact Hgo
    isplitl [Hb Hs]
    · iapply (tileScr_eq d i)
      isplitl [Hb] <;> iassumption
    unfold Env
    isplitl [Hmw]; · iexact Hmw
    iexists W
    isplitr; · ipureintro; exact fun p hp => .inl hp
    iexact HO
  iintro ⟨Htd, Hscr, Hen⟩
  ihave Hscr := (tileScr_back d i) $$ Hscr
  icases Hscr with ⟨Hb, Hs⟩
  unfold Env
  icases Hen with ⟨-, HO⟩
  isplitl [Htd]; · iexact Htd
  isplitl [Hb Hbr]
  · isplitl [Hb] <;> iassumption
  isplitl [Hs Hsr]
  · isplitl [Hs] <;> iassumption
  iexact HO

set_option maxRecDepth 16384 in
theorem defs₀_vector (c : Fin τ.nSC) (s : Fin τ.nSub) :
    defs₀ (F := F) (.scVector c s) 1 () = SparseCore.onTile hcore1 hsub1 (fun c s => tileBody F (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m fh) v₀ 0 := by
  intro d c i O W hO _ _
  simp only [show (P m fh).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hgo : (P m fh).go 0 d c i = goPts m fh d (coordsV ⟨_, hci.1⟩ ⟨_, hci.2⟩) := rfl
  have htd : (P m fh).td 0 d c i = tdPts m fh d (coordsV ⟨_, hci.1⟩ ⟨_, hci.2⟩) := rfl
  rw [hgo, htd]
  refine (tile_body m fh d (coordsV ⟨_, hci.1⟩ ⟨_, hci.2⟩) O W hO).trans ?_
  generalize tileBody F (coordsV ⟨((K (F := F)).core 0 c).val, hci.1⟩ ⟨((K (F := F)).sub 0 i).val, hci.2⟩) = body
  exact wp_mono frame _ _ fun _ => obl_post

end Cert.Proof.Tile
-- ==== Proof.TileCut.lean ====
/-
  The SparseCore call's operands, whole, are the tiles' parts: tile `(c, s)` has the rows `2 (2 s + c)` and the next.
-/
module

public import proofs.«01_k».proof.Proof.TileLaunch

@[expose] public section

noncomputable section

namespace Cert.Proof.Tile

open Cert.KernelIdeal Cert.KernelIdeal.Gen
open Idealize.ShloMosaic Idealize.ShloMosaic.ValueIdx
open Idealize.ShloMosaic.SparseCore (S V)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Tactic

variable {F : FTy → Type} [FloatOps F]

local notation "𝕄" => Mod F

/-- The tile of a pair. -/
abbrev tileOf (p : Fin 2 × Fin 16) : grid1.Coords := coordsV p.1 p.2

omit [FloatOps F] in
/-- A buffer cut by what each tile takes: every element falls to one tile. -/
theorem pts_cut {ℓ : Loc nD τ sig} (A : Fin 2 × Fin 16 → Finset (Idx ℓ)) (w : Idx ℓ → ℕ) (hw : ∀ x, w x < 32)
    (hA : ∀ p x, x ∈ A p ↔ w x = wid (tileOf p)) (f : Buf (Elt F) ℓ) :
    (ℓ ↦{fullShare} f : sProp 𝕄) = bigSep Finset.univ fun p => ℓ ↦[A p]{fullShare} f := by
  rw [← pointsTo_biUnion Finset.univ (ℓ := ℓ) A]
  · congr 1
    refine (Finset.eq_univ_of_forall fun x => ?_).symm
    refine Finset.mem_biUnion.mpr ⟨(⟨w x % 2, by omega⟩, ⟨w x / 2, by have := hw x; omega⟩), Finset.mem_univ _, (hA _ _).mpr ?_⟩
    show w x = 2 * (w x / 2) + w x % 2
    omega
  · intro p _ p' _ hne
    refine Finset.disjoint_left.mpr fun x hx hx' => hne ?_
    have e : 2 * p.2.val + p.1.val = 2 * p'.2.val + p'.1.val := ((hA p x).mp hx).symm.trans ((hA p' x).mp hx')
    have h1 := p.1.isLt; have h2 := p'.1.isLt
    exact Prod.ext (Fin.ext (by omega)) (Fin.ext (by omega))

omit [FloatOps F] in
/-- An array of rows cut among the tiles. -/
theorem rows_cut {n : ℕ} {ℓ : Loc nD τ sig} (e : Idx ℓ = (⟨4, ![4, 16, n, 128]⟩ : Shape).Idx)
    (A : ℕ → Finset (Idx ℓ)) (hA : ∀ R x, x ∈ A R ↔ (((cast e x) 0).val * 16 + ((cast e x) 1).val) = R) (f : Buf (Elt F) ℓ) :
    (ℓ ↦{fullShare} f : sProp 𝕄) = bigSep Finset.univ fun p => iprop((ℓ ↦[A (row (tileOf p) 0)]{fullShare} f) ∗ ℓ ↦[A (row (tileOf p) 1)]{fullShare} f) := by
  rw [pts_cut (fun p => A (row (tileOf p) 0) ∪ A (row (tileOf p) 1)) (fun x => (((cast e x) 0).val * 16 + ((cast e x) 1).val) / 2)
    (fun x => by
      have h0 : ((cast e x) 0).val < 4 := ((cast e x) 0).isLt
      have h1 : ((cast e x) 1).val < 16 := ((cast e x) 1).isLt
      show (((cast e x) 0).val * 16 + ((cast e x) 1).val) / 2 < 32
      omega)
    (fun p x => by
      rw [Finset.mem_union, hA, hA]
      show _ = 2 * wid (tileOf p) + 0 ∨ _ = 2 * wid (tileOf p) + 1 ↔ _
      omega)]
  refine bigSep_congr fun p _ => pts_union (Finset.disjoint_left.mpr fun x hx hx' => ?_) _ _
  rw [hA] at hx hx'
  have : 2 * wid (tileOf p) + 0 = 2 * wid (tileOf p) + 1 := hx.symm.trans hx'
  omega

theorem mem_row {n R : ℕ} (x : (⟨4, ![4, 16, n, 128]⟩ : Shape).Idx) : x ∈ rowPart n R 0 n ↔ (x 0).val * 16 + (x 1).val = R := by
  rw [mem_rowPart]
  have h1 : (x 1).val < 16 := (x 1).isLt
  have h2 : (x 2).val < n := (x 2).isLt
  omega

variable (fv : S4x16x2048x128.Idx → Elt F .f32) (fh : S64x16x128.Idx → Elt F .f32) (fx : S4x2048x2048.Idx → Elt F .f32)
  (fq : S4x16x2048x128.Idx → Elt F .f32) (fo : S4x16x2058x128.Idx → Elt F .f32) (fox : S4x2048x2048.Idx → Elt F .f32)
  (foq : S4x16x2048x128.Idx → Elt F .f32) (d : Dev nD)

omit [FloatOps F] in
theorem h_cut : (hLoc d ↦{fullShare} fh : sProp 𝕄)
    = bigSep Finset.univ fun p => iprop((hLoc d ↦[hPart (row (tileOf p) 0)]{fullShare} fh) ∗ hLoc d ↦[hPart (row (tileOf p) 1)]{fullShare} fh) := by
  have hm : ∀ R (x : S64x16x128.Idx), x ∈ hPart R ↔ (x 0).val = R := fun R x => by
    unfold hPart; rw [Finset.mem_filter]; simp only [Finset.mem_univ, true_and]
  rw [pts_cut (ℓ := hLoc d) (fun p => hPart (row (tileOf p) 0) ∪ hPart (row (tileOf p) 1)) (fun x : S64x16x128.Idx => (x 0).val / 2)
    (fun x => by have h0 : ((x : S64x16x128.Idx) 0).val < 64 := (x 0).isLt; show ((x : S64x16x128.Idx) 0).val / 2 < 32; omega)
    (fun p x => by
      rw [Finset.mem_union, hm, hm]
      show _ = 2 * wid (tileOf p) + 0 ∨ _ = 2 * wid (tileOf p) + 1 ↔ _
      omega)]
  refine bigSep_congr fun p _ => pts_union (Finset.disjoint_left.mpr fun x hx hx' => ?_) _ _
  rw [hm] at hx hx'
  have : 2 * wid (tileOf p) + 0 = 2 * wid (tileOf p) + 1 := hx.symm.trans hx'
  omega

omit [FloatOps F] in
theorem x_cut (ℓ : Loc nD τ sig) (e : Idx ℓ = S4x2048x2048.Idx) (A : Fin 2 × Fin 16 → Finset (Idx ℓ))
    (hA : ∀ p x, x ∈ A p ↔ cast e x ∈ xPart (wid (tileOf p) / 8) (wid (tileOf p) % 8 * 256) 256) (f : Buf (Elt F) ℓ) :
    (ℓ ↦{fullShare} f : sProp 𝕄) = bigSep Finset.univ fun p => ℓ ↦[A p]{fullShare} f := by
  refine pts_cut A (fun x => ((cast e x) 0).val * 8 + ((cast e x) 1).val / 256) (fun x => ?_) (fun p x => ?_) f
  · have h0 : ((cast e x) 0).val < 4 := ((cast e x) 0).isLt
    have h1 : ((cast e x) 1).val < 2048 := ((cast e x) 1).isLt
    show ((cast e x) 0).val * 8 + ((cast e x) 1).val / 256 < 32
    omega
  · rw [hA, mem_xPart]
    have h1 : ((cast e x) 1).val < 2048 := ((cast e x) 1).isLt
    have := wid_lt (tileOf p)
    omega

/-- The call's operands and results, whole. -/
def callPts (f : S4x16x2058x128.Idx → Elt F .f32) (g : S4x2048x2048.Idx → Elt F .f32) (h : S4x16x2048x128.Idx → Elt F .f32) : sProp 𝕄 :=
  iprop((vLoc d ↦{fullShare} fv) ∗ (hLoc d ↦{fullShare} fh) ∗ (xLoc d ↦{fullShare} fx) ∗ (qLoc d ↦{fullShare} fq)
    ∗ (ovLoc d ↦{fullShare} f) ∗ (oxLoc d ↦{fullShare} g) ∗ (oqLoc d ↦{fullShare} h))

omit [FloatOps F] in
theorem callPts_eq : callPts fv fh fx fq d fo fox foq
    = bigSep Finset.univ fun c : Fin 2 => bigSep Finset.univ fun s : Fin 16 => tileOps fv fh fx fq d (coordsV c s) fo fox foq := by
  refine Eq.trans ?_ (bigSep_univ_prod (fun p : Fin 2 × Fin 16 => tileOps fv fh fx fq d (tileOf p) fo fox foq))
  unfold callPts
  rw [rows_cut (ℓ := vLoc d) (n := 2048) rfl (fun R => rowPart 2048 R 0 2048) (fun R x => mem_row x) fv,
    rows_cut (ℓ := ovLoc d) (n := 2058) rfl (fun R => rowPart 2058 R 0 2058) (fun R x => mem_row x) fo,
    rows_cut (ℓ := qLoc d) (n := 2048) rfl (fun R => rowPart 2048 R 0 2048) (fun R x => mem_row x) fq,
    rows_cut (ℓ := oqLoc d) (n := 2048) rfl (fun R => rowPart 2048 R 0 2048) (fun R x => mem_row x) foq,
    h_cut fh d,
    x_cut (xLoc d) rfl (fun p => xPart (wid (tileOf p) / 8) (wid (tileOf p) % 8 * 256) 256) (fun _ _ => Iff.rfl) fx,
    x_cut (oxLoc d) rfl (fun p => xPart (wid (tileOf p) / 8) (wid (tileOf p) % 8 * 256) 256) (fun _ _ => Iff.rfl) fox]
  refine BI.equiv_iff.mp ⟨?_, ?_⟩
  · rw [← bigSep_sep', ← bigSep_sep', ← bigSep_sep', ← bigSep_sep', ← bigSep_sep', ← bigSep_sep']
    refine bigSep_mono fun p _ => ?_
    unfold tileOps
    show (_ : sProp 𝕄) ⊢ _
    iintro ⟨⟨A0, A1⟩, ⟨B0, B1⟩, X, ⟨Q0, Q1⟩, ⟨C0, C1⟩, Y, R0, R1⟩
    isplitl [A0 B0 C0]
    · isplitl [A0]; · iexact A0
      isplitl [B0] <;> iassumption
    isplitl [A1 B1 C1]
    · isplitl [A1]; · iexact A1
      isplitl [B1] <;> iassumption
    isplitl [Q0 R0]
    · isplitl [Q0] <;> iassumption
    isplitl [Q1 R1]
    · isplitl [Q1] <;> iassumption
    isplitl [X] <;> iassumption
  · rw [← bigSep_sep', ← bigSep_sep', ← bigSep_sep', ← bigSep_sep', ← bigSep_sep', ← bigSep_sep']
    refine bigSep_mono fun p _ => ?_
    unfold tileOps
    show (_ : sProp 𝕄) ⊢ _
    iintro ⟨⟨A0, B0, C0⟩, ⟨A1, B1, C1⟩, ⟨Q0, R0⟩, ⟨Q1, R1⟩, X, Y⟩
    isplitl [A0 A1]
    · isplitl [A0] <;> iassumption
    isplitl [B0 B1]
    · isplitl [B0] <;> iassumption
    isplitl [X]; · iexact X
    isplitl [Q0 Q1]
    · isplitl [Q0] <;> iassumption
    isplitl [C0 C1]
    · isplitl [C0] <;> iassumption
    isplitl [Y]; · iexact Y
    isplitl [R0] <;> iassumption

variable (m : (ℓ : Loc nD τ sig) → Buf (Elt F) ℓ) (gh : Dev nD → S64x16x128.Idx → Elt F .f32)

theorem st_eq : (bigSep Finset.univ fun c : Fin ((K (F := F)).nCore 0) => (P m gh).st 0 d c)
    = callPts (m (vLoc d)) (gh d) (m (xLoc d)) (m (qLoc d)) d (m (ovLoc d)) (m (oxLoc d)) (m (oqLoc d)) :=
  (callPts_eq _ _ _ _ _ _ _ d).symm

theorem dn_eq : (bigSep Finset.univ fun c : Fin ((K (F := F)).nCore 0) => (P m gh).dn 0 d c)
    = callPts (m (vLoc d)) (gh d) (m (xLoc d)) (m (qLoc d)) d (ovVal (m (vLoc d)) (gh d) (m (ovLoc d))) (m (xLoc d)) (m (qLoc d)) :=
  (callPts_eq _ _ _ _ _ _ _ d).symm

end Cert.Proof.Tile
-- ==== Proof.Main.lean ====
/-
  @main on the TensorCore: lines of host operations, the retrieval call, the SparseCore call, the tail and the joining
  call, the unscoped buffers held at a valuation from each to the next.
-/
module

public import proofs.«01_k».proof.Proof.Calls
public import proofs.«01_k».proof.Proof.TileCut

@[expose] public section

noncomputable section

namespace Cert.Proof

open Cert.KernelIdeal Cert.KernelIdeal.Gen
open Idealize.ShloMosaic
open Idealize.ShloMosaic.SparseCore.Cfg (HIx)
open Idealize.ShloMosaic.Pipeline
open Idealize.ShloMosaic.Rounds
open Idealize.SL Idealize.SL.RA Idealize.SL.BI Idealize.SL.Sem
open Idealize.SL.BI.BIBase Idealize.SL.BI.Laws Idealize.SL.ProofMode
open Cert.Proof.Tile (P callPts st_eq dn_eq ovVal vLoc hLoc xLoc qLoc ovLoc oxLoc oqLoc tileObl vecSplit)

variable {F : FTy → Type} [FloatOps F]

local notation "𝕄" => Mod F

/-! ## The program as lines and calls -/

/-- The operations before the retrieval call: the last query row of each head, the position table as a row, and the first
    eight value rows of each head. -/
def headOps : List (HloOp τ sig (Elt F)) :=
  [StableHlo.unary main_arg2 main_v0 (extractStridedSlice S4x16x1x128 ![0, 0, 2047, 0] · slices_S4x16x2048x128_S4x16x1x128_0_0_2047_0),
   StableHlo.reshape main_v0 main_v1 rfl shapeCasts_S4x16x1x128_S4x16x128,
   StableHlo.reshape main_v1 main_v2 rfl shapeCasts_S4x16x128_S4x2048,
   StableHlo.reshape main_arg7 main_v3 rfl shapeCasts_S1000_S1x1000,
   StableHlo.unary main_arg3 main_v4 (extractStridedSlice S4x16x8x128 ![0, 0, 0, 0] · slices_S4x16x2048x128_S4x16x8x128_0_0_0_0),
   StableHlo.reshape main_v4 main_v5 rfl shapeCasts_S4x16x8x128_S64x8x128]

/-- Those between the SparseCore call and the tail: the last eight value rows, and the copy the tail call writes into. -/
def midOps : List (HloOp τ sig (Elt F)) :=
  [StableHlo.unary main_arg3 main_v8 (extractStridedSlice S4x16x8x128 ![0, 0, 2040, 0] · slices_S4x16x2048x128_S4x16x8x128_0_0_2040_0),
   StableHlo.unary main_v7_0 main_v9 id]

/-- The last one: the length. -/
def endOps : List (HloOp τ sig (Elt F)) := [StableHlo.nullary main_c (constantI S_ 32 2058#32)]

theorem main_eq (d : Dev nD) : main (F := F) d =
    (StableHlo.seq headOps >>= fun _ => Prog.lift (.customCall (SparseCore.inner (Pipeline.entry 0)) ()) >>= fun _ => sc.run d 0 >>= fun _ =>
      StableHlo.seq midOps >>= fun _ => Prog.lift (.customCall (SparseCore.inner (Pipeline.entry 1)) ()) >>= fun _ =>
      Prog.lift (.customCall (SparseCore.inner (Pipeline.entry 2)) ()) >>= fun _ => StableHlo.seq endOps >>= fun _ => pure ⟨⟩) := rfl

theorem head_sub : ∀ op ∈ headOps (F := F), op.bufs ⊆ ucRefs τ sig := fun op h => sub_ucRefs op (List.forall_iff_forall_mem.mp
  (show (headOps (F := F)).Forall fun op => op.bufs ⊆ StableHlo.tcRefs τ sig from
    ⟨StableHlo.unary_bufs_sub .., StableHlo.reshape_bufs_sub .., StableHlo.reshape_bufs_sub .., StableHlo.reshape_bufs_sub .., StableHlo.unary_bufs_sub .., StableHlo.reshape_bufs_sub ..⟩) op h)
theorem mid_sub : ∀ op ∈ midOps (F := F), op.bufs ⊆ ucRefs τ sig := fun op h => sub_ucRefs op (List.forall_iff_forall_mem.mp
  (show (midOps (F := F)).Forall fun op => op.bufs ⊆ StableHlo.tcRefs τ sig from ⟨StableHlo.unary_bufs_sub .., StableHlo.unary_bufs_sub ..⟩) op h)
theorem end_sub : ∀ op ∈ endOps (F := F), op.bufs ⊆ ucRefs τ sig := fun op h => sub_ucRefs op (List.forall_iff_forall_mem.mp
  (show (endOps (F := F)).Forall fun op => op.bufs ⊆ StableHlo.tcRefs τ sig from StableHlo.nullary_bufs_sub ..) op h)
theorem head_fresh : ∀ op ∈ headOps (F := F), op.fresh = ∅ := by intro _ h; (repeat (cases h with | head => rfl | tail _ h => ?_)); exact nomatch h
theorem mid_fresh : ∀ op ∈ midOps (F := F), op.fresh = ∅ := by intro _ h; (repeat (cases h with | head => rfl | tail _ h => ?_)); exact nomatch h
theorem end_fresh : ∀ op ∈ endOps (F := F), op.fresh = ∅ := by intro _ h; (repeat (cases h with | head => rfl | tail _ h => ?_)); exact nomatch h

/-! ## The valuations -/

variable (m : (ℓ : Loc nD τ sig) → Buf (Elt F) ℓ) (ρ : Dev nD → PrngReg)

/-- What the arrays hold when the retrieval call starts, -/
def valHead (d : Dev nD) : Valuation τ sig (Elt F) := StableHlo.after headOps fun b => m (d, b)
/-- when it ends, -/
def valRet : Dev nD → Valuation τ sig (Elt F) := retNext (valHead m)
/-- the values it leaves the SparseCore call, -/
abbrev headVals (d : Dev nD) : S64x16x128.Idx → Elt F .f32 := valRet m d (ref main_v6_1)
/-- when the SparseCore call ends, -/
def valCall (d : Dev nD) : Valuation τ sig (Elt F) :=
  Function.update (Function.update (Function.update (valRet m d) (ref main_v7_0) (ovVal (m (vLoc d)) (headVals m d) (m (ovLoc d))))
    (ref main_v7_1) (m (xLoc d))) (ref main_v7_2) (m (qLoc d))
/-- when the tail call starts, -/
def valMid (d : Dev nD) : Valuation τ sig (Elt F) := StableHlo.after midOps (valCall m d)
/-- when it ends, -/
def valTail : Dev nD → Valuation τ sig (Elt F) := tailNext (valMid m)
/-- when the joining call ends, -/
def valCat : Dev nD → Valuation τ sig (Elt F) := catNext (valTail m)
/-- and at the end. -/
def valEnd (d : Dev nD) : Valuation τ sig (Elt F) := StableHlo.after endOps (valCat m d)

/-- An array no operation before the retrieval call writes. -/
theorem valHead_keep (d : Dev nD) (r : Ref sig .tc) (h : r ∉ [main_v0, main_v1, main_v2, main_v3, main_v4, main_v5]) : valHead m d (ref r) = m (d, ref r) :=
  StableHlo.after_of_writes_sub headOps _ (StableHlo.forall_writes_sub_of_map rfl) h

theorem valMid_keep (d : Dev nD) (r : Ref sig .tc) (h : r ∉ [main_v8, main_v9]) : valMid m d (ref r) = valCall m d (ref r) :=
  StableHlo.after_of_writes_sub midOps _ (StableHlo.forall_writes_sub_of_map rfl) h

theorem valEnd_keep (d : Dev nD) (r : Ref sig .tc) (h : r ∉ [main_c]) : valEnd m d (ref r) = valCat m d (ref r) :=
  StableHlo.after_of_writes_sub endOps _ (StableHlo.forall_writes_sub_of_map rfl) h

/-- The results of the calls before, none of which is an argument. -/
abbrev early : List (Ref sig .tc) := [main_v0, main_v1, main_v2, main_v3, main_v4, main_v5, main_v6_0, main_v6_1, main_v6_2, main_v6_3]

theorem ref_ne {r s : Ref sig .tc} (h : r ≠ s) : ref r ≠ ref s := fun e => h (Proc.devRef_injective _ e)

theorem valRet_keep (d : Dev nD) (r : Ref sig .tc) (h : r ∉ early) : valRet m d (ref r) = m (d, ref r) := by
  simp only [early, List.mem_cons, List.not_mem_nil, or_false, not_or] at h
  obtain ⟨h0, h1, h2, h3, h4, h5, h6, h7, h8, h9⟩ := h
  unfold valRet
  rw [retNext_ne _ d _ (ref_ne h6) (ref_ne h7) (ref_ne h8) (ref_ne h9)]
  refine valHead_keep m d r ?_
  simp only [List.mem_cons, List.not_mem_nil, or_false, not_or]
  exact ⟨h0, h1, h2, h3, h4, h5⟩

theorem valCall_keep (d : Dev nD) (r : Ref sig .tc) (h : r ∉ [main_v7_0, main_v7_1, main_v7_2]) : valCall m d (ref r) = valRet m d (ref r) := by
  simp only [List.mem_cons, List.not_mem_nil, or_false, not_or] at h
  unfold valCall
  rw [Function.update_of_ne (ref_ne h.2.2), Function.update_of_ne (ref_ne h.2.1), Function.update_of_ne (ref_ne h.1)]

theorem valEnd_late (d : Dev nD) (r : Ref sig .tc) (h : r ∉ [main_v8, main_v9, main_v10, main_c]) : valEnd m d (ref r) = valCall m d (ref r) := by
  simp only [List.mem_cons, List.not_mem_nil, or_false, not_or] at h
  rw [valEnd_keep m d r (by simpa using h.2.2.2)]
  unfold valCat
  rw [catNext_ne _ d _ (ref_ne h.2.2.1)]
  unfold valTail
  rw [tailNext_ne _ d _ (ref_ne h.2.1), valMid_keep m d r (by simpa using ⟨h.1, h.2.1⟩)]

/-- An argument is as it was. -/
theorem valEnd_arg (d : Dev nD) (r : Ref sig .tc) (h : r ∉ early) (h' : r ∉ [main_v7_0, main_v7_1, main_v7_2]) (h'' : r ∉ [main_v8, main_v9, main_v10, main_c]) :
    valEnd m d (ref r) = m (d, ref r) :=
  (valEnd_late m d r h'').trans ((valCall_keep m d r h').trans (valRet_keep m d r h))

/-! ## The SparseCore call -/

/-- The arrays the SparseCore call reads and writes. -/
def callRefs : Finset (DevRef τ sig) :=
  {ref main_arg3, ref main_v6_1, ref main_arg0, ref main_arg1, ref main_v7_0, ref main_v7_1, ref main_v7_2}

theorem callRefs_sub : callRefs ⊆ ucRefs τ sig := by
  intro b hb
  simp only [callRefs, Finset.mem_insert, Finset.mem_singleton] at hb
  rcases hb with rfl | rfl | rfl | rfl | rfl | rfl | rfl <;>
    exact Finset.mem_filter.mpr ⟨StableHlo.devRef_mem_tcRefs _, by decide⟩

theorem held_call (d : Dev nD) (W : Valuation τ sig (Elt F)) : (StableHlo.held (d.tc : Thread nD τ) callRefs W : sProp 𝕄)
    = callPts (W (ref main_arg3)) (W (ref main_v6_1)) (W (ref main_arg0)) (W (ref main_arg1)) d (W (ref main_v7_0)) (W (ref main_v7_1)) (W (ref main_v7_2)) := by
  unfold StableHlo.held callRefs callPts
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The call's operands are its payload, -/
theorem call_before (d : Dev nD) : (StableHlo.held (d.tc : Thread nD τ) (ucRefs τ sig) (valRet m d) : sProp 𝕄)
    = iprop((bigSep Finset.univ fun c : Fin ((K (F := F)).nCore 0) => (P m (headVals m)).st 0 d c)
        ∗ StableHlo.held (d.tc : Thread nD τ) (ucRefs τ sig \ callRefs) (valRet m d)) := by
  rw [StableHlo.held_sub_split _ callRefs_sub, held_call, st_eq]
  rw [valRet_keep m d main_arg3 (by decide), valRet_keep m d main_arg0 (by decide), valRet_keep m d main_arg1 (by decide),
    valRet_keep m d main_v7_0 (by decide), valRet_keep m d main_v7_1 (by decide), valRet_keep m d main_v7_2 (by decide)]

/-- and what it hands back makes the next valuation. -/
theorem call_after (d : Dev nD) : (StableHlo.held (d.tc : Thread nD τ) (ucRefs τ sig) (valCall m d) : sProp 𝕄)
    = iprop((bigSep Finset.univ fun c : Fin ((K (F := F)).nCore 0) => (P m (headVals m)).dn 0 d c)
        ∗ StableHlo.held (d.tc : Thread nD τ) (ucRefs τ sig \ callRefs) (valRet m d)) := by
  rw [StableHlo.held_sub_split _ callRefs_sub, held_call, dn_eq]
  rw [valCall_keep m d main_arg3 (by decide), valCall_keep m d main_v6_1 (by decide), valCall_keep m d main_arg0 (by decide), valCall_keep m d main_arg1 (by decide),
    valRet_keep m d main_arg3 (by decide), valRet_keep m d main_arg0 (by decide), valRet_keep m d main_arg1 (by decide)]
  rw [show valCall m d (ref main_v7_0) = ovVal (m (vLoc d)) (headVals m d) (m (ovLoc d)) from by
      unfold valCall; rw [Function.update_of_ne (by decide), Function.update_of_ne (by decide), Function.update_self],
    show valCall m d (ref main_v7_1) = m (xLoc d) from by unfold valCall; rw [Function.update_of_ne (by decide), Function.update_self],
    show valCall m d (ref main_v7_2) = m (qLoc d) from by unfold valCall; rw [Function.update_self]]
  rw [StableHlo.held_congr (d.tc : Thread nD τ) (V := valCall m d) (V' := valRet m d)]
  intro b hb
  have hb' := (Finset.mem_sdiff.mp hb).2
  unfold valCall
  rw [Function.update_of_ne (fun h : b = ref main_v7_2 => hb' (by rw [h]; decide)), Function.update_of_ne (fun h : b = ref main_v7_1 => hb' (by rw [h]; decide)),
    Function.update_of_ne (fun h : b = ref main_v7_0 => hb' (by rw [h]; decide))]

/-! ## @main -/

/-- The pipelines' part of the launch's ghost state. -/
abbrev ghost (d : Dev nD) : sProp 𝕄 :=
  iprop((bigSep Finset.univ fun p : Fin 3 => cellsGhost (pin (pcfgs (F := F)) adm) EP p d) ∗ bigSep Finset.univ fun p : Fin 3 => toksInit (pin (pcfgs (F := F)) adm) EP p d)

theorem ghost_split (d : Dev nD) : (ghost d : sProp 𝕄)
    = iprop((cellsGhost (pin (pcfgs (F := F)) adm) EP 0 d ∗ cellsGhost (pin (pcfgs (F := F)) adm) EP 1 d ∗ cellsGhost (pin (pcfgs (F := F)) adm) EP 2 d)
        ∗ toksInit (pin (pcfgs (F := F)) adm) EP 0 d ∗ toksInit (pin (pcfgs (F := F)) adm) EP 1 d ∗ toksInit (pin (pcfgs (F := F)) adm) EP 2 d) := by
  have h (Φ : Fin 3 → sProp 𝕄) : bigSep Finset.univ Φ = iprop(Φ 0 ∗ Φ 1 ∗ Φ 2) := by
    rw [show (Finset.univ : Finset (Fin 3)) = {0, 1, 2} from by decide, SparseCore.bigSep_insert' (by decide), SparseCore.bigSep_insert' (by decide), bigSep_singleton]
  unfold ghost
  rw [h, h]

/-- A TensorCore call of @main. -/
theorem call_wp {V : Dev nD → Valuation τ sig (Elt F)} {n : ℕ} {p : Fin 3} (R : RegionSeg (pcfgs (F := F)) adm (dats V n) none defs₀ 𝒱₀ (K (F := F)).L (K (F := F)).lev p)
    (d : Dev nD) {A B : sProp 𝕄} (hA : R.pre d = A) (hB : R.post d = B) (Q : PUnit → sProp 𝕄) :
    iprop(boundary (d.tc : Thread nD τ) ∗ A ∗ levAts (K (F := F)).L (K (F := F)).lev ∗ cellsGhost (pin (pcfgs (F := F)) adm) EP p d ∗ toksInit (pin (pcfgs (F := F)) adm) EP p d)
      ⊢ iprop((iprop(boundary (d.tc : Thread nD τ) ∗ B) -∗ Q ⟨⟩)
        -∗ wp frame (wpE ((K (F := F)).defs (D (F := F))) 𝒱 (SparseCore.T d) none) Set.univ
            (Prog.lift (.customCall (SparseCore.inner (Pipeline.entry p)) ())) Q) := by
  have h := RegionSeg.wp (pcfgs (F := F)) adm (dats V n) none cellOf_inj EP defs₀ 𝒱₀ (K (F := F)).L (K (F := F)).lev R d none (fun _ h => nomatch h) Prog.ret Q
  rw [hA, hB] at h
  iintro ⟨Hb, Hp, HL, Hc, Ht⟩ Hk
  iapply ((K (F := F)).wp_liftProg (D (F := F)) 𝒱 (SparseCore.T d) Set.univ none (.op (.customCall (Pipeline.entry p) ()) Prog.ret) Q)
  iapply h
  isplitl [Hk]
  · iintro H
    rw [wp_ret]; imodintro
    iapply Hk; iexact H
  isplitl [Hb]; · iexact Hb
  isplitl [Hp]; · iexact Hp
  isplitl [HL]; · iexact HL
  isplitl [Hc]; · iexact Hc
  iexact Ht

/-- What @main keeps at the end. -/
abbrev FIN (d : Dev nD) : sProp 𝕄 := StableHlo.held (d.tc : Thread nD τ) (ucRefs τ sig) (valEnd m d)

theorem hmain (κ : GSem nD τ sig → ℕ) (d : Dev nD) :
    iprop((K (F := F)).ctx EH (P m (headVals m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R0, hR0⟩ : ∃ R : sProp 𝕄, (K (F := F)).tcSt EH d 0 = iprop(owesTc (F := F) d 0 ∗ R) := ⟨_, rfl⟩
  obtain ⟨R1, hR1⟩ : ∃ R : sProp 𝕄, (K (F := F)).tcSt EH d 1 = iprop(owesTc (F := F) d 1 ∗ R) := ⟨_, rfl⟩
  unfold SparseCore.Cfg.tcRes SparseCore.Cfg.tcEnd
  rw [ghost_split, show (unscopedBufs d (fun b => m ((SparseCore.T d).loc b)) : sProp 𝕄) = StableHlo.held (d.tc : Thread nD τ) (ucRefs τ sig) (fun b => m (d, b)) from
    unscopedBufs_held (Ix := HIx 1) (Name := ℕ) (U := UU) (Lvl := ℕ) d fun b => m (d, b)]
  rw [main_eq]
  iintro ⟨#Hctx, Hst, ⟨Hb, Hh, Hts, -⟩, ⟨⟨Hc0, Hc1, Hc2⟩, ⟨Ht0, Ht1, Ht2⟩⟩⟩
  ihave #HL := (SparseCore.Cfg.ctx_levAts (K := K (F := F)) κ) $$ Hctx
  -- the first line
  iapply (StableHlo.wp_seq 𝒱 none Set.univ d (ucRefs τ sig) _ headOps head_sub head_fresh _) $$ [Hb Hh]
  · isplitl [Hb]; · iexact Hb
    iexact Hh
  iintro ⟨Hb, Hh⟩
  -- the retrieval call
  icases (Entails.of_eq hR0) $$ Hst with ⟨HO, HR⟩
  rw [wp_bind]
  iapply (call_wp (regRet (valHead m) 0) d (A := iprop(StableHlo.held (d.tc : Thread nD τ) (ucRefs τ sig) (valHead m d) ∗ owesTc (F := F) d 0))
    (B := iprop(StableHlo.held (d.tc : Thread nD τ) (ucRefs τ sig) (valRet m d) ∗ owesTc (F := F) d 0)) rfl rfl _) $$ [Hb Hh HO Hc0 Ht0]
  · isplitl [Hb]; · iexact Hb
    isplitl [Hh HO]
    · isplitl [Hh]; · iexact Hh
      iexact HO
    isplitl []; · iexact HL
    isplitl [Hc0]; · iexact Hc0
    iexact Ht0
  iintro ⟨Hb, Hh, HO⟩
  -- the SparseCore call
  rw [wp_bind]
  icases (Entails.of_eq (call_before m d)) $$ Hh with ⟨Hcall, Hh⟩
  iapply ((K (F := F)).wp_run (D (F := F)) 𝒱 (EH := EH) (P := P m (headVals m)) κ d 0)
  isplitl []; · iexact Hctx
  isplitl [HO HR]
  · iapply (Entails.of_eq hR0.symm)
    isplitl [HO]; · iexact HO
    iexact HR
  isplitl [Hcall]; · iexact Hcall
  iintro ⟨Hst, Hdn⟩
  ihave Hh := (Entails.of_eq (call_after m d).symm) $$ [Hdn Hh]
  · isplitl [Hdn]; · iexact Hdn
    iexact Hh
  icases (show (K (F := F)).tcSt EH d ((0 : Fin 1).val + 1) ⊢ iprop(owesTc (F := F) d 1 ∗ R1) from Entails.of_eq hR1) $$ Hst with ⟨HO, HR⟩
  -- the second line
  iapply (StableHlo.wp_seq 𝒱 none Set.univ d (ucRefs τ sig) _ midOps mid_sub mid_fresh _) $$ [Hb Hh]
  · isplitl [Hb]; · iexact Hb
    iexact Hh
  iintro ⟨Hb, Hh⟩
  -- the tail call
  rw [wp_bind]
  iapply (call_wp (regTail (valMid m) 1) d (A := iprop(StableHlo.held (d.tc : Thread nD τ) (ucRefs τ sig) (valMid m d) ∗ owesTc (F := F) d 1))
    (B := iprop(StableHlo.held (d.tc : Thread nD τ) (ucRefs τ sig) (valTail m d) ∗ owesTc (F := F) d 1)) rfl rfl _) $$ [Hb Hh HO Hc1 Ht1]
  · isplitl [Hb]; · iexact Hb
    isplitl [Hh HO]
    · isplitl [Hh]; · iexact Hh
      iexact HO
    isplitl []; · iexact HL
    isplitl [Hc1]; · iexact Hc1
    iexact Ht1
  iintro ⟨Hb, Hh, HO⟩
  -- the joining call
  rw [wp_bind]
  iapply (call_wp (regCat (valTail m) 1) d (A := iprop(StableHlo.held (d.tc : Thread nD τ) (ucRefs τ sig) (valTail m d) ∗ owesTc (F := F) d 1))
    (B := iprop(StableHlo.held (d.tc : Thread nD τ) (ucRefs τ sig) (valCat m d) ∗ owesTc (F := F) d 1)) rfl rfl _) $$ [Hb Hh HO Hc2 Ht2]
  · isplitl [Hb]; · iexact Hb
    isplitl [Hh HO]
    · isplitl [Hh]; · iexact Hh
      iexact HO
    isplitl []; · iexact HL
    isplitl [Hc2]; · iexact Hc2
    iexact Ht2
  iintro ⟨Hb, Hh, HO⟩
  -- the last line
  iapply (StableHlo.wp_seq 𝒱 none Set.univ d (ucRefs τ sig) _ endOps end_sub end_fresh _) $$ [Hb Hh]
  · isplitl [Hb]; · iexact Hb
    iexact Hh
  iintro ⟨Hb, Hh⟩
  rw [wp_pure]
  imodintro
  isplitl [HO HR]
  · iapply (Entails.of_eq hR1.symm)
    isplitl [HO]; · iexact HO
    iexact HR
  isplitl [Hh]; · iexact Hh
  isplitl [Hb]; · iexact Hb
  iexact Hts

/-! ## The program's run -/

/-- The launch's ghost state: the handshakes' and the pipelines'. -/
def u₀ : UU := ((initOf (K (F := F)).hsCells (K (F := F)).hsToks,
  initOf (cells (pin (pcfgs (F := F)) adm) cellOf_inj) (launchToks (pin (pcfgs (F := F)) adm) cellOf_inj)), 1)

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P m (headVals m)).x q thr) := by
  unfold u₀
  iintro Hu
  icases (ownU_pair (initOf (K (F := F)).hsCells (K (F := F)).hsToks, initOf (cells (pin (pcfgs (F := F)) adm) cellOf_inj) (launchToks (pin (pcfgs (F := F)) adm) cellOf_inj)) (1 : Counters)) $$ Hu with ⟨HA, -⟩
  icases (own_pair_emb (embL : Emb (UH × UP) (Mod F)) (initOf (K (F := F)).hsCells (K (F := F)).hsToks)
    (initOf (cells (pin (pcfgs (F := F)) adm) cellOf_inj) (launchToks (pin (pcfgs (F := F)) adm) cellOf_inj))) $$ HA with ⟨HH, HP⟩
  imod (fund_ghost (pin (pcfgs (F := F)) adm) (EP (F := F)) cellOf_inj) $$ HP with ⟨HC, HT⟩
  imodintro
  isplitl [HH]; · iexact HH
  isplitl [HC HT]
  · rw [show (bigSep Finset.univ fun d : Dev nD => (ghost d : sProp 𝕄)) = iprop((bigSep Finset.univ fun d : Dev nD => bigSep Finset.univ fun p : Fin 3 => cellsGhost (pin (pcfgs (F := F)) adm) EP p d)
        ∗ bigSep Finset.univ fun d : Dev nD => bigSep Finset.univ fun p : Fin 3 => toksInit (pin (pcfgs (F := F)) adm) EP p d) from bigSep_sep' _ _ _]
    isplitl [HC]; · iexact HC
    iexact HT
  rw [show (bigSep Finset.univ fun thr : Thread nD τ => bigSep Finset.univ fun q : Fin 1 => (P m (headVals m)).x q thr) = (bigSep Finset.univ fun _ : Thread nD τ => iprop(emp) : sProp 𝕄) from
    bigSep_congr fun _ _ => bigSep_univ_of_subsingleton (0 : Fin 1)]
  iapply (Entails.of_eq (bigSep_emp_const (Finset.univ : Finset (Thread nD τ))).symm)
  iempintro

/-- Every unscoped array of the TensorCore at its final valuation. -/
def fq (d : Dev nD) (s' : Phys nD τ sig (Elt F)) : Prop := ∀ b ∈ ucRefs τ sig, s'.mem.mem (d, b) = valEnd m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (ucRefs τ sig)) $$ [HSI H]
  · isplitl [HSI]; · iexact HSI
    iexact H
  ipureintro
  exact h

/-- What the run ends with. -/
def Done (r : PUnit × MemSt nD τ sig (Elt F)) : Prop :=
  (∀ d : Dev nD, ∀ b ∈ ucRefs τ sig, r.2.mem (d, b) = valEnd m d b) ∧ r.2.sem = fun _ => 0

theorem run_main [∀ e, Nonempty (Elt F e)] :
    θ_run (Cert.KernelIdeal.defs (F := F)) (Cert.KernelIdeal.threads (F := F)) ⟨m, fun _ => 0, ρ⟩ (Done m) :=
  SparseCore.Cfg.θ_run_sc_quiescent (K := K (F := F)) (D := D (F := F)) (𝒱 := 𝒱) (EH := EH) (P := P m (headVals m)) (A := ∅) facts v₀
    (fun q hq => match q with | 0 => nomatch hq)
    (fun q _ => match q with | 0 => tileObl m (headVals m))
    (fun q _ => match q with | 0 => SparseCore.Cfg.VecSplit.of_plain (vecSplit m (headVals m)))
    m ρ main ghost (FIN m) (u₀ (F := F)) (sep_elim_left.trans (hu₀ m)) (hmain m ρ) (fq m) (hfin m) (Done m) (fun _ h hz => ⟨h, hz⟩)

theorem mem_uc (r : Ref sig .tc) (h : (ref r).isScoped = false) : ref r ∈ ucRefs τ sig :=
  Finset.mem_filter.mpr ⟨StableHlo.devRef_mem_tcRefs _, fun h' => Bool.false_ne_true (h.symm.trans h')⟩

/-- An array of @main at the end. -/
theorem Done.at {r : PUnit × MemSt nD τ sig (Elt F)} (h : Done m r) (d : Dev nD) (b : Ref sig .tc) (hb : (ref b).isScoped = false) :
    r.2.mem ((d.tc : Thread nD τ).loc b) = valEnd m d (ref b) := h.1 d (ref b) (mem_uc b hb)

/-- An argument at the end. -/
theorem Done.arg {r : PUnit × MemSt nD τ sig (Elt F)} (h : Done m r) (d : Dev nD) (b : Ref sig .tc) (hb : (ref b).isScoped = false)
    (h0 : b ∉ early) (h1 : b ∉ [main_v7_0, main_v7_1, main_v7_2]) (h2 : b ∉ [main_v8, main_v9, main_v10, main_c]) :
    r.2.mem ((d.tc : Thread nD τ).loc b) = m ((d.tc : Thread nD τ).loc b) := (h.at m d b hb).trans (valEnd_arg m d b h0 h1 h2)

end Cert.Proof
-- ==== Proof.TopFirst.lean ====
/-
  The greatest entries of a row, taken one after another: the place of an entry among all, the entry at a place, the row with the
  first entries struck out, and that a stable sort by decreasing value lists the entries in the order of their places.
-/
module

public import Idealize.ShloMosaic.Lib.SortFacts
public import Mathlib.Data.EReal.Basic

@[expose] public section

noncomputable section

namespace Cert.Proof.TopFirst

open Idealize.ShloMosaic

variable {n : ℕ} (a : Fin n → EReal)

/-- Entry `i` comes before entry `j`: it is greater, or as great and earlier. -/
def Before (i j : Fin n) : Prop := a j < a i ∨ (a i = a j ∧ i < j)

theorem Before.trans {i j k : Fin n} (h : Before a i j) (h' : Before a j k) : Before a i k := by
  rcases h with h | ⟨h, l⟩ <;> rcases h' with h' | ⟨h', l'⟩
  · exact .inl (h'.trans h)
  · exact .inl (h' ▸ h)
  · exact .inl (h ▸ h')
  · exact .inr ⟨h.trans h', l.trans l'⟩

theorem Before.irrefl (i : Fin n) : ¬ Before a i i := by
  rintro (h | ⟨_, h⟩) <;> exact absurd h (lt_irrefl _)

theorem Before.total {i j : Fin n} (h : i ≠ j) : Before a i j ∨ Before a j i := by
  rcases lt_trichotomy (a i) (a j) with l | l | l
  · exact .inr (.inl l)
  · rcases lt_or_gt_of_ne h with k | k
    · exact .inl (.inr ⟨l, k⟩)
    · exact .inr (.inr ⟨l.symm, k⟩)
  · exact .inl (.inl l)

open Classical in
/-- How many entries come before entry `i`. -/
def place (i : Fin n) : ℕ := (Finset.univ.filter fun j => Before a j i).card

theorem place_lt_of {i j : Fin n} (h : Before a i j) : place a i < place a j := by
  classical
  refine Finset.card_lt_card ⟨fun k hk => ?_, fun hs => ?_⟩
  · rw [Finset.mem_filter] at hk ⊢
    exact ⟨hk.1, hk.2.trans a h⟩
  · have := hs (Finset.mem_filter.mpr ⟨Finset.mem_univ i, h⟩)
    exact Before.irrefl a i (Finset.mem_filter.mp this).2

theorem place_lt_iff {i j : Fin n} : place a i < place a j ↔ Before a i j := by
  refine ⟨fun h => ?_, place_lt_of a⟩
  by_contra hn
  have hij : i ≠ j := fun e => by subst e; exact lt_irrefl _ h
  exact absurd (place_lt_of a ((Before.total a hij).resolve_left hn)) (by omega)

theorem place_inj {i j : Fin n} (h : place a i = place a j) : i = j := by
  by_contra hij
  rcases Before.total a hij with l | l <;> have := place_lt_of a l <;> omega

theorem place_lt (i : Fin n) : place a i < n := by
  classical
  calc place a i < (Finset.univ : Finset (Fin n)).card := Finset.card_lt_card ⟨Finset.filter_subset _ _, fun hs =>
        Before.irrefl a i (Finset.mem_filter.mp (hs (Finset.mem_univ i))).2⟩
    _ = n := by simp

/-- The places as a permutation. -/
def order : Equiv.Perm (Fin n) :=
  (Equiv.ofBijective (fun i => (⟨place a i, place_lt a i⟩ : Fin n))
    (Finite.injective_iff_bijective.mp fun _ _ h => place_inj a (congrArg Fin.val h))).symm

/-- The entry at a place. -/
def pick (k : Fin n) : Fin n := order a k

theorem order_symm (i : Fin n) : (order a).symm i = ⟨place a i, place_lt a i⟩ := rfl

theorem place_pick (k : Fin n) : place a (pick a k) = k.val :=
  congrArg Fin.val ((order_symm a (order a k)).symm.trans ((order a).symm_apply_apply k))

theorem pick_eq_iff {k i : Fin n} : i = pick a k ↔ place a i = k.val :=
  ⟨fun h => h ▸ place_pick a k, fun h => place_inj a (h.trans (place_pick a k).symm)⟩

/-! ## The sort -/

open Classical in
/-- Of an increasing list, a stable sort by value is the sort by place. -/
theorem stableSort_eq (l : List (Fin n)) (hl : l.Pairwise (· < ·)) :
    stableSort (fun i j => decide (a j < a i)) l = stableSort (fun i j => decide ((order a).symm i < (order a).symm j)) l := by
  induction l with
  | nil => rfl
  | cons i l ih =>
    have hl' := List.pairwise_cons.mp hl
    show insertBefore _ i _ = insertBefore _ i _
    rw [ih hl'.2]
    refine insertBefore_congr _ _ _ _ fun j hj => ?_
    have hij : i < j := hl'.1 j ((perm_stableSort _ l).mem_iff.mp hj)
    rw [order_symm, order_symm, decide_eq_decide, Fin.mk_lt_mk, place_lt_iff]
    refine ⟨.inl, fun h => h.resolve_right fun h => absurd (h.2.trans hij) (lt_irrefl _)⟩

open Classical in
/-- A stable sort by decreasing value puts at a place the entry of that place. -/
theorem sortedFrom_eq (k : Fin n) : sortedFrom (fun i j => decide (a j < a i)) k = pick a k := by
  have h : sortPositions n (fun i j => decide (a j < a i)) = List.ofFn (order a) := by
    rw [← sortPositions_of_perm]
    exact stableSort_eq a _ (List.pairwise_lt_finRange n)
  unfold sortedFrom
  rw [List.get_of_eq h]
  simp [pick]

/-! ## The rounds -/

/-- The row with the entries of the first places struck out. -/
def struck (k : ℕ) (i : Fin n) : EReal := if place a i < k then ⊥ else a i

theorem struck_zero : struck a 0 = a := funext fun i => if_neg (Nat.not_lt_zero _)

theorem struck_succ (k : Fin n) (i : Fin n) : struck a (k.val + 1) i = if i = pick a k then ⊥ else struck a k.val i := by
  unfold struck
  by_cases h : place a i < k.val
  · rw [if_pos (by omega), if_pos h, ite_self]
  · by_cases e : i = pick a k
    · rw [if_pos e, if_pos (by rw [(pick_eq_iff a).mp e]; omega)]
    · have := mt (pick_eq_iff a).mpr e
      rw [if_neg e, if_neg h, if_neg (by omega)]

variable (ha : ∀ i, ⊥ < a i)

theorem struck_pick (k : Fin n) : struck a k.val (pick a k) = a (pick a k) := if_neg (by rw [place_pick]; omega)

/-- The entry of a place is a greatest of those not struck out. -/
theorem struck_le (k : Fin n) (i : Fin n) : struck a k.val i ≤ a (pick a k) := by
  unfold struck
  split
  · exact bot_le
  · rename_i h
    by_contra hn
    have : place a i < place a (pick a k) := place_lt_of a (.inl (not_le.mp hn))
    rw [place_pick] at this
    exact h this

include ha in
/-- And the first of them. -/
theorem pick_le_of_struck (k : Fin n) (i : Fin n) (h : struck a k.val i = a (pick a k)) : pick a k ≤ i := by
  unfold struck at h
  split at h
  · exact absurd h (ha _).ne
  · rename_i hp
    by_contra hn
    have : place a i < place a (pick a k) := place_lt_of a (.inr ⟨h, not_le.mp hn⟩)
    rw [place_pick] at this
    exact hp this

/-- The greatest of those not struck out. -/
theorem fold_struck (k : Fin n) : (Finset.univ.fold max ⊥ fun i => struck a k.val i) = a (pick a k) := by
  refine le_antisymm ?_ ?_
  · rw [Finset.fold_max_le]
    exact ⟨bot_le, fun i _ => struck_le a k i⟩
  · rw [Finset.le_fold_max]
    exact .inr ⟨pick a k, Finset.mem_univ _, (struck_pick a k).ge⟩

end Cert.Proof.TopFirst

end
-- ==== Proof.Rounds.lean ====
/-
  The rounds over the extended reals: round `k` chooses, for each query, the entry of place `k` among its scores.
-/
module

public import proofs.«01_k».proof.Proof.Retrieve
public import proofs.«01_k».proof.Proof.TopFirst
public import Idealize.ShloMosaic.Lib.Pointwise
public import Idealize.ShloMosaic.Lib.IdealHost

@[expose] public section

set_option maxRecDepth 16384

noncomputable section

namespace Cert.Proof

open Cert.KernelIdeal Cert.KernelIdeal.Gen
open Idealize.ShloMosaic

open TopFirst

/-! ## The chosen entry's number -/

theorem minsi_toInt (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- The least of some words is one that is no greater than the others. -/
theorem fold_minsi {n : ℕ} (f : Fin n → BitVec 32) (e w : BitVec 32) (he : w.toInt ≤ e.toInt) (i : Fin n) (hi : f i = w)
    (h : ∀ j, w.toInt ≤ (f j).toInt) : Finset.univ.fold IntOp.minsi e f = w := by
  refine BitVec.eq_of_toInt_eq ?_
  rw [← Finset.fold_hom (op' := (min : ℤ → ℤ → ℤ)) (m := BitVec.toInt) minsi_toInt]
  refine le_antisymm ?_ ?_
  · rw [Finset.fold_min_le]
    exact .inr ⟨i, Finset.mem_univ i, by rw [hi]⟩
  · rw [Finset.le_fold_min]
    exact ⟨he, fun j _ => h j⟩

theorem toInt_small {i : ℕ} (h : i ≤ 1000) : (BitVec.ofNat 32 i).toInt = i := by
  rw [BitVec.toInt_eq_toNat_of_lt] <;> rw [BitVec.toNat_ofNat, Nat.mod_eq_of_lt (by omega)]
  omega

theorem neg_inf : Ideal.ofBits .f32 4286578688#32 = ⊥ := by
  simp [Ideal.ofBits, Ideal.ieee]

variable (a : Fin 1000 → EReal) (ha : ∀ i, ⊥ < a i)

include ha in
/-- One round: of a row with the entries of the first `k` places struck out, the entry of place `k` is chosen. -/
theorem hereOf_eq (cur : FVec Ideal S4x1000 .f32) (b : Fin 4) (k : Fin 1000) (h : ∀ i, cur (ix2 b i) = struck a k.val i) (i : Fin 1000) :
    hereOf cur (ix2 b i) = if i = pick a k then 1#1 else 0#1 := by
  pointwise [hereOf, candOf, ids]
  simp only [h, neg_inf, fold_struck]
  rw [fold_minsi _ _ (BitVec.ofNat 32 (pick a k).val) (by rw [toInt_small (by omega)]; show _ ≤ (2147483647 : ℤ); omega) (pick a k)
    (if_pos (struck_pick a k)) fun j => by
      split
      · rename_i hj
        rw [toInt_small (by omega), toInt_small (by omega)]
        exact_mod_cast pick_le_of_struck a ha k j hj
      · rw [toInt_small (by omega)]
        show _ ≤ (1000 : ℤ)
        omega]
  by_cases e : i = pick a k
  · rw [if_pos e, e]
    simp [IntOp.cmpi]
  · rw [if_neg e]
    have : BitVec.ofNat 32 i.val ≠ BitVec.ofNat 32 (pick a k).val := fun hw => e (Fin.ext (by
      have := congrArg BitVec.toNat hw
      rwa [BitVec.toNat_ofNat, BitVec.toNat_ofNat, Nat.mod_eq_of_lt (by omega), Nat.mod_eq_of_lt (by omega)] at this))
    simp [IntOp.cmpi, beq_eq_false_iff_ne.mpr this]

/-! ## The scores -/

section Score

variable (q : Vec Ideal S4x2048 .f32) (mk mv : Vec Ideal S1000x2048 .f32) (mp : Vec Ideal S1x1000 .f32)

/-- A number divided by the length of its row and a little more. -/
def unit (x : Fin 2048 → EReal) (d : Fin 2048) : EReal := Ideal.div (x d) (Ideal.sqrt (∑ e, x e * x e) + Ideal.ofBits .f32 841731191#32)

/-- A query's score at a memory entry. -/
def score (x y : Fin 2048 → EReal) : EReal := ∑ d, unit x d * unit y d

/-- A query's scores. -/
def scores (b : Fin 4) (i : Fin 1000) : EReal := score (fun d => q (ix2 b d)) fun d => mk (ix2 i d)

theorem eps_pos : ∃ r : ℝ, 0 < r ∧ Ideal.ofBits .f32 841731191#32 = (r : EReal) := by
  refine ⟨11258999 * (2 : ℝ) ^ (-50 : ℤ), by positivity, ?_⟩
  have h1 : (BitVec.extractLsb' (8 + 23) 1 841731191#32 == 1#1) = false := by decide
  have h2 : (BitVec.extractLsb' 23 8 841731191#32).toNat = 100 := by decide
  have h3 : (BitVec.extractLsb' 0 23 841731191#32).toNat = 2870391 := by decide
  simp only [Ideal.ofBits, Ideal.ieee, h1, h2, h3]
  norm_num

theorem sum_sq_nonneg (x : Fin 2048 → EReal) : 0 ≤ ∑ e, x e * x e :=
  Finset.sum_nonneg fun e _ => by
    rcases le_total 0 (x e) with h | h
    · exact mul_nonneg h h
    · have := mul_nonneg (EReal.neg_nonneg.mpr h) (EReal.neg_nonneg.mpr h)
      rwa [neg_mul_neg] at this

theorem unit_real (x : Fin 2048 → EReal) (d : Fin 2048) : ∃ r : ℝ, unit x d = (r : EReal) := by
  obtain ⟨ε, hε, eε⟩ := eps_pos
  have h0 := sum_sq_nonneg x
  unfold unit
  rw [eε]
  generalize hS : ∑ e, x e * x e = S at h0 ⊢
  induction S with
  | bot => exact absurd h0 (by simp)
  | top =>
    refine ⟨0, ?_⟩
    rw [show Ideal.sqrt ⊤ = ⊤ from rfl, EReal.top_add_coe, Ideal.div, if_neg EReal.top_ne_zero, EReal.inv_top, mul_zero, EReal.coe_zero]
  | coe s =>
    have hx : x d ≠ ⊤ ∧ x d ≠ ⊥ := by
      by_contra hc
      have hd : x d * x d = ⊤ := by
        by_cases h : x d = ⊤
        · rw [h]; rfl
        · rw [not_not.mp fun hb => hc ⟨h, hb⟩]; rfl
      have : (⊤ : EReal) ≤ (s : EReal) := by
        rw [← hS, ← hd]
        exact Finset.single_le_sum (f := fun e => x e * x e) (fun e _ => by
          rcases le_total 0 (x e) with h | h
          · exact mul_nonneg h h
          · have := mul_nonneg (EReal.neg_nonneg.mpr h) (EReal.neg_nonneg.mpr h)
            rwa [neg_mul_neg] at this) (Finset.mem_univ d)
      exact absurd this (by simp)
    lift x d to ℝ using hx with r
    have hs : ¬ s < 0 := not_lt.mpr (by exact_mod_cast h0)
    have hp : 0 < Real.sqrt s + ε := by positivity
    refine ⟨r * (Real.sqrt s + ε)⁻¹, ?_⟩
    have hq : Ideal.sqrt (s : EReal) = (Real.sqrt s : EReal) := if_neg hs
    rw [hq, ← EReal.coe_add, Ideal.div, if_neg (by exact_mod_cast hp.ne'), EReal.coe_mul, EReal.coe_inv]

theorem score_real (x y : Fin 2048 → EReal) : ⊥ < score x y := by
  choose u hu using unit_real x
  choose v hv using unit_real y
  have : score x y = ((∑ d, u d * v d : ℝ) : EReal) := by
    unfold score
    refine Eq.trans ?_ (map_sum (⟨⟨Real.toEReal, EReal.coe_zero⟩, EReal.coe_add⟩ : ℝ →+ EReal) _ _).symm
    exact Finset.sum_congr rfl fun d _ => by rw [hu, hv]; exact (EReal.coe_mul _ _).symm
  rw [this]
  exact EReal.bot_lt_coe _

theorem scores_real (b : Fin 4) (i : Fin 1000) : ⊥ < scores q mk b i := score_real _ _

theorem score_read (b : Fin 4) (i : Fin 1000) : k0_pay5 (F := Ideal) q mk (ix2 b i) = scores q mk b i := by
  pointwise [k0_pay5]
  rfl

/-! ## The rounds -/

/-- The entry of place `k` among a query's scores. -/
def chosen (b : Fin 4) (k : Fin 1000) : Fin 1000 := pick (scores q mk b) k

theorem curAt_read (b : Fin 4) : ∀ (k : ℕ), k ≤ 10 → ∀ i, curAt q mk k (ix2 b i) = struck (scores q mk b) k i
  | 0, _, i => by rw [struck_zero]; exact score_read q mk b i
  | k + 1, hk, i => by
    have ih := curAt_read b k (by omega)
    have hh := hereOf_eq (scores q mk b) (scores_real q mk b) (curAt q mk k) b ⟨k, by omega⟩ ih i
    refine Eq.trans ?_ (struck_succ (scores q mk b) ⟨k, by omega⟩ i).symm
    show nextOf (curAt q mk k) (hereOf (curAt q mk k)) (ix2 b i) = _
    pointwise [nextOf]
    rw [hh, ih i, neg_inf]
    split <;> rfl

theorem hereAt_read (b : Fin 4) (k : Fin 10) (i : Fin 1000) :
    hereAt q mk k.val (ix2 b i) = if i = chosen q mk b (k.castLE (by omega)) then 1#1 else 0#1 :=
  hereOf_eq (scores q mk b) (scores_real q mk b) (curAt q mk k.val) b (k.castLE (by omega)) (curAt_read q mk b k.val (by omega)) i

/-- A sum with ones and zeros for factors, the one at the entry chosen. -/
theorem one_hot (c : Fin 1000 → BitVec 1) (p : Fin 1000) (hc : ∀ i, c i = if i = p then 1#1 else 0#1) (g : Fin 1000 → EReal) :
    ∑ i, (FloatOps.sitofp (F := Ideal) .f32 (BitVec.setWidth 32 (c i)) : EReal) * g i = g p := by
  rw [Finset.sum_eq_single p]
  · rw [hc, if_pos rfl]
    have : (FloatOps.sitofp (F := Ideal) .f32 (BitVec.setWidth 32 1#1) : EReal) = 1 := by
      show (((BitVec.setWidth 32 1#1).toInt : ℝ) : EReal) = 1
      norm_num
    rw [this, one_mul]
  · intro i _ h
    rw [hc, if_neg h]
    have : (FloatOps.sitofp (F := Ideal) .f32 (BitVec.setWidth 32 0#1) : EReal) = 0 := by
      show (((BitVec.setWidth 32 0#1).toInt : ℝ) : EReal) = 0
      norm_num
    rw [this, zero_mul]
  · exact fun h => absurd (Finset.mem_univ p) h

theorem keyRow_read (k : Fin 10) (b : Fin 4) (d : Fin 2048) :
    keyRow (F := Ideal) q mk k.val (ix3 b 0 d) = mk (ix2 (chosen q mk b (k.castLE (by omega))) d) := by
  pointwise [keyRow, oneAt]
  exact one_hot _ _ (hereAt_read q mk b k) fun i => mk (ix2 i d)

theorem valRow_read (k : Fin 10) (h : Fin 64) (d : Fin 128) :
    valRow (F := Ideal) q mk mv k.val (ix3 h 0 d)
      = mv (ix2 (chosen q mk ⟨h.val / 16, by omega⟩ (k.castLE (by omega))) ⟨h.val % 16 * 128 + d.val, by omega⟩) := by
  pointwise [valRow, oneAt]
  exact one_hot _ _ (hereAt_read q mk ⟨h.val / 16, by omega⟩ k) fun i => mv (ix2 i ⟨h.val % 16 * 128 + d.val, by omega⟩)

theorem posCol_read (k : Fin 10) (b : Fin 4) :
    posCol (F := Ideal) q mk mp k.val (ix2 b 0) = mp (ix2 0 (chosen q mk b (k.castLE (by omega)))) := by
  pointwise [posCol, posRows, k0_pay6]
  rw [Finset.sum_eq_single (chosen q mk b (k.castLE (by omega)))]
  · rw [hereAt_read, if_pos rfl]; rfl
  · intro i _ h
    rw [hereAt_read, if_neg h]; rfl
  · exact fun h => absurd (Finset.mem_univ _) h

end Score

end Cert.Proof

end
-- ==== Proof.ReferenceRows.lean ====
/-
  The reference's arrays, named: the query's row, the scores, the entries of the first ten places, and the rows taken there.
-/
module

public import proofs.«01_k».proof.Proof.Rounds
public import proofs.«01_k».proof.Proof.Gen.ReferenceIdeal.Run

@[expose] public section

set_option maxRecDepth 16384

noncomputable section

namespace Cert.Proof.Reference

open Cert.ReferenceIdeal Cert.ReferenceIdeal.Gen
open Idealize.ShloMosaic Idealize.SL.Sem
open Cert.Proof (score scores toInt_small)
open Cert.Proof.TopFirst (pick)

section Arrays

variable (k v : FVec Ideal S4x16x2048x128 .f32) (mk tbl : FVec Ideal S1000x2048 .f32) (mp : FVec Ideal S1000 .f32) (t : IVec S4x10 32)

/-- The last key of every head, a row for each query. -/
def queryRow : FVec Ideal S4x2048 .f32 :=
  shapeCast _ (shapeCast _ (extractStridedSlice S4x16x1x128 ![0, 0, 2047, 0] k slices_S4x16x2048x128_S4x16x1x128_0_0_2047_0) shapeCasts_S4x16x1x128_S4x16x128) shapeCasts_S4x16x128_S4x2048

/-- The scores of every query at every entry. -/
def sims (q : FVec Ideal S4x2048 .f32) : FVec Ideal S4x1000 .f32 :=
  Host.dotGeneral dot_S4x2048_S2048x1000_S4x1000_1_0_0_1_n_n none
    (Host.divf q (broadcastInDim S4x2048 ![0, 1] bcast_S4x1_S4x2048_0_1 (addf (Host.sqrt (broadcastInDim S4x1 ![0] bcast_S4_S4x1_0 (Host.reduceAdd (mulf q q) (constant S_ .f32 0x00000000#32) reducesTo_S4x2048_S4_d1 h_S_))) (broadcastInDim S4x1 ![] bcast_S_S4x1 (constant S_ .f32 0x322BCC77#32)))))
    (transpose S2048x1000 [1, 0] (Host.divf mk (broadcastInDim S1000x2048 ![0, 1] bcast_S1000x1_S1000x2048_0_1 (addf (Host.sqrt (broadcastInDim S1000x1 ![0] bcast_S1000_S1000x1_0 (Host.reduceAdd (mulf mk mk) (constant S_ .f32 0x00000000#32) reducesTo_S1000x2048_S1000_d1 h_S_))) (broadcastInDim S1000x1 ![] bcast_S_S1000x1 (constant S_ .f32 0x322BCC77#32))))) transposes_S1000x2048_S2048x1000_1_0)

/-- The entries of the first ten places, by number. -/
def top (s : FVec Ideal S4x1000 .f32) : IVec S4x10 32 := (Host.topK S4x10 1 (FloatOps.cmpfTotal .gt) s sliceFits_S4x1000_S4x10).2

/-- The numbers at which rows are taken: a negative one counts from the end. -/
def rowIds : IVec S4x10x1 32 :=
  broadcastInDim S4x10x1 ![0, 1] bcast_S4x10_S4x10x1_0_1 (select (cmpi .slt t (broadcastInDim S4x10 ![] bcast_S_S4x10 (constantI S_ 32 0#32))) (addi t (broadcastInDim S4x10 ![] bcast_S_S4x10 (constantI S_ 32 1000#32))) t)

/-- Whether a number names a row. -/
def inRange (i : IVec S4x10x1 32) : IVec S4x10 1 :=
  Host.reduce IntOp.andi (andi (cmpi .sge i (broadcastInDim S4x10x1 ![] bcast_S_S4x10x1 (constantI S_ 32 0#32))) (cmpi .sle i (broadcastInDim S4x10x1 ![0, 1, 2] bcast_S1x1x1_S4x10x1_0_1_2 (broadcastInDim S1x1x1 ![2] bcast_S1_S1x1x1_2 (constantI S1 32 999#32))))) (constantI S_ 1 1#1) reducesTo_S4x10x1_S4x10_d2 h_S_

/-- The rows of a table at given numbers. -/
def takeRows : FVec Ideal S4x10x2048 .f32 :=
  select (broadcastInDim S4x10x2048 ![0, 1] bcast_S4x10_S4x10x2048_0_1 (inRange (rowIds t))) (Host.gather gather_S1000x2048_S4x10x1_S4x10x2048_2_0_n_n_0_2_12048 tbl (rowIds t)) (broadcastInDim S4x10x2048 ![] bcast_S_S4x10x2048 (constant S_ .f32 0x7FC00000#32))

/-- The numbers of a row at given places. -/
def takeNums : FVec Ideal S4x10 .f32 :=
  select (inRange (rowIds t)) (Host.gather gather_S1000_S4x10x1_S4x10_n_0_n_n_0_2_1 mp (rowIds t)) (broadcastInDim S4x10 ![] bcast_S_S4x10 (constant S_ .f32 0x7FC00000#32))

/-- Rows taken, put before each head's own. -/
def joined : FVec Ideal S4x16x2058x128 .f32 :=
  concatenate S4x16x2058x128 2 [⟨S4x16x10x128, transpose S4x16x10x128 [0, 2, 1, 3] (shapeCast _ (takeRows tbl t) shapeCasts_S4x10x2048_S4x10x16x128) transposes_S4x10x16x128_S4x16x10x128_0_2_1_3⟩, ⟨S4x16x2048x128, v⟩] concatenates_S4x16x10x128_S4x16x2048x128_S4x16x2058x128_d2

/-- The places of the sequence, then the positions taken. -/
def positions : FVec Ideal S4x2058 .f32 :=
  concatenate S4x2058 1 [⟨S4x2048, broadcastInDim S4x2048 ![0, 1] bcast_S1x2048_S4x2048_0_1 (broadcastInDim S1x2048 ![1] bcast_S2048_S1x2048_1 (sitofp .f32 (iotaInDim S2048 32 0)))⟩, ⟨S4x10, takeNums mp t⟩] concatenates_S4x2048_S4x10_S4x2058_d1

end Arrays

section Results

variable (m : (ℓ : Loc nD τ sig) → Buf (Elt Ideal) ℓ) (c : Dev nD)

/-- The entries taken. -/
def taken : IVec S4x10 32 := top (sims (m (c.tc.loc main_arg5)) (queryRow (m (c.tc.loc main_arg2))))

theorem keys_eq : Value.res_main_v25 m c = joined (m (c.tc.loc main_arg2)) (m (c.tc.loc main_arg5)) (taken m c) := by
  unfold Value.res_main_v25; rfl
theorem values_eq : Value.res_main_v26 m c = joined (m (c.tc.loc main_arg3)) (m (c.tc.loc main_arg6)) (taken m c) := by
  unfold Value.res_main_v26; rfl
theorem positions_eq : Value.res_main_v29 m c = positions (m (c.tc.loc main_arg7)) (taken m c) := by
  unfold Value.res_main_v29; rfl

end Results

section Reads

variable (k v : FVec Ideal S4x16x2048x128 .f32) (mk tbl : FVec Ideal S1000x2048 .f32) (mp : FVec Ideal S1000 .f32) (t : IVec S4x10 32)

theorem queryRow_read (b : Fin 4) (d : Fin 2048) : queryRow k (ix2 b d) = k (ix4 b ⟨d.val / 128, by omega⟩ 2047 ⟨d.val % 128, by omega⟩) := by
  pointwise [queryRow]

theorem sims_read (q : FVec Ideal S4x2048 .f32) (b : Fin 4) (i : Fin 1000) : sims mk q (ix2 b i) = scores q mk b i := by
  pointwise [sims]
  rfl

/-- The second array of a sort of two. -/
theorem sort2_snd {s : Shape} {d : ℕ} (hd : d < s.rank) {α β : Type} (cmp : α × β → α × β → BitVec 1) (x : s.Idx → α) (y : s.Idx → β) :
    (Host.sort2 s d cmp x y).2 = fun j => y (Shape.Idx.along j ⟨d, hd⟩ (sortedFrom (fun k k' =>
      cmp (x (Shape.Idx.along j ⟨d, hd⟩ k), y (Shape.Idx.along j ⟨d, hd⟩ k)) (x (Shape.Idx.along j ⟨d, hd⟩ k'), y (Shape.Idx.along j ⟨d, hd⟩ k')) == 1#1) (j ⟨d, hd⟩))) := by
  unfold Host.sort2
  rw [dif_pos hd]

/-- The first columns of an array. -/
theorem firstCols {α : Type} (f : S4x1000.Idx → α) (b : Fin 4) (j : Fin 10) :
    extractStridedSlice S4x10 (fun _ => 0) f sliceFits_S4x1000_S4x10 (ix2 b j) = f (ix2 b (j.castLE (by omega))) := by
  refine congrArg f (funext fun a => Fin.ext ?_)
  fin_cases a
  · exact Nat.zero_add _
  · exact Nat.zero_add _

theorem along_row (h : 1 < S4x1000.rank) (b : Fin 4) (j : Fin 1000) (x : Fin (S4x1000.size ⟨1, h⟩)) :
    Shape.Idx.along (s := S4x1000) (ix2 b j) ⟨1, h⟩ x = ix2 b (show Fin 1000 from x) := by
  funext a
  fin_cases a <;> rfl

/-- A row sorted, the greater first. -/
theorem sorted_row (f : Fin 1000 → EReal) (k : Fin 1000) :
    sortedFrom (fun i i' => FloatOps.cmpfTotal (F := Ideal) (φ := .f32) .gt (f i) (f i') == 1#1) k = pick f k := by
  rw [← TopFirst.sortedFrom_eq]
  congr 1
  funext i i'
  show (BitVec.ofBool (decide (f i' < f i)) == 1#1) = _
  cases decide (f i' < f i) <;> rfl

theorem top_read (s : FVec Ideal S4x1000 .f32) (b : Fin 4) (j : Fin 10) :
    top s (ix2 b j) = BitVec.ofNat 32 (pick (fun i => s (ix2 b i)) (j.castLE (by omega))).val := by
  unfold top Host.topK
  dsimp only
  rw [sort2_snd (by decide)]
  refine (firstCols _ b j).trans ?_
  simp only [along_row]
  rw [dif_pos (by decide)]
  generalize hπ : sortedFrom _ _ = π
  have h := hπ.symm.trans (sorted_row (fun i => s (ix2 b i)) (j.castLE (by omega)))
  rw [h]
  rfl

variable (p : Fin 4 → Fin 10 → Fin 1000) (ht : ∀ b j, t (ix2 b j) = BitVec.ofNat 32 (p b j).val)

include ht in
theorem rowIds_read (b : Fin 4) (j : Fin 10) : rowIds t (ix3 b j 0) = BitVec.ofNat 32 (p b j).val := by
  pointwise [rowIds]
  rw [ht]
  have : IntOp.cmpi .slt (BitVec.ofNat 32 (p b j).val) 0#32 = 0#1 := by
    have h0 : ¬ ((p b j).val : ℤ) < 0 := by omega
    simp [IntOp.cmpi, BitVec.slt, toInt_small (p b j).isLt.le, h0]
  rw [this]
  rfl

include ht in
theorem inRange_read (b : Fin 4) (j : Fin 10) : inRange (rowIds t) (ix2 b j) = 1#1 := by
  pointwise [inRange]
  have h1 : IntOp.cmpi .sge (BitVec.ofNat 32 (p b j).val) 0#32 = 1#1 := by
    simp [IntOp.cmpi, BitVec.sle, toInt_small (p b j).isLt.le]
  have h2 : IntOp.cmpi .sle (BitVec.ofNat 32 (p b j).val) 999#32 = 1#1 := by
    have := (p b j).isLt
    have h0 : ((p b j).val : ℤ) ≤ 999 := by omega
    simp [IntOp.cmpi, BitVec.sle, toInt_small (p b j).isLt.le, h0]
  have h (x : Fin 1) : IntOp.andi (IntOp.cmpi .sge (rowIds t (ix3 b j x)) 0#32) (IntOp.cmpi .sle (rowIds t (ix3 b j x)) 999#32) = 1#1 := by
    rw [Subsingleton.elim x 0, rowIds_read t p ht, h1, h2]
    rfl
  simp only [h]
  rfl

/-- A row of a table at a number that names one. -/
theorem gather_row (i : IVec S4x10x1 32) (b : Fin 4) (j : Fin 10) (r : Fin 1000) (hr : i (ix3 b j 0) = BitVec.ofNat 32 r.val) (d : Fin 2048) :
    Host.gather gather_S1000x2048_S4x10x1_S4x10x2048_2_0_n_n_0_2_12048 tbl i (ix3 b j d) = tbl (ix2 r d) := by
  refine congrArg tbl (funext fun a => Fin.ext ?_)
  fin_cases a
  · show min (i (GatherDims.siIdx _ _ _)).toInt.toNat 999 + 0 + 0 = r.val
    rw [show GatherDims.siIdx _ _ _ = (ix3 b j 0 : S4x10x1.Idx) from funext fun a => by fin_cases a <;> rfl, hr, toInt_small r.isLt.le]
    have := r.isLt
    simp
    omega
  · show 0 + 0 + d.val = d.val
    omega

theorem gather_num (i : IVec S4x10x1 32) (b : Fin 4) (j : Fin 10) (r : Fin 1000) (hr : i (ix3 b j 0) = BitVec.ofNat 32 r.val) :
    Host.gather gather_S1000_S4x10x1_S4x10_n_0_n_n_0_2_1 mp i (ix2 b j) = mp (ix1 r) := by
  refine congrArg mp (funext fun a => Fin.ext ?_)
  fin_cases a
  show min (i (GatherDims.siIdx _ _ _)).toInt.toNat 999 + 0 + 0 = r.val
  rw [show GatherDims.siIdx _ _ _ = (ix3 b j 0 : S4x10x1.Idx) from funext fun a => by fin_cases a <;> rfl, hr, toInt_small r.isLt.le]
  have := r.isLt
  simp
  omega

include ht in
theorem joined_read (b : Fin 4) (h : Fin 16) (s : Fin 2058) (d : Fin 128) : joined v tbl t (ix4 b h s d)
    = if hs : s.val < 10 then tbl (ix2 (p b ⟨s.val, hs⟩) ⟨h.val * 128 + d.val, by omega⟩) else v (ix4 b h ⟨s.val - 10, by omega⟩ d) := by
  pointwise [joined, takeRows]
  split
  · rename_i hs
    rw [inRange_read t p ht, gather_row tbl _ _ _ _ (rowIds_read t p ht b ⟨s.val, hs⟩)]
    rfl
  · rfl

include ht in
theorem positions_read (b : Fin 4) (s : Fin 2058) : positions mp t (ix2 b s)
    = if hs : s.val < 2048 then FloatOps.sitofp .f32 (BitVec.ofNat 32 s.val) else mp (ix1 (p b ⟨s.val - 2048, by omega⟩)) := by
  pointwise [positions, takeNums]
  split
  · rfl
  · rw [inRange_read t p ht, gather_num mp _ _ _ _ (rowIds_read t p ht b ⟨s.val - 2048, by omega⟩)]
    rfl

end Reads

end Cert.Proof.Reference

end
-- ==== Proof.Results.lean ====
/-
  What @main leaves in its results, at the extended reals, is the reference's.
-/
module

public import proofs.«01_k».proof.Proof.Main
public import proofs.«01_k».proof.Proof.ReferenceRows

@[expose] public section

noncomputable section

namespace Cert.Proof

open Cert.KernelIdeal Cert.KernelIdeal.Gen
open Idealize.ShloMosaic
open Cert.Proof.Tile (ovVal)
open Cert.Proof.Reference (queryRow sims top joined positions sims_read top_read joined_read positions_read)

variable (m : (ℓ : Loc nD τ sig) → Buf (Elt Ideal) ℓ) (d : Dev nD)

/-- An array of @main as the run begins. -/
abbrev given (b : Ref sig .tc) : Buf (Elt Ideal) ((d.tc : Thread nD τ).loc b) := m ((d.tc : Thread nD τ).loc b)

/-- The entries the reference takes are the ten the rounds choose. -/
theorem taken_read (q : FVec Ideal S4x2048 .f32) (mk : FVec Ideal S1000x2048 .f32) (b : Fin 4) (j : Fin 10) :
    top (sims mk q) (ix2 b j) = BitVec.ofNat 32 (chosen q mk b (j.castLE (by omega))).val := by
  rw [top_read]
  simp only [sims_read]
  rfl

/-! ## Before the retrieval call -/

theorem head_query : valHead m d (ref main_v2) = queryRow (given m d main_arg2) := by
  unfold valHead headOps
  after_results
  rfl

theorem head_places : valHead m d (ref main_v3) = shapeCast S1x1000 (given m d main_arg7) shapeCasts_S1000_S1x1000 := by
  unfold valHead headOps
  after_results
  rfl

theorem head_own : valHead m d (ref main_v5)
    = shapeCast S64x8x128 (extractStridedSlice S4x16x8x128 ![0, 0, 0, 0] (given m d main_arg3) slices_S4x16x2048x128_S4x16x8x128_0_0_0_0) shapeCasts_S4x16x8x128_S64x8x128 := by
  unfold valHead headOps
  after_results
  rfl

theorem places_read (mp : FVec Ideal S1000 .f32) (i : Fin 1000) : shapeCast S1x1000 mp shapeCasts_S1000_S1x1000 (ix2 0 i) = mp (ix1 i) := by
  pointwise

theorem own_read (v : FVec Ideal S4x16x2048x128 .f32) (h : Fin 64) (s : Fin 8) (e : Fin 128) :
    shapeCast S64x8x128 (extractStridedSlice S4x16x8x128 ![0, 0, 0, 0] v slices_S4x16x2048x128_S4x16x8x128_0_0_0_0) shapeCasts_S4x16x8x128_S64x8x128 (ix3 h s e)
      = v (ix4 ⟨h.val / 16, by omega⟩ ⟨h.val % 16, by omega⟩ ⟨s.val, by omega⟩ e) := by
  pointwise

theorem last_read (v : FVec Ideal S4x16x2048x128 .f32) (b : Fin 4) (h : Fin 16) (s : Fin 8) (e : Fin 128) :
    extractStridedSlice S4x16x8x128 ![0, 0, 2040, 0] v slices_S4x16x2048x128_S4x16x8x128_0_0_2040_0 (ix4 b h s e) = v (ix4 b h ⟨2040 + s.val, by omega⟩ e) := by
  pointwise

/-! ## What the retrieval call leaves -/

theorem ret_keys : valRet m d (ref main_v6_0) = keysOut (queryRow (given m d main_arg2)) (given m d main_arg5) := by
  unfold valRet
  rw [retNext_keys, ← head_query, show given m d main_arg5 = valHead m d (ref main_arg5) from (valHead_keep m d main_arg5 (by decide)).symm]

theorem ret_vals : valRet m d (ref main_v6_1) = valsOut (queryRow (given m d main_arg2)) (given m d main_arg5) (given m d main_arg6) (valHead m d (ref main_v5)) := by
  unfold valRet
  rw [retNext_vals, ← head_query, show given m d main_arg5 = valHead m d (ref main_arg5) from (valHead_keep m d main_arg5 (by decide)).symm,
    show given m d main_arg6 = valHead m d (ref main_arg6) from (valHead_keep m d main_arg6 (by decide)).symm]

theorem ret_pos : valRet m d (ref main_v6_2) = posOut (queryRow (given m d main_arg2)) (given m d main_arg5) (valHead m d (ref main_v3)) := by
  unfold valRet
  rw [retNext_pos, ← head_query, show given m d main_arg5 = valHead m d (ref main_arg5) from (valHead_keep m d main_arg5 (by decide)).symm]

theorem ret_mask : valRet m d (ref main_v6_3) = maskOut (given m d main_arg4) := by
  unfold valRet
  rw [retNext_mask, show given m d main_arg4 = valHead m d (ref main_arg4) from (valHead_keep m d main_arg4 (by decide)).symm]

/-! ## The results -/

/-- The first two are copies of the first two arguments. -/
theorem end_input : valEnd m d (ref main_v7_1) = given m d main_arg0 := by
  rw [valEnd_late m d main_v7_1 (by decide)]
  unfold valCall
  rw [Function.update_of_ne (by decide), Function.update_self]

theorem end_queries : valEnd m d (ref main_v7_2) = given m d main_arg1 := by
  rw [valEnd_late m d main_v7_2 (by decide)]
  unfold valCall
  rw [Function.update_self]

/-- The keys: those retrieved before each head's own. -/
theorem end_keys : valEnd m d (ref main_v10)
    = joined (given m d main_arg2) (given m d main_arg5) (top (sims (given m d main_arg5) (queryRow (given m d main_arg2)))) := by
  have hk : valTail m d (ref main_v6_0) = keysOut (queryRow (given m d main_arg2)) (given m d main_arg5) := by
    unfold valTail
    rw [tailNext_ne _ d _ (ref_ne (by decide)), valMid_keep m d main_v6_0 (by decide), valCall_keep m d main_v6_0 (by decide), ret_keys]
  have ho : valTail m d (ref main_arg2) = given m d main_arg2 := by
    unfold valTail
    rw [tailNext_ne _ d _ (ref_ne (by decide)), valMid_keep m d main_arg2 (by decide), valCall_keep m d main_arg2 (by decide), valRet_keep m d main_arg2 (by decide)]
  rw [valEnd_keep m d main_v10 (by decide)]
  unfold valCat
  rw [catNext_new]
  refine (congrArg₂ catArr hk ho).trans (funext fun y => ?_)
  obtain ⟨b, h, s, e, rfl⟩ : ∃ (b : Fin 4) (h : Fin 16) (s : Fin 2058) (e : Fin 128), y = ix4 b h s e := ⟨y 0, y 1, y 2, y 3, by funext a; fin_cases a <;> rfl⟩
  rw [joined_read _ _ _ (fun b j => chosen (queryRow (given m d main_arg2)) (given m d main_arg5) b (j.castLE (by omega))) (taken_read _ _)]
  unfold catArr
  by_cases hs : s.val < 10
  · rw [dif_pos hs, dif_pos (by exact hs)]
    refine (keyRow_read (queryRow (given m d main_arg2)) (given m d main_arg5) ⟨s.val, hs⟩ b _).trans (congrArg _ ?_)
    exact congrArg _ (Fin.ext (congrArg (· + e.val) (Nat.mul_comm 128 h.val)))
  · rw [dif_neg hs, dif_neg (by exact hs)]
    rfl

/-- The mask: ten ones before the mask given. -/
theorem end_mask : valEnd m d (ref main_v6_3)
    = concatenate S4x2058 1 [⟨S4x10, broadcastInDim S4x10 ![] Cert.ReferenceIdeal.Gen.bcast_S_S4x10 (constant (F := Ideal) Cert.ReferenceIdeal.S_ .f32 0x3F800000#32)⟩, ⟨S4x2048, given m d main_arg4⟩]
        Cert.ReferenceIdeal.Gen.concatenates_S4x10_S4x2048_S4x2058_d1 := by
  rw [valEnd_late m d main_v6_3 (by decide), valCall_keep m d main_v6_3 (by decide), ret_mask]
  funext y
  obtain ⟨b, s, rfl⟩ : ∃ (b : Fin 4) (s : Fin 2058), y = ix2 b s := ⟨y 0, y 1, by funext a; fin_cases a <;> rfl⟩
  pointwise
  unfold maskOut
  by_cases hs : s.val < 10
  · rw [dif_pos (by exact hs), dif_pos hs]
    pointwise [k0_pay2]
  · rw [dif_neg (by exact hs), dif_neg hs]
    rfl

/-- The length. -/
theorem end_length : valEnd m d (ref main_c) = constantI S_ 32 2058#32 := by
  unfold valEnd endOps
  after_results

/-- The positions: those of the sequence, then those retrieved. -/
theorem end_positions : valEnd m d (ref main_v6_2)
    = positions (given m d main_arg7) (top (sims (given m d main_arg5) (queryRow (given m d main_arg2)))) := by
  rw [valEnd_late m d main_v6_2 (by decide), valCall_keep m d main_v6_2 (by decide), ret_pos, head_places]
  funext y
  obtain ⟨b, s, rfl⟩ : ∃ (b : Fin 4) (s : Fin 2058), y = ix2 b s := ⟨y 0, y 1, by funext a; fin_cases a <;> rfl⟩
  rw [positions_read _ _ (fun b j => chosen (queryRow (given m d main_arg2)) (given m d main_arg5) b (j.castLE (by omega))) (taken_read _ _)]
  unfold posOut
  by_cases hs : s.val < 2048
  · rw [dif_pos hs, dif_pos (by exact hs)]
    pointwise [k0_pay3]
  · rw [dif_neg hs, dif_neg (by exact hs)]
    exact (posCol_read (queryRow (given m d main_arg2)) (given m d main_arg5) _ ⟨s.val - 2048, by omega⟩ b).trans (places_read _ _)

/-- The values: those retrieved before each head's own, which the tile programs and the tail call copy. -/
theorem end_values : valEnd m d (ref main_v9)
    = joined (given m d main_arg3) (given m d main_arg6) (top (sims (given m d main_arg5) (queryRow (given m d main_arg2)))) := by
  have hn : valMid m d newRef = ovVal (given m d main_arg3) (valRet m d (ref main_v6_1)) (given m d main_v7_0) := by
    unfold valMid midOps
    after_results
    unfold valCall
    rw [Function.update_of_ne (by decide), Function.update_of_ne (by decide), Function.update_self]
    rfl
  have ho : valMid m d oldRef = extractStridedSlice S4x16x8x128 ![0, 0, 2040, 0] (given m d main_arg3) slices_S4x16x2048x128_S4x16x8x128_0_0_2040_0 := by
    unfold valMid midOps
    after_results
    rw [show valCall m d (Proc.devRef .tc main_arg3) = given m d main_arg3 from (valCall_keep m d main_arg3 (by decide)).trans (valRet_keep m d main_arg3 (by decide))]
  rw [valEnd_keep m d main_v9 (by decide)]
  unfold valCat
  rw [catNext_ne _ d _ (ref_ne (by decide))]
  unfold valTail
  refine (tailNext_new (valMid m) d).trans ?_
  rw [hn, ho, ret_vals, head_own]
  funext y
  obtain ⟨b, h, s, e, rfl⟩ : ∃ (b : Fin 4) (h : Fin 16) (s : Fin 2058) (e : Fin 128), y = ix4 b h s e := ⟨y 0, y 1, y 2, y 3, by funext a; fin_cases a <;> rfl⟩
  rw [joined_read _ _ _ (fun b j => chosen (queryRow (given m d main_arg2)) (given m d main_arg5) b (j.castLE (by omega))) (taken_read _ _)]
  have hb : (b.val * 16 + h.val) / 16 = b.val := by omega
  have hh : (b.val * 16 + h.val) % 16 = h.val := by omega
  unfold tailVal
  by_cases h3 : 2056 ≤ s.val
  · rw [if_pos (by exact h3), dif_neg (by omega)]
    refine (last_read (given m d main_arg3) b h ⟨s.val - 2050, by omega⟩ e).trans (congrArg (fun x => given m d main_arg3 (ix4 b h x e)) (Fin.ext ?_))
    show 2040 + (s.val - 2050) = s.val - 10
    omega
  rw [if_neg (by exact h3)]
  unfold ovVal
  by_cases h2 : s.val < 16
  swap
  · have h4 : s.val < 2056 := by omega
    rw [dif_neg (by exact h2), dif_pos (by exact h4), dif_neg (by omega)]
    rfl
  rw [dif_pos (by exact h2)]
  unfold valsOut
  by_cases h1 : s.val < 10
  · rw [dif_pos (by exact h1), dif_pos h1]
    refine (valRow_read (queryRow (given m d main_arg2)) (given m d main_arg5) (given m d main_arg6) ⟨s.val, h1⟩ ⟨b.val * 16 + h.val, by omega⟩ e).trans ?_
    simp only [hb, hh]
  · rw [dif_neg (by exact h1), dif_neg h1]
    refine (own_read (given m d main_arg3) ⟨b.val * 16 + h.val, by omega⟩ ⟨s.val - 10, by omega⟩ e).trans ?_
    simp only [hb, hh]

end Cert.Proof

end
-- ==== Proof.Frames.lean ====
/-
  The frames: the run of @main with its values dropped, at the words and at the extended reals.
-/
module

public import proofs.«01_k».proof.Proof.Main
public import proofs.«01_k».proof.Proof.Gen.Kernel.Skeleton
public import proofs.«01_k».proof.Proof.Gen.ReferenceIdeal.Run
public import proofs.«01_k».proof.Defs

@[expose] public section

noncomputable section

namespace Cert.Proof

open Cert.KernelIdeal Cert.KernelIdeal.Gen
open Idealize.ShloMosaic Idealize.SL.Sem

variable {F : FTy → Type} [FloatOps F]

/-- The arguments end as they were and every semaphore at zero. -/
theorem Done.frame {m : (ℓ : Loc nD τ sig) → Buf (Elt F) ℓ} {r : PUnit × MemSt nD τ sig (Elt F)} (h : Done m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨h.arg m c main_arg0 rfl (by decide) (by decide) (by decide), h.arg m c main_arg1 rfl (by decide) (by decide) (by decide),
    h.arg m c main_arg2 rfl (by decide) (by decide) (by decide), h.arg m c main_arg3 rfl (by decide) (by decide) (by decide),
    h.arg m c main_arg4 rfl (by decide) (by decide) (by decide), h.arg m c main_arg5 rfl (by decide) (by decide) (by decide),
    h.arg m c main_arg6 rfl (by decide) (by decide) (by decide), h.arg m c main_arg7 rfl (by decide) (by decide) (by decide),
    h.arg m c main_arg8 rfl (by decide) (by decide) (by decide)⟩

theorem frame_ideal : Cert.quiescent_KernelIdeal := fun m ρ _ =>
  (θ_run Cert.KernelIdeal.defs _ _).mono (fun _ h => ⟨fun c => h.frame c, h.2⟩) (run_main (F := Ideal) m ρ)

set_option maxRecDepth 65536 in
set_option maxHeartbeats 4000000 in
/-- The printed kernel's bodies are the same text, -/
theorem bodies_eq : Cert.Kernel.defs₀ (F := F) = Cert.KernelIdeal.defs₀ (F := F) := by
  funext p ℓ a
  match p, ℓ, a with
  | .tc, 0, (t, s) => rfl
  | .tc, 1, a => rfl
  | .tc, 2, (t, s) => rfl
  | .tc, 3, (t, s) => rfl
  | .scVector c s, 0, _ => rfl
  | .scVector c s, 1, _ => rfl
  | .scVector c s, 2, _ => rfl
  | .scVector c s, 3, _ => rfl
  | .scScalar c, 0, _ => rfl
  | .scScalar c, 1, _ => rfl
  | .scScalar c, 2, _ => rfl
  | .scScalar c, 3, _ => rfl

set_option maxRecDepth 65536 in
set_option maxHeartbeats 4000000 in
/-- and so are its definitions -/
theorem defs_eq : Cert.Kernel.defs (F := F) = Cert.KernelIdeal.defs (F := F) := by
  show Cert.Kernel.sc.defs (Pipeline.defs Cert.Kernel.pcfgs Cert.Kernel.defs₀) = _
  rw [bodies_eq]
  rfl

set_option maxRecDepth 65536 in
set_option maxHeartbeats 4000000 in
/-- and its threads. -/
theorem threads_eq : Cert.Kernel.threads (F := F) = Cert.KernelIdeal.threads (F := F) := rfl

theorem frame_kernel : Cert.quiescent_Kernel := fun m ρ _ => by
  rw [defs_eq, threads_eq]
  exact (θ_run Cert.KernelIdeal.defs _ _).mono (fun _ h => ⟨fun c => h.frame c, h.2⟩) (run_main (F := Bits) m ρ)

theorem frame_reference : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

end Cert.Proof
-- ==== Proof.Algebraic.lean ====
/-
  The value claim: the kernel's seven results are the reference's.
-/
module

public import proofs.«01_k».proof.Proof.Results
public import proofs.«01_k».proof.Proof.Frames

@[expose] public section

noncomputable section

namespace Cert.Proof

open Cert.KernelIdeal Cert.KernelIdeal.Gen
open Idealize.ShloMosaic Idealize.SL.Sem
open Cert.Proof.Reference (keys_eq values_eq positions_eq taken)

theorem algebraic : Cert.algebraic_KernelIdeal_ReferenceIdeal := by
  intro m g m' g' _ hm
  refine ⟨fun c => valEnd m c (ref main_v7_1), fun c => valEnd m c (ref main_v7_2), fun c => valEnd m c (ref main_v10), fun c => valEnd m c (ref main_v9),
    fun c => valEnd m c (ref main_v6_3), fun c => valEnd m c (ref main_c), fun c => valEnd m c (ref main_v6_2), ?_, ?_⟩
  · refine (θ_run Cert.KernelIdeal.defs _ _).mono (fun r h c => ?_) (run_main (F := Ideal) m g)
    exact ⟨h.at m c main_v7_1 rfl, h.at m c main_v7_2 rfl, h.at m c main_v10 rfl, h.at m c main_v9 rfl, h.at m c main_v6_3 rfl, h.at m c main_c rfl,
      h.at m c main_v6_2 rfl, h.frame c⟩
  · refine (θ_run Cert.ReferenceIdeal.defs _ _).mono (fun r h c => ?_) (Cert.ReferenceIdeal.Value.run (F := Ideal) m' g')
    obtain ⟨h0, h1, h2, h3, h4, h5, h6, hargs⟩ := h c
    obtain ⟨e0, e1, e2, e3, e4, e5, e6, e7, -⟩ := hm c
    refine ⟨h0.trans ?_, h1.trans ?_, h2.trans ?_, h3.trans ?_, h4.trans ?_, h5.trans (end_length m c).symm, h6.trans ?_, hargs⟩
    · rw [e0]; exact (end_input m c).symm
    · rw [e1]; exact (end_queries m c).symm
    · rw [keys_eq, taken, e2, e5]; exact (end_keys m c).symm
    · rw [values_eq, taken, e2, e3, e5, e6]; exact (end_values m c).symm
    · rw [e4]; exact (end_mask m c).symm
    · rw [positions_eq, taken, e2, e5, e7]; exact (end_positions m c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
